-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinReferenceIdeal (m : (ℓ : Loc Cert.FinReferenceIdeal.nD Cert.FinReferenceIdeal.τ Cert.FinReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleReferenceIdeal (m : (ℓ : Loc Cert.InSampleReferenceIdeal.nD Cert.InSampleReferenceIdeal.τ Cert.InSampleReferenceIdeal.sig) → Buf (Elt Ideal) ℓ) : Prop :=
  True

def Pre_FinSample (m : (ℓ : Loc Cert.FinSample.nD Cert.FinSample.τ Cert.FinSample.sig) → Buf (Elt Bits) ℓ) : Prop :=
  True

def Pre_FinSampleIdeal (m : (ℓ : Loc Cert.FinSampleIdeal.nD Cert.FinSampleIdeal.τ Cert.FinSampleIdeal.sig) → Buf (Elt Ideal) ℓ) : Prop :=
  True

def Pre_FinSampleReferenceIdeal (m : (ℓ : Loc Cert.FinSampleReferenceIdeal.nD Cert.FinSampleReferenceIdeal.τ Cert.FinSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1)
      ∧ r.2.mem ((c.tc : Thread Cert.FinReferenceIdeal.nD Cert.FinReferenceIdeal.τ).loc Cert.FinReferenceIdeal.main_arg2) = m ((c.tc : Thread Cert.FinReferenceIdeal.nD Cert.FinReferenceIdeal.τ).loc Cert.FinReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2)
      ∧ r.2.mem ((c.tc : Thread Cert.Rows.nD Cert.Rows.τ).loc Cert.Rows.main_arg3) = m ((c.tc : Thread Cert.Rows.nD Cert.Rows.τ).loc Cert.Rows.main_arg3))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1))
      ∧ r.2.sem = fun _ => 0)

def quiescent_InSampleReferenceIdeal [hInSampleReferenceIdeal : Cert.InSampleReferenceIdeal.Facts] : Prop :=
  ∀ (m : (ℓ : Loc Cert.InSampleReferenceIdeal.nD Cert.InSampleReferenceIdeal.τ Cert.InSampleReferenceIdeal.sig) → Buf (Elt Ideal) ℓ) (g : Dev Cert.InSampleReferenceIdeal.nD → PrngReg), Pre_InSampleReferenceIdeal m →
    θ_run (Cert.InSampleReferenceIdeal.defs (F := Ideal)) (onTc (τ := Cert.InSampleReferenceIdeal.τ) (Cert.InSampleReferenceIdeal.main (F := Ideal))) ⟨m, fun _ => 0, g⟩ (fun r => (∀ c : Dev Cert.InSampleReferenceIdeal.nD,
      r.2.mem ((c.tc : Thread Cert.InSampleReferenceIdeal.nD Cert.InSampleReferenceIdeal.τ).loc Cert.InSampleReferenceIdeal.main_arg0) = m ((c.tc : Thread Cert.InSampleReferenceIdeal.nD Cert.InSampleReferenceIdeal.τ).loc Cert.InSampleReferenceIdeal.main_arg0)
      ∧ r.2.mem ((c.tc : Thread Cert.InSampleReferenceIdeal.nD Cert.InSampleReferenceIdeal.τ).loc Cert.InSampleReferenceIdeal.main_arg1) = m ((c.tc : Thread Cert.InSampleReferenceIdeal.nD Cert.InSampleReferenceIdeal.τ).loc Cert.InSampleReferenceIdeal.main_arg1))
      ∧ r.2.sem = fun _ => 0)

def quiescent_FinSample [hFinSample : Cert.FinSample.Facts] : Prop :=
  ∀ (m : (ℓ : Loc Cert.FinSample.nD Cert.FinSample.τ Cert.FinSample.sig) → Buf (Elt Bits) ℓ) (g : Dev Cert.FinSample.nD → PrngReg), Pre_FinSample m →
    θ_run (Cert.FinSample.defs (F := Bits)) (onTc (τ := Cert.FinSample.τ) (Cert.FinSample.main (F := Bits))) ⟨m, fun _ => 0, g⟩ (fun r => (∀ c : Dev Cert.FinSample.nD,
      r.2.mem ((c.tc : Thread Cert.FinSample.nD Cert.FinSample.τ).loc Cert.FinSample.main_arg0) = m ((c.tc : Thread Cert.FinSample.nD Cert.FinSample.τ).loc Cert.FinSample.main_arg0)
      ∧ r.2.mem ((c.tc : Thread Cert.FinSample.nD Cert.FinSample.τ).loc Cert.FinSample.main_arg1) = m ((c.tc : Thread Cert.FinSample.nD Cert.FinSample.τ).loc Cert.FinSample.main_arg1)
      ∧ r.2.mem ((c.tc : Thread Cert.FinSample.nD Cert.FinSample.τ).loc Cert.FinSample.main_arg2) = m ((c.tc : Thread Cert.FinSample.nD Cert.FinSample.τ).loc Cert.FinSample.main_arg2))
      ∧ r.2.sem = fun _ => 0)

def quiescent_FinSampleIdeal [hFinSampleIdeal : Cert.FinSampleIdeal.Facts] : Prop :=
  ∀ (m : (ℓ : Loc Cert.FinSampleIdeal.nD Cert.FinSampleIdeal.τ Cert.FinSampleIdeal.sig) → Buf (Elt Ideal) ℓ) (g : Dev Cert.FinSampleIdeal.nD → PrngReg), Pre_FinSampleIdeal m →
    θ_run (Cert.FinSampleIdeal.defs (F := Ideal)) (onTc (τ := Cert.FinSampleIdeal.τ) (Cert.FinSampleIdeal.main (F := Ideal))) ⟨m, fun _ => 0, g⟩ (fun r => (∀ c : Dev Cert.FinSampleIdeal.nD,
      r.2.mem ((c.tc : Thread Cert.FinSampleIdeal.nD Cert.FinSampleIdeal.τ).loc Cert.FinSampleIdeal.main_arg0) = m ((c.tc : Thread Cert.FinSampleIdeal.nD Cert.FinSampleIdeal.τ).loc Cert.FinSampleIdeal.main_arg0)
      ∧ r.2.mem ((c.tc : Thread Cert.FinSampleIdeal.nD Cert.FinSampleIdeal.τ).loc Cert.FinSampleIdeal.main_arg1) = m ((c.tc : Thread Cert.FinSampleIdeal.nD Cert.FinSampleIdeal.τ).loc Cert.FinSampleIdeal.main_arg1)
      ∧ r.2.mem ((c.tc : Thread Cert.FinSampleIdeal.nD Cert.FinSampleIdeal.τ).loc Cert.FinSampleIdeal.main_arg2) = m ((c.tc : Thread Cert.FinSampleIdeal.nD Cert.FinSampleIdeal.τ).loc Cert.FinSampleIdeal.main_arg2))
      ∧ r.2.sem = fun _ => 0)

def quiescent_FinSampleReferenceIdeal [hFinSampleReferenceIdeal : Cert.FinSampleReferenceIdeal.Facts] : Prop :=
  ∀ (m : (ℓ : Loc Cert.FinSampleReferenceIdeal.nD Cert.FinSampleReferenceIdeal.τ Cert.FinSampleReferenceIdeal.sig) → Buf (Elt Ideal) ℓ) (g : Dev Cert.FinSampleReferenceIdeal.nD → PrngReg), Pre_FinSampleReferenceIdeal m →
    θ_run (Cert.FinSampleReferenceIdeal.defs (F := Ideal)) (onTc (τ := Cert.FinSampleReferenceIdeal.τ) (Cert.FinSampleReferenceIdeal.main (F := Ideal))) ⟨m, fun _ => 0, g⟩ (fun r => (∀ c : Dev Cert.FinSampleReferenceIdeal.nD,
      r.2.mem ((c.tc : Thread Cert.FinSampleReferenceIdeal.nD Cert.FinSampleReferenceIdeal.τ).loc Cert.FinSampleReferenceIdeal.main_arg0) = m ((c.tc : Thread Cert.FinSampleReferenceIdeal.nD Cert.FinSampleReferenceIdeal.τ).loc Cert.FinSampleReferenceIdeal.main_arg0)
      ∧ r.2.mem ((c.tc : Thread Cert.FinSampleReferenceIdeal.nD Cert.FinSampleReferenceIdeal.τ).loc Cert.FinSampleReferenceIdeal.main_arg1) = m ((c.tc : Thread Cert.FinSampleReferenceIdeal.nD Cert.FinSampleReferenceIdeal.τ).loc Cert.FinSampleReferenceIdeal.main_arg1)
      ∧ r.2.mem ((c.tc : Thread Cert.FinSampleReferenceIdeal.nD Cert.FinSampleReferenceIdeal.τ).loc Cert.FinSampleReferenceIdeal.main_arg2) = m ((c.tc : Thread Cert.FinSampleReferenceIdeal.nD Cert.FinSampleReferenceIdeal.τ).loc Cert.FinSampleReferenceIdeal.main_arg2))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v1) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v15)) (v1 : (c : Dev Cert.InIdeal.nD) → Buf (Elt Ideal) ((c.tc : Thread Cert.InIdeal.nD Cert.InIdeal.τ).loc Cert.InIdeal.main_v17)) (v2 : (c : Dev Cert.InIdeal.nD) → Buf (Elt Ideal) ((c.tc : Thread Cert.InIdeal.nD Cert.InIdeal.τ).loc Cert.InIdeal.main_v18)) (v3 : (c : Dev Cert.InIdeal.nD) → Buf (Elt Ideal) ((c.tc : Thread Cert.InIdeal.nD Cert.InIdeal.τ).loc Cert.InIdeal.main_v19)) (v4 : (c : Dev Cert.InIdeal.nD) → Buf (Elt Ideal) ((c.tc : Thread Cert.InIdeal.nD Cert.InIdeal.τ).loc Cert.InIdeal.main_v20)) (v5 : (c : Dev Cert.InIdeal.nD) → Buf (Elt Ideal) ((c.tc : Thread Cert.InIdeal.nD Cert.InIdeal.τ).loc Cert.InIdeal.main_v21)) (v6 : (c : Dev Cert.InIdeal.nD) → Buf (Elt Ideal) ((c.tc : Thread Cert.InIdeal.nD Cert.InIdeal.τ).loc Cert.InIdeal.main_v22)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v15) = v0 c
          ∧ r.2.mem ((c.tc : Thread Cert.InIdeal.nD Cert.InIdeal.τ).loc Cert.InIdeal.main_v17) = v1 c
          ∧ r.2.mem ((c.tc : Thread Cert.InIdeal.nD Cert.InIdeal.τ).loc Cert.InIdeal.main_v18) = v2 c
          ∧ r.2.mem ((c.tc : Thread Cert.InIdeal.nD Cert.InIdeal.τ).loc Cert.InIdeal.main_v19) = v3 c
          ∧ r.2.mem ((c.tc : Thread Cert.InIdeal.nD Cert.InIdeal.τ).loc Cert.InIdeal.main_v20) = v4 c
          ∧ r.2.mem ((c.tc : Thread Cert.InIdeal.nD Cert.InIdeal.τ).loc Cert.InIdeal.main_v21) = v5 c
          ∧ r.2.mem ((c.tc : Thread Cert.InIdeal.nD Cert.InIdeal.τ).loc Cert.InIdeal.main_v22) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v10) = v0 c
          ∧ r.2.mem ((c.tc : Thread Cert.InReferenceIdeal.nD Cert.InReferenceIdeal.τ).loc Cert.InReferenceIdeal.main_v11) = v1 c
          ∧ r.2.mem ((c.tc : Thread Cert.InReferenceIdeal.nD Cert.InReferenceIdeal.τ).loc Cert.InReferenceIdeal.main_v3) = v2 c
          ∧ r.2.mem ((c.tc : Thread Cert.InReferenceIdeal.nD Cert.InReferenceIdeal.τ).loc Cert.InReferenceIdeal.main_v7) = v3 c
          ∧ r.2.mem ((c.tc : Thread Cert.InReferenceIdeal.nD Cert.InReferenceIdeal.τ).loc Cert.InReferenceIdeal.main_v8) = v4 c
          ∧ r.2.mem ((c.tc : Thread Cert.InReferenceIdeal.nD Cert.InReferenceIdeal.τ).loc Cert.InReferenceIdeal.main_v9) = v5 c
          ∧ r.2.mem ((c.tc : Thread Cert.InReferenceIdeal.nD Cert.InReferenceIdeal.τ).loc Cert.InReferenceIdeal.main_v6) = v6 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Fin_FinIdeal : Prop :=
  True

def algebraic_FinIdeal_FinReferenceIdeal [hFinIdeal : Cert.FinIdeal.Facts] [hFinReferenceIdeal : Cert.FinReferenceIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinReferenceIdeal.nD Cert.FinReferenceIdeal.τ Cert.FinReferenceIdeal.sig) → Buf (Elt Ideal) ℓ) (g' : Dev Cert.FinReferenceIdeal.nD → PrngReg), Pre_FinIdeal m →
    (∀ c : Dev Cert.FinIdeal.nD,
      m' ((c.tc : Thread Cert.FinReferenceIdeal.nD Cert.FinReferenceIdeal.τ).loc Cert.FinReferenceIdeal.main_arg0) = m ((c.tc : Thread Cert.FinIdeal.nD Cert.FinIdeal.τ).loc Cert.FinIdeal.main_arg0)
      ∧ m' ((c.tc : Thread Cert.FinReferenceIdeal.nD Cert.FinReferenceIdeal.τ).loc Cert.FinReferenceIdeal.main_arg1) = m ((c.tc : Thread Cert.FinIdeal.nD Cert.FinIdeal.τ).loc Cert.FinIdeal.main_arg1)
      ∧ m' ((c.tc : Thread Cert.FinReferenceIdeal.nD Cert.FinReferenceIdeal.τ).loc Cert.FinReferenceIdeal.main_arg2) = m ((c.tc : Thread Cert.FinIdeal.nD Cert.FinIdeal.τ).loc Cert.FinIdeal.main_arg2)) →
    ∃ (v0 : (c : Dev Cert.FinIdeal.nD) → Buf (Elt Ideal) ((c.tc : Thread Cert.FinIdeal.nD Cert.FinIdeal.τ).loc Cert.FinIdeal.main_v4)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v4) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ θ_run (Cert.FinReferenceIdeal.defs (F := Ideal)) (onTc (τ := Cert.FinReferenceIdeal.τ) (Cert.FinReferenceIdeal.main (F := Ideal))) ⟨m', fun _ => 0, g'⟩ (fun r => ∀ c : Dev Cert.FinReferenceIdeal.nD,
          r.2.mem ((c.tc : Thread Cert.FinReferenceIdeal.nD Cert.FinReferenceIdeal.τ).loc Cert.FinReferenceIdeal.main_v14) = v0 c
          ∧ r.2.mem ((c.tc : Thread Cert.FinReferenceIdeal.nD Cert.FinReferenceIdeal.τ).loc Cert.FinReferenceIdeal.main_arg0) = m' ((c.tc : Thread Cert.FinReferenceIdeal.nD Cert.FinReferenceIdeal.τ).loc Cert.FinReferenceIdeal.main_arg0)
          ∧ r.2.mem ((c.tc : Thread Cert.FinReferenceIdeal.nD Cert.FinReferenceIdeal.τ).loc Cert.FinReferenceIdeal.main_arg1) = m' ((c.tc : Thread Cert.FinReferenceIdeal.nD Cert.FinReferenceIdeal.τ).loc Cert.FinReferenceIdeal.main_arg1)
          ∧ r.2.mem ((c.tc : Thread Cert.FinReferenceIdeal.nD Cert.FinReferenceIdeal.τ).loc Cert.FinReferenceIdeal.main_arg2) = m' ((c.tc : Thread Cert.FinReferenceIdeal.nD Cert.FinReferenceIdeal.τ).loc Cert.FinReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v6)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v6) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v16) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)
      ∧ m' ((c.tc : Thread Cert.RowsReferenceIdeal.nD Cert.RowsReferenceIdeal.τ).loc Cert.RowsReferenceIdeal.main_arg3) = m ((c.tc : Thread Cert.RowsIdeal.nD Cert.RowsIdeal.τ).loc Cert.RowsIdeal.main_arg3)) →
    ∃ (v0 : (c : Dev Cert.RowsIdeal.nD) → Buf (Elt Ideal) ((c.tc : Thread Cert.RowsIdeal.nD Cert.RowsIdeal.τ).loc Cert.RowsIdeal.main_v31)) (v1 : (c : Dev Cert.RowsIdeal.nD) → Buf (Elt Ideal) ((c.tc : Thread Cert.RowsIdeal.nD Cert.RowsIdeal.τ).loc Cert.RowsIdeal.main_v32)) (v2 : (c : Dev Cert.RowsIdeal.nD) → Buf (Elt Ideal) ((c.tc : Thread Cert.RowsIdeal.nD Cert.RowsIdeal.τ).loc Cert.RowsIdeal.main_v34)) (v3 : (c : Dev Cert.RowsIdeal.nD) → Buf (Elt Ideal) ((c.tc : Thread Cert.RowsIdeal.nD Cert.RowsIdeal.τ).loc Cert.RowsIdeal.main_v29_0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v31) = v0 c
          ∧ r.2.mem ((c.tc : Thread Cert.RowsIdeal.nD Cert.RowsIdeal.τ).loc Cert.RowsIdeal.main_v32) = v1 c
          ∧ r.2.mem ((c.tc : Thread Cert.RowsIdeal.nD Cert.RowsIdeal.τ).loc Cert.RowsIdeal.main_v34) = v2 c
          ∧ r.2.mem ((c.tc : Thread Cert.RowsIdeal.nD Cert.RowsIdeal.τ).loc Cert.RowsIdeal.main_v29_0) = v3 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v65) = v0 c
          ∧ r.2.mem ((c.tc : Thread Cert.RowsReferenceIdeal.nD Cert.RowsReferenceIdeal.τ).loc Cert.RowsReferenceIdeal.main_v66) = v1 c
          ∧ r.2.mem ((c.tc : Thread Cert.RowsReferenceIdeal.nD Cert.RowsReferenceIdeal.τ).loc Cert.RowsReferenceIdeal.main_v67) = v2 c
          ∧ r.2.mem ((c.tc : Thread Cert.RowsReferenceIdeal.nD Cert.RowsReferenceIdeal.τ).loc Cert.RowsReferenceIdeal.main_v31) = v3 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3))

def preserves_InSample_InSampleIdeal : Prop :=
  True

def algebraic_InSampleIdeal_InSampleReferenceIdeal [hInSampleIdeal : Cert.InSampleIdeal.Facts] [hInSampleReferenceIdeal : Cert.InSampleReferenceIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleReferenceIdeal.nD Cert.InSampleReferenceIdeal.τ Cert.InSampleReferenceIdeal.sig) → Buf (Elt Ideal) ℓ) (g' : Dev Cert.InSampleReferenceIdeal.nD → PrngReg), Pre_InSampleIdeal m →
    (∀ c : Dev Cert.InSampleIdeal.nD,
      m' ((c.tc : Thread Cert.InSampleReferenceIdeal.nD Cert.InSampleReferenceIdeal.τ).loc Cert.InSampleReferenceIdeal.main_arg0) = m ((c.tc : Thread Cert.InSampleIdeal.nD Cert.InSampleIdeal.τ).loc Cert.InSampleIdeal.main_arg0)
      ∧ m' ((c.tc : Thread Cert.InSampleReferenceIdeal.nD Cert.InSampleReferenceIdeal.τ).loc Cert.InSampleReferenceIdeal.main_arg1) = m ((c.tc : Thread Cert.InSampleIdeal.nD Cert.InSampleIdeal.τ).loc Cert.InSampleIdeal.main_arg1)) →
    ∃ (v0 : (c : Dev Cert.InSampleIdeal.nD) → Buf (Elt Ideal) ((c.tc : Thread Cert.InSampleIdeal.nD Cert.InSampleIdeal.τ).loc Cert.InSampleIdeal.main_v15)) (v1 : (c : Dev Cert.InSampleIdeal.nD) → Buf (Elt Ideal) ((c.tc : Thread Cert.InSampleIdeal.nD Cert.InSampleIdeal.τ).loc Cert.InSampleIdeal.main_v17)) (v2 : (c : Dev Cert.InSampleIdeal.nD) → Buf (Elt Ideal) ((c.tc : Thread Cert.InSampleIdeal.nD Cert.InSampleIdeal.τ).loc Cert.InSampleIdeal.main_v18)) (v3 : (c : Dev Cert.InSampleIdeal.nD) → Buf (Elt Ideal) ((c.tc : Thread Cert.InSampleIdeal.nD Cert.InSampleIdeal.τ).loc Cert.InSampleIdeal.main_v19)) (v4 : (c : Dev Cert.InSampleIdeal.nD) → Buf (Elt Ideal) ((c.tc : Thread Cert.InSampleIdeal.nD Cert.InSampleIdeal.τ).loc Cert.InSampleIdeal.main_v20)) (v5 : (c : Dev Cert.InSampleIdeal.nD) → Buf (Elt Ideal) ((c.tc : Thread Cert.InSampleIdeal.nD Cert.InSampleIdeal.τ).loc Cert.InSampleIdeal.main_v21)) (v6 : (c : Dev Cert.InSampleIdeal.nD) → Buf (Elt Ideal) ((c.tc : Thread Cert.InSampleIdeal.nD Cert.InSampleIdeal.τ).loc Cert.InSampleIdeal.main_v22)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v15) = v0 c
          ∧ r.2.mem ((c.tc : Thread Cert.InSampleIdeal.nD Cert.InSampleIdeal.τ).loc Cert.InSampleIdeal.main_v17) = v1 c
          ∧ r.2.mem ((c.tc : Thread Cert.InSampleIdeal.nD Cert.InSampleIdeal.τ).loc Cert.InSampleIdeal.main_v18) = v2 c
          ∧ r.2.mem ((c.tc : Thread Cert.InSampleIdeal.nD Cert.InSampleIdeal.τ).loc Cert.InSampleIdeal.main_v19) = v3 c
          ∧ r.2.mem ((c.tc : Thread Cert.InSampleIdeal.nD Cert.InSampleIdeal.τ).loc Cert.InSampleIdeal.main_v20) = v4 c
          ∧ r.2.mem ((c.tc : Thread Cert.InSampleIdeal.nD Cert.InSampleIdeal.τ).loc Cert.InSampleIdeal.main_v21) = v5 c
          ∧ r.2.mem ((c.tc : Thread Cert.InSampleIdeal.nD Cert.InSampleIdeal.τ).loc Cert.InSampleIdeal.main_v22) = v6 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1))
      ∧ θ_run (Cert.InSampleReferenceIdeal.defs (F := Ideal)) (onTc (τ := Cert.InSampleReferenceIdeal.τ) (Cert.InSampleReferenceIdeal.main (F := Ideal))) ⟨m', fun _ => 0, g'⟩ (fun r => ∀ c : Dev Cert.InSampleReferenceIdeal.nD,
          r.2.mem ((c.tc : Thread Cert.InSampleReferenceIdeal.nD Cert.InSampleReferenceIdeal.τ).loc Cert.InSampleReferenceIdeal.main_v10) = v0 c
          ∧ r.2.mem ((c.tc : Thread Cert.InSampleReferenceIdeal.nD Cert.InSampleReferenceIdeal.τ).loc Cert.InSampleReferenceIdeal.main_v11) = v1 c
          ∧ r.2.mem ((c.tc : Thread Cert.InSampleReferenceIdeal.nD Cert.InSampleReferenceIdeal.τ).loc Cert.InSampleReferenceIdeal.main_v3) = v2 c
          ∧ r.2.mem ((c.tc : Thread Cert.InSampleReferenceIdeal.nD Cert.InSampleReferenceIdeal.τ).loc Cert.InSampleReferenceIdeal.main_v7) = v3 c
          ∧ r.2.mem ((c.tc : Thread Cert.InSampleReferenceIdeal.nD Cert.InSampleReferenceIdeal.τ).loc Cert.InSampleReferenceIdeal.main_v8) = v4 c
          ∧ r.2.mem ((c.tc : Thread Cert.InSampleReferenceIdeal.nD Cert.InSampleReferenceIdeal.τ).loc Cert.InSampleReferenceIdeal.main_v9) = v5 c
          ∧ r.2.mem ((c.tc : Thread Cert.InSampleReferenceIdeal.nD Cert.InSampleReferenceIdeal.τ).loc Cert.InSampleReferenceIdeal.main_v6) = v6 c
          ∧ r.2.mem ((c.tc : Thread Cert.InSampleReferenceIdeal.nD Cert.InSampleReferenceIdeal.τ).loc Cert.InSampleReferenceIdeal.main_arg0) = m' ((c.tc : Thread Cert.InSampleReferenceIdeal.nD Cert.InSampleReferenceIdeal.τ).loc Cert.InSampleReferenceIdeal.main_arg0)
          ∧ r.2.mem ((c.tc : Thread Cert.InSampleReferenceIdeal.nD Cert.InSampleReferenceIdeal.τ).loc Cert.InSampleReferenceIdeal.main_arg1) = m' ((c.tc : Thread Cert.InSampleReferenceIdeal.nD Cert.InSampleReferenceIdeal.τ).loc Cert.InSampleReferenceIdeal.main_arg1))

def preserves_FinSample_FinSampleIdeal : Prop :=
  True

def algebraic_FinSampleIdeal_FinSampleReferenceIdeal [hFinSampleIdeal : Cert.FinSampleIdeal.Facts] [hFinSampleReferenceIdeal : Cert.FinSampleReferenceIdeal.Facts] : Prop :=
  ∀ (m : (ℓ : Loc Cert.FinSampleIdeal.nD Cert.FinSampleIdeal.τ Cert.FinSampleIdeal.sig) → Buf (Elt Ideal) ℓ) (g : Dev Cert.FinSampleIdeal.nD → PrngReg)
    (m' : (ℓ : Loc Cert.FinSampleReferenceIdeal.nD Cert.FinSampleReferenceIdeal.τ Cert.FinSampleReferenceIdeal.sig) → Buf (Elt Ideal) ℓ) (g' : Dev Cert.FinSampleReferenceIdeal.nD → PrngReg), Pre_FinSampleIdeal m →
    (∀ c : Dev Cert.FinSampleIdeal.nD,
      m' ((c.tc : Thread Cert.FinSampleReferenceIdeal.nD Cert.FinSampleReferenceIdeal.τ).loc Cert.FinSampleReferenceIdeal.main_arg0) = m ((c.tc : Thread Cert.FinSampleIdeal.nD Cert.FinSampleIdeal.τ).loc Cert.FinSampleIdeal.main_arg0)
      ∧ m' ((c.tc : Thread Cert.FinSampleReferenceIdeal.nD Cert.FinSampleReferenceIdeal.τ).loc Cert.FinSampleReferenceIdeal.main_arg1) = m ((c.tc : Thread Cert.FinSampleIdeal.nD Cert.FinSampleIdeal.τ).loc Cert.FinSampleIdeal.main_arg1)
      ∧ m' ((c.tc : Thread Cert.FinSampleReferenceIdeal.nD Cert.FinSampleReferenceIdeal.τ).loc Cert.FinSampleReferenceIdeal.main_arg2) = m ((c.tc : Thread Cert.FinSampleIdeal.nD Cert.FinSampleIdeal.τ).loc Cert.FinSampleIdeal.main_arg2)) →
    ∃ (v0 : (c : Dev Cert.FinSampleIdeal.nD) → Buf (Elt Ideal) ((c.tc : Thread Cert.FinSampleIdeal.nD Cert.FinSampleIdeal.τ).loc Cert.FinSampleIdeal.main_v3)),
      θ_run (Cert.FinSampleIdeal.defs (F := Ideal)) (onTc (τ := Cert.FinSampleIdeal.τ) (Cert.FinSampleIdeal.main (F := Ideal))) ⟨m, fun _ => 0, g⟩ (fun r => ∀ c : Dev Cert.FinSampleIdeal.nD,
          r.2.mem ((c.tc : Thread Cert.FinSampleIdeal.nD Cert.FinSampleIdeal.τ).loc Cert.FinSampleIdeal.main_v3) = v0 c
          ∧ r.2.mem ((c.tc : Thread Cert.FinSampleIdeal.nD Cert.FinSampleIdeal.τ).loc Cert.FinSampleIdeal.main_arg0) = m ((c.tc : Thread Cert.FinSampleIdeal.nD Cert.FinSampleIdeal.τ).loc Cert.FinSampleIdeal.main_arg0)
          ∧ r.2.mem ((c.tc : Thread Cert.FinSampleIdeal.nD Cert.FinSampleIdeal.τ).loc Cert.FinSampleIdeal.main_arg1) = m ((c.tc : Thread Cert.FinSampleIdeal.nD Cert.FinSampleIdeal.τ).loc Cert.FinSampleIdeal.main_arg1)
          ∧ r.2.mem ((c.tc : Thread Cert.FinSampleIdeal.nD Cert.FinSampleIdeal.τ).loc Cert.FinSampleIdeal.main_arg2) = m ((c.tc : Thread Cert.FinSampleIdeal.nD Cert.FinSampleIdeal.τ).loc Cert.FinSampleIdeal.main_arg2))
      ∧ θ_run (Cert.FinSampleReferenceIdeal.defs (F := Ideal)) (onTc (τ := Cert.FinSampleReferenceIdeal.τ) (Cert.FinSampleReferenceIdeal.main (F := Ideal))) ⟨m', fun _ => 0, g'⟩ (fun r => ∀ c : Dev Cert.FinSampleReferenceIdeal.nD,
          r.2.mem ((c.tc : Thread Cert.FinSampleReferenceIdeal.nD Cert.FinSampleReferenceIdeal.τ).loc Cert.FinSampleReferenceIdeal.main_v13) = v0 c
          ∧ r.2.mem ((c.tc : Thread Cert.FinSampleReferenceIdeal.nD Cert.FinSampleReferenceIdeal.τ).loc Cert.FinSampleReferenceIdeal.main_arg0) = m' ((c.tc : Thread Cert.FinSampleReferenceIdeal.nD Cert.FinSampleReferenceIdeal.τ).loc Cert.FinSampleReferenceIdeal.main_arg0)
          ∧ r.2.mem ((c.tc : Thread Cert.FinSampleReferenceIdeal.nD Cert.FinSampleReferenceIdeal.τ).loc Cert.FinSampleReferenceIdeal.main_arg1) = m' ((c.tc : Thread Cert.FinSampleReferenceIdeal.nD Cert.FinSampleReferenceIdeal.τ).loc Cert.FinSampleReferenceIdeal.main_arg1)
          ∧ r.2.mem ((c.tc : Thread Cert.FinSampleReferenceIdeal.nD Cert.FinSampleReferenceIdeal.τ).loc Cert.FinSampleReferenceIdeal.main_arg2) = m' ((c.tc : Thread Cert.FinSampleReferenceIdeal.nD Cert.FinSampleReferenceIdeal.τ).loc Cert.FinSampleReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hMixOut : Cert.MixOut.Facts) (hMixOutIdeal : Cert.MixOutIdeal.Facts) (hMixOutReferenceIdeal : Cert.MixOutReferenceIdeal.Facts) (hIn : Cert.In.Facts) (hInIdeal : Cert.InIdeal.Facts) (hInReferenceIdeal : Cert.InReferenceIdeal.Facts) (hFin : Cert.Fin.Facts) (hFinIdeal : Cert.FinIdeal.Facts) (hFinReferenceIdeal : Cert.FinReferenceIdeal.Facts) (hNorm : Cert.Norm.Facts) (hNormIdeal : Cert.NormIdeal.Facts) (hNormReferenceIdeal : Cert.NormReferenceIdeal.Facts) (hRows : Cert.Rows.Facts) (hRowsIdeal : Cert.RowsIdeal.Facts) (hRowsReferenceIdeal : Cert.RowsReferenceIdeal.Facts) (hInSample : Cert.InSample.Facts) (hInSampleIdeal : Cert.InSampleIdeal.Facts) (hInSampleReferenceIdeal : Cert.InSampleReferenceIdeal.Facts) (hFinSample : Cert.FinSample.Facts) (hFinSampleIdeal : Cert.FinSampleIdeal.Facts) (hFinSampleReferenceIdeal : Cert.FinSampleReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_In (hIn := hIn)
    ∧ quiescent_InIdeal (hInIdeal := hInIdeal)
    ∧ quiescent_InReferenceIdeal (hInReferenceIdeal := hInReferenceIdeal)
    ∧ quiescent_Fin (hFin := hFin)
    ∧ quiescent_FinIdeal (hFinIdeal := hFinIdeal)
    ∧ quiescent_FinReferenceIdeal (hFinReferenceIdeal := hFinReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_InSample (hInSample := hInSample)
    ∧ quiescent_InSampleIdeal (hInSampleIdeal := hInSampleIdeal)
    ∧ quiescent_InSampleReferenceIdeal (hInSampleReferenceIdeal := hInSampleReferenceIdeal)
    ∧ quiescent_FinSample (hFinSample := hFinSample)
    ∧ quiescent_FinSampleIdeal (hFinSampleIdeal := hFinSampleIdeal)
    ∧ quiescent_FinSampleReferenceIdeal (hFinSampleReferenceIdeal := hFinSampleReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_MixOut_MixOutIdeal
    ∧ algebraic_MixOutIdeal_MixOutReferenceIdeal (hMixOutIdeal := hMixOutIdeal) (hMixOutReferenceIdeal := hMixOutReferenceIdeal)
    ∧ preserves_In_InIdeal
    ∧ algebraic_InIdeal_InReferenceIdeal (hInIdeal := hInIdeal) (hInReferenceIdeal := hInReferenceIdeal)
    ∧ preserves_Fin_FinIdeal
    ∧ algebraic_FinIdeal_FinReferenceIdeal (hFinIdeal := hFinIdeal) (hFinReferenceIdeal := hFinReferenceIdeal)
    ∧ preserves_Norm_NormIdeal
    ∧ algebraic_NormIdeal_NormReferenceIdeal (hNormIdeal := hNormIdeal) (hNormReferenceIdeal := hNormReferenceIdeal)
    ∧ preserves_Rows_RowsIdeal
    ∧ algebraic_RowsIdeal_RowsReferenceIdeal (hRowsIdeal := hRowsIdeal) (hRowsReferenceIdeal := hRowsReferenceIdeal)
    ∧ preserves_InSample_InSampleIdeal
    ∧ algebraic_InSampleIdeal_InSampleReferenceIdeal (hInSampleIdeal := hInSampleIdeal) (hInSampleReferenceIdeal := hInSampleReferenceIdeal)
    ∧ preserves_FinSample_FinSampleIdeal
    ∧ algebraic_FinSampleIdeal_FinSampleReferenceIdeal (hFinSampleIdeal := hFinSampleIdeal) (hFinSampleReferenceIdeal := hFinSampleReferenceIdeal)
-- ==== Pre_scores_finite.lean ====
abbrev S8256x4096 : Shape := ⟨2, ![8256, 4096]⟩
abbrev S8256x512 : Shape := ⟨2, ![8256, 512]⟩
abbrev S8256x4608 : Shape := ⟨2, ![8256, 4608]⟩
abbrev S_ : Shape := ⟨0, ![]⟩

class Facts : Prop where
  bcast_S_S8256x4096 : S_.BroadcastsInDim S8256x4096 (![] : Fin 0 → Fin S8256x4096.rank)
  reducesTo_S8256x4096_S_d0_1 : S8256x4096.ReducesTo [0, 1] S_
  h_S_ : 0 < S_.numel
  bcast_S_S8256x512 : S_.BroadcastsInDim S8256x512 (![] : Fin 0 → Fin S8256x512.rank)
  reducesTo_S8256x512_S_d0_1 : S8256x512.ReducesTo [0, 1] S_

variable [Facts]

def fn {F : FTy → Type} [FloatOps F] (main_arg0 : FVec F S8256x4096 .bf16) (main_arg1 : FVec F S8256x512 .bf16) (main_arg2 : FVec F S8256x4608 .f32) : IVec S_ 1 :=
  let main_v0 : FVec F S8256x4096 .bf16 := Host.absf main_arg0
  let main_cst : FVec F S_ .bf16 := constant S_ .bf16 0x7F80#16
  let main_v1 : FVec F S8256x4096 .bf16 := broadcastInDim S8256x4096 ![] bcast_S_S8256x4096 main_cst
  let main_v2 : IVec S8256x4096 1 := cmpf .olt main_v0 main_v1
  let main_c : IVec S_ 1 := constantI S_ 1 1#1
  let main_v3 : IVec S_ 1 := (fun x v => Host.reduce IntOp.andi x v reducesTo_S8256x4096_S_d0_1 h_S_) main_v2 main_c
  let main_v4 : FVec F S8256x512 .bf16 := Host.absf main_arg1
  let main_cst_0 : FVec F S_ .bf16 := constant S_ .bf16 0x7F80#16
  let main_v5 : FVec F S8256x512 .bf16 := broadcastInDim S8256x512 ![] bcast_S_S8256x512 main_cst_0
  let main_v6 : IVec S8256x512 1 := cmpf .olt main_v4 main_v5
  let main_c_1 : IVec S_ 1 := constantI S_ 1 1#1
  let main_v7 : IVec S_ 1 := (fun x v => Host.reduce IntOp.andi x v reducesTo_S8256x512_S_d0_1 h_S_) main_v6 main_c_1
  let main_v8 : IVec S_ 1 := andi main_v3 main_v7
  main_v8
-- ==== Kernel.lean ====
abbrev S8256x4096 : Shape := ⟨2, ![8256, 4096]⟩
abbrev S8256x512 : Shape := ⟨2, ![8256, 512]⟩
abbrev S8256x4608 : Shape := ⟨2, ![8256, 4608]⟩
abbrev S8256x2048 : Shape := ⟨2, ![8256, 2048]⟩
abbrev S2064x2048 : Shape := ⟨2, ![2064, 2048]⟩
abbrev S2064x256 : Shape := ⟨2, ![2064, 256]⟩
abbrev S2064x128 : Shape := ⟨2, ![2064, 128]⟩
abbrev S2064x1024 : Shape := ⟨2, ![2064, 1024]⟩
abbrev S1x2304x256 : Shape := ⟨3, ![1, 2304, 256]⟩
abbrev S1x2304x128 : Shape := ⟨3, ![1, 2304, 128]⟩
abbrev S2176x256 : Shape := ⟨2, ![2176, 256]⟩
abbrev S2176x128 : Shape := ⟨2, ![2176, 128]⟩
abbrev S240x256 : Shape := ⟨2, ![240, 256]⟩
abbrev S1x240x256 : Shape := ⟨3, ![1, 240, 256]⟩
abbrev S1x2064x256 : Shape := ⟨3, ![1, 2064, 256]⟩
abbrev S240x128 : Shape := ⟨2, ![240, 128]⟩
abbrev S1x240x128 : Shape := ⟨3, ![1, 240, 128]⟩
abbrev S1x2064x128 : Shape := ⟨3, ![1, 2064, 128]⟩
abbrev S256x256 : Shape := ⟨2, ![256, 256]⟩
abbrev S2048x128 : Shape := ⟨2, ![2048, 128]⟩
abbrev S1x256x256 : Shape := ⟨3, ![1, 256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S272x256 : Shape := ⟨2, ![272, 256]⟩
abbrev S272x128 : Shape := ⟨2, ![272, 128]⟩
abbrev S272 : Shape := ⟨1, ![272]⟩
abbrev S272x1 : Shape := ⟨2, ![272, 1]⟩

abbrev nBuf : Space → Nat
  | .hbm => 4
  | .vmem => 14
  | .smem => 0
  | _ => 0

abbrev bufTy : (tb : Table) → Fin (tcTables nBuf tb) → BufTy
  | .hbm, ⟨0, _⟩ => ⟨S8256x4096, .bf16⟩
  | .hbm, ⟨1, _⟩ => ⟨S8256x512, .bf16⟩
  | .hbm, ⟨2, _⟩ => ⟨S8256x4608, .f32⟩
  | .hbm, ⟨3, _⟩ => ⟨S8256x2048, .f32⟩
  | .local _ .vmem, ⟨0, _⟩ => ⟨S2064x2048, .bf16⟩
  | .local _ .vmem, ⟨1, _⟩ => ⟨S2064x2048, .bf16⟩
  | .local _ .vmem, ⟨2, _⟩ => ⟨S2064x256, .bf16⟩
  | .local _ .vmem, ⟨3, _⟩ => ⟨S2064x256, .bf16⟩
  | .local _ .vmem, ⟨4, _⟩ => ⟨S2064x128, .f32⟩
  | .local _ .vmem, ⟨5, _⟩ => ⟨S2064x128, .f32⟩
  | .local _ .vmem, ⟨6, _⟩ => ⟨S2064x1024, .f32⟩
  | .local _ .vmem, ⟨7, _⟩ => ⟨S2064x1024, .f32⟩
  | .local _ .vmem, ⟨8, _⟩ => ⟨S1x2304x256, .bf16⟩
  | .local _ .vmem, ⟨9, _⟩ => ⟨S1x2304x128, .bf16⟩
  | .local _ .vmem, ⟨10, _⟩ => ⟨S2176x256, .bf16⟩
  | .local _ .vmem, ⟨11, _⟩ => ⟨S2176x128, .f32⟩
  | .local _ .vmem, ⟨12, _⟩ => ⟨S2176x128, .f32⟩
  | .local _ .vmem, ⟨13, _⟩ => ⟨S2176x128, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c7_i32 : BitVec 32 := 7#32
  let v17 : BitVec 32 := Scalar.addi c0_i32 c7_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  v913
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v915 : Index := Scalar.indexCast v914
  let c0_475 : Index := 0#32
  ![v915.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v920 : Index := Scalar.indexCast v914
  let c256_478 : Index := 256#32
  ![v920.toNat, 256]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v925 : Index := Scalar.indexCast v914
  let c512_481 : Index := 512#32
  ![v925.toNat, 512]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v930 : Index := Scalar.indexCast v914
  let c768_484 : Index := 768#32
  ![v930.toNat, 768]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v935 : Index := Scalar.indexCast v914
  let c1024_487 : Index := 1024#32
  ![v935.toNat, 1024]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v940 : Index := Scalar.indexCast v914
  let c1280_490 : Index := 1280#32
  ![v940.toNat, 1280]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v945 : Index := Scalar.indexCast v914
  let c1536_493 : Index := 1536#32
  ![v945.toNat, 1536]
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v950 : Index := Scalar.indexCast v914
  let c1792_496 : Index := 1792#32
  ![v950.toNat, 1792]
@[reducible] def k0_t2_loop (k0_t1 : Fin k0_t1_loop.trips) : Scf.Loop 32 :=
  let c0_i32_509 : BitVec 32 := 0#32
  let c0_i32 : BitVec 32 := 0#32
  let c1_i32 : BitVec 32 := 1#32
  let arg12 : BitVec 32 := Scf.iv c0_i32 c1_i32 k0_t1
  let v967 : BitVec 32 := Scalar.subi arg12 c0_i32_509
  let c1_i32_510 : BitVec 32 := 1#32
  let v969 : BitVec 32 := Scalar.divsi v967 c1_i32_510
  let v970 : BitVec 32 := Scalar.muli v969 c1_i32_510
  let v971 : BitVec 32 := Scalar.addi c0_i32_509 v970
  let c1_i32_511 : BitVec 32 := 1#32
  ⟨c0_i32_509, v971, c1_i32_511⟩
def k0_mult2 (k0_t1 : Fin k0_t1_loop.trips) (k0_t2 : Fin (k0_t2_loop k0_t1).trips) : BitVec 32 :=
  let c0_i32_509 : BitVec 32 := 0#32
  let c1_i32_511 : BitVec 32 := 1#32
  let arg13 : BitVec 32 := Scf.iv c0_i32_509 c1_i32_511 k0_t2
  let c256_i32_747 : BitVec 32 := 256#32
  let v1423 : BitVec 32 := Scalar.muli arg13 c256_i32_747
  v1423
def k0_off9 (k0_t1 : Fin k0_t1_loop.trips) (k0_t2 : Fin (k0_t2_loop k0_t1).trips) : Fin 3 → Nat :=
  let c0_750 : Index := 0#32
  let c0_i32_509 : BitVec 32 := 0#32
  let c1_i32_511 : BitVec 32 := 1#32
  let arg13 : BitVec 32 := Scf.iv c0_i32_509 c1_i32_511 k0_t2
  let c256_i32_747 : BitVec 32 := 256#32
  let v1423 : BitVec 32 := Scalar.muli arg13 c256_i32_747
  let v1424 : BitVec 32 := v1423
  let v1426 : Index := Scalar.indexCast v1424
  let c0_751 : Index := 0#32
  ![0, v1426.toNat, 0]
def k0_off10 (k0_t1 : Fin k0_t1_loop.trips) (k0_t2 : Fin (k0_t2_loop k0_t1).trips) : Fin 3 → Nat :=
  let c0_765 : Index := 0#32
  let c0_i32_509 : BitVec 32 := 0#32
  let c1_i32_511 : BitVec 32 := 1#32
  let arg13 : BitVec 32 := Scf.iv c0_i32_509 c1_i32_511 k0_t2
  let c256_i32_747 : BitVec 32 := 256#32
  let v1423 : BitVec 32 := Scalar.muli arg13 c256_i32_747
  let v1424 : BitVec 32 := v1423
  let v1461 : Index := Scalar.indexCast v1424
  let c0_766 : Index := 0#32
  ![0, v1461.toNat, 0]
@[reducible] def k0_t3_loop (k0_t1 : Fin k0_t1_loop.trips) : Scf.Loop 32 :=
  let c0_i32_509 : BitVec 32 := 0#32
  let c0_i32 : BitVec 32 := 0#32
  let c1_i32 : BitVec 32 := 1#32
  let arg12 : BitVec 32 := Scf.iv c0_i32 c1_i32 k0_t1
  let v967 : BitVec 32 := Scalar.subi arg12 c0_i32_509
  let c1_i32_510 : BitVec 32 := 1#32
  let v969 : BitVec 32 := Scalar.divsi v967 c1_i32_510
  let v970 : BitVec 32 := Scalar.muli v969 c1_i32_510
  let v971 : BitVec 32 := Scalar.addi c0_i32_509 v970
  let v968 : BitVec 32 := Scalar.addi c0_i32_509 v967
  let c1_i32_512 : BitVec 32 := 1#32
  ⟨v971, v968, c1_i32_512⟩
def k0_mult3 (k0_t1 : Fin k0_t1_loop.trips) (k0_t3 : Fin (k0_t3_loop k0_t1).trips) : BitVec 32 :=
  let c0_i32_509 : BitVec 32 := 0#32
  let c0_i32 : BitVec 32 := 0#32
  let c1_i32 : BitVec 32 := 1#32
  let arg12 : BitVec 32 := Scf.iv c0_i32 c1_i32 k0_t1
  let v967 : BitVec 32 := Scalar.subi arg12 c0_i32_509
  let c1_i32_510 : BitVec 32 := 1#32
  let v969 : BitVec 32 := Scalar.divsi v967 c1_i32_510
  let v970 : BitVec 32 := Scalar.muli v969 c1_i32_510
  let v971 : BitVec 32 := Scalar.addi c0_i32_509 v970
  let c1_i32_512 : BitVec 32 := 1#32
  let arg13 : BitVec 32 := Scf.iv v971 c1_i32_512 k0_t3
  let c256_i32_747 : BitVec 32 := 256#32
  let v1423 : BitVec 32 := Scalar.muli arg13 c256_i32_747
  v1423
def k0_off11 (k0_t1 : Fin k0_t1_loop.trips) (k0_t3 : Fin (k0_t3_loop k0_t1).trips) : Fin 3 → Nat :=
  let c0_750 : Index := 0#32
  let c0_i32_509 : BitVec 32 := 0#32
  let c0_i32 : BitVec 32 := 0#32
  let c1_i32 : BitVec 32 := 1#32
  let arg12 : BitVec 32 := Scf.iv c0_i32 c1_i32 k0_t1
  let v967 : BitVec 32 := Scalar.subi arg12 c0_i32_509
  let c1_i32_510 : BitVec 32 := 1#32
  let v969 : BitVec 32 := Scalar.divsi v967 c1_i32_510
  let v970 : BitVec 32 := Scalar.muli v969 c1_i32_510
  let v971 : BitVec 32 := Scalar.addi c0_i32_509 v970
  let c1_i32_512 : BitVec 32 := 1#32
  let arg13 : BitVec 32 := Scf.iv v971 c1_i32_512 k0_t3
  let c256_i32_747 : BitVec 32 := 256#32
  let v1423 : BitVec 32 := Scalar.muli arg13 c256_i32_747
  let v1424 : BitVec 32 := v1423
  let v1426 : Index := Scalar.indexCast v1424
  let c0_751 : Index := 0#32
  ![0, v1426.toNat, 0]
def k0_off12 (k0_t1 : Fin k0_t1_loop.trips) (k0_t3 : Fin (k0_t3_loop k0_t1).trips) : Fin 3 → Nat :=
  let c0_765 : Index := 0#32
  let c0_i32_509 : BitVec 32 := 0#32
  let c0_i32 : BitVec 32 := 0#32
  let c1_i32 : BitVec 32 := 1#32
  let arg12 : BitVec 32 := Scf.iv c0_i32 c1_i32 k0_t1
  let v967 : BitVec 32 := Scalar.subi arg12 c0_i32_509
  let c1_i32_510 : BitVec 32 := 1#32
  let v969 : BitVec 32 := Scalar.divsi v967 c1_i32_510
  let v970 : BitVec 32 := Scalar.muli v969 c1_i32_510
  let v971 : BitVec 32 := Scalar.addi c0_i32_509 v970
  let c1_i32_512 : BitVec 32 := 1#32
  let arg13 : BitVec 32 := Scf.iv v971 c1_i32_512 k0_t3
  let c256_i32_747 : BitVec 32 := 256#32
  let v1423 : BitVec 32 := Scalar.muli arg13 c256_i32_747
  let v1424 : BitVec 32 := v1423
  let v1461 : Index := Scalar.indexCast v1424
  let c0_766 : Index := 0#32
  ![0, v1461.toNat, 0]
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c0_i32_513 : BitVec 32 := 0#32
  let v972 : BitVec 32 := Scalar.addi arg12 c0_i32_513
  let c256_i32_514 : BitVec 32 := 256#32
  let v973 : BitVec 32 := Scalar.muli v972 c256_i32_514
  v973
def k0_off13 (k0_t1 : Fin k0_t1_loop.trips) : Fin 3 → Nat :=
  let c0_517 : Index := 0#32
  let c0_i32 : BitVec 32 := 0#32
  let c1_i32 : BitVec 32 := 1#32
  let arg12 : BitVec 32 := Scf.iv c0_i32 c1_i32 k0_t1
  let c0_i32_513 : BitVec 32 := 0#32
  let v972 : BitVec 32 := Scalar.addi arg12 c0_i32_513
  let c256_i32_514 : BitVec 32 := 256#32
  let v973 : BitVec 32 := Scalar.muli v972 c256_i32_514
  let v974 : BitVec 32 := v973
  let v976 : Index := Scalar.indexCast v974
  let c0_518 : Index := 0#32
  ![0, v976.toNat, 0]
def k0_off14 (k0_t1 : Fin k0_t1_loop.trips) : Fin 3 → Nat :=
  let c0_534 : Index := 0#32
  let c0_i32 : BitVec 32 := 0#32
  let c1_i32 : BitVec 32 := 1#32
  let arg12 : BitVec 32 := Scf.iv c0_i32 c1_i32 k0_t1
  let c0_i32_513 : BitVec 32 := 0#32
  let v972 : BitVec 32 := Scalar.addi arg12 c0_i32_513
  let c256_i32_514 : BitVec 32 := 256#32
  let v973 : BitVec 32 := Scalar.muli v972 c256_i32_514
  let v974 : BitVec 32 := v973
  let v1018 : Index := Scalar.indexCast v974
  let c0_535 : Index := 0#32
  ![0, v1018.toNat, 0]
def k0_off15 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1386 : Index := Scalar.indexCast v914
  let c0_711 : Index := 0#32
  ![v1386.toNat, 0]
def k0_off16 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1391 : Index := Scalar.indexCast v914
  let c128_716 : Index := 128#32
  ![v1391.toNat, 128]
def k0_off17 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1396 : Index := Scalar.indexCast v914
  let c256_721 : Index := 256#32
  ![v1396.toNat, 256]
def k0_off18 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1401 : Index := Scalar.indexCast v914
  let c384_726 : Index := 384#32
  ![v1401.toNat, 384]
def k0_off19 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1406 : Index := Scalar.indexCast v914
  let c512_731 : Index := 512#32
  ![v1406.toNat, 512]
def k0_off20 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1411 : Index := Scalar.indexCast v914
  let c640_736 : Index := 640#32
  ![v1411.toNat, 640]
def k0_off21 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1416 : Index := Scalar.indexCast v914
  let c768_741 : Index := 768#32
  ![v1416.toNat, 768]
def k0_off22 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_474 : BitVec 32 := 256#32
  let v913 : BitVec 32 := Scalar.muli arg12 c256_i32_474
  let v914 : BitVec 32 := v913
  let v1421 : Index := Scalar.indexCast v914
  let c896_746 : Index := 896#32
  ![v1421.toNat, 896]
@[reducible] def k0_t4_loop : Scf.Loop 32 :=
  let c0_i32_43 : BitVec 32 := 0#32
  let c7_i32_44 : BitVec 32 := 7#32
  let v62 : BitVec 32 := Scalar.addi c0_i32_43 c7_i32_44
  let c1_i32_45 : BitVec 32 := 1#32
  ⟨c0_i32_43, v62, c1_i32_45⟩
def k0_mult5 (k0_t4 : Fin k0_t4_loop.trips) : BitVec 32 :=
  let c0_i32_43 : BitVec 32 := 0#32
  let c1_i32_45 : BitVec 32 := 1#32
  let arg12 : BitVec 32 := Scf.iv c0_i32_43 c1_i32_45 k0_t4
  let c256_i32_474 : BitVec 32 := 256#32
  let v913 : BitVec 32 := Scalar.muli arg12 c256_i32_474
  v913
def k0_off23 (k0_t4 : Fin k0_t4_loop.trips) : Fin 3 → Nat :=
  let c0_477 : Index := 0#32
  let c0_i32_43 : BitVec 32 := 0#32
  let c1_i32_45 : BitVec 32 := 1#32
  let arg12 : BitVec 32 := Scf.iv c0_i32_43 c1_i32_45 k0_t4
  let c256_i32_474 : BitVec 32 := 256#32
  let v913 : BitVec 32 := Scalar.muli arg12 c256_i32_474
  let v914 : BitVec 32 := v913
  let v916 : Index := Scalar.indexCast v914
  let c0_478 : Index := 0#32
  ![0, v916.toNat, 0]
def k0_off24 (k0_t4 : Fin k0_t4_loop.trips) : Fin 3 → Nat :=
  let c0_492 : Index := 0#32
  let c0_i32_43 : BitVec 32 := 0#32
  let c1_i32_45 : BitVec 32 := 1#32
  let arg12 : BitVec 32 := Scf.iv c0_i32_43 c1_i32_45 k0_t4
  let c256_i32_474 : BitVec 32 := 256#32
  let v913 : BitVec 32 := Scalar.muli arg12 c256_i32_474
  let v914 : BitVec 32 := v913
  let v951 : Index := Scalar.indexCast v914
  let c0_493 : Index := 0#32
  ![0, v951.toNat, 0]
def k0_mult6 : BitVec 32 :=
  let c1792_i32 : BitVec 32 := 1792#32
  c1792_i32
def k0_mult7 : BitVec 32 :=
  let c2048_i32 : BitVec 32 := 2048#32
  c2048_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.divsi v0 c8_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi v0 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 v17
  let c0_i32_6 : BitVec 32 := 0#32
  ![arg0.toNat, v18.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.divsi v0 c8_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi v0 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c30_i32 : BitVec 32 := 30#32
  let v18 : BitVec 32 := Scalar.addi c30_i32 v17
  let c0_i32_5 : BitVec 32 := 0#32
  ![arg0.toNat, v18.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2064x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2064x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2064x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8256x4096 : Shape := ⟨2, ![8256, 4096]⟩
abbrev S8256x512 : Shape := ⟨2, ![8256, 512]⟩
abbrev S8256x4608 : Shape := ⟨2, ![8256, 4608]⟩
abbrev S4x2064x2x8x256 : Shape := ⟨5, ![4, 2064, 2, 8, 256]⟩
abbrev S4x2064x2x256 : Shape := ⟨4, ![4, 2064, 2, 256]⟩
abbrev S8256x256 : Shape := ⟨2, ![8256, 256]⟩
abbrev S4x2064x2x128 : Shape := ⟨4, ![4, 2064, 2, 128]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x2x2064x2064x8 : Shape := ⟨5, ![4, 2, 2064, 2064, 8]⟩
abbrev S4x2x8x2064x2064 : Shape := ⟨5, ![4, 2, 8, 2064, 2064]⟩
abbrev S_ : Shape := ⟨0, ![]⟩
abbrev S4x2x8x2064 : Shape := ⟨4, ![4, 2, 8, 2064]⟩
abbrev S4x2x8x2064x1 : Shape := ⟨5, ![4, 2, 8, 2064, 1]⟩
abbrev S4x2x128x8x2064 : Shape := ⟨5, ![4, 2, 128, 8, 2064]⟩
abbrev S4x2064x2x8x128 : Shape := ⟨5, ![4, 2064, 2, 8, 128]⟩
abbrev S8256x2048 : Shape := ⟨2, ![8256, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S8256x512, .bf16⟩
  | .hbm, ⟨2, _⟩ => ⟨S8256x4608, .f32⟩
  | .hbm, ⟨3, _⟩ => ⟨S8256x4096, .f32⟩
  | .hbm, ⟨4, _⟩ => ⟨S4x2064x2x8x256, .f32⟩
  | .hbm, ⟨5, _⟩ => ⟨S8256x512, .f32⟩
  | .hbm, ⟨6, _⟩ => ⟨S4x2064x2x256, .f32⟩
  | .hbm, ⟨7, _⟩ => ⟨S8256x256, .f32⟩
  | .hbm, ⟨8, _⟩ => ⟨S4x2064x2x128, .f32⟩
  | .hbm, ⟨9, _⟩ => ⟨S2064, .i32⟩
  | .hbm, ⟨10, _⟩ => ⟨S1x2064, .i32⟩
  | .hbm, ⟨11, _⟩ => ⟨S2064x1, .i32⟩
  | .hbm, ⟨12, _⟩ => ⟨S2064x2064, .i32⟩
  | .hbm, ⟨13, _⟩ => ⟨S2064x2064, .i32⟩
  | .hbm, ⟨14, _⟩ => ⟨S2064x2064, .i1⟩
  | .hbm, ⟨15, _⟩ => ⟨S4x2x2064x2064x8, .f32⟩
  | .hbm, ⟨16, _⟩ => ⟨S4x2x8x2064x2064, .f32⟩
  | .hbm, ⟨17, _⟩ => ⟨S_, .f32⟩
  | .hbm, ⟨18, _⟩ => ⟨S_, .f32⟩
  | .hbm, ⟨19, _⟩ => ⟨S4x2x8x2064x2064, .i1⟩
  | .hbm, ⟨20, _⟩ => ⟨S4x2x8x2064x2064, .f32⟩
  | .hbm, ⟨21, _⟩ => ⟨S4x2x8x2064x2064, .f32⟩
  | .hbm, ⟨22, _⟩ => ⟨S_, .f32⟩
  | .hbm, ⟨23, _⟩ => ⟨S4x2x8x2064, .f32⟩
  | .hbm, ⟨24, _⟩ => ⟨S_, .f32⟩
  | .hbm, ⟨25, _⟩ => ⟨S4x2x8x2064, .f32⟩
  | .hbm, ⟨26, _⟩ => ⟨S4x2x8x2064, .f32⟩
  | .hbm, ⟨27, _⟩ => ⟨S4x2x8x2064x1, .f32⟩
  | .hbm, ⟨28, _⟩ => ⟨S4x2x8x2064x2064, .f32⟩
  | .hbm, ⟨29, _⟩ => ⟨S4x2x8x2064x2064, .f32⟩
  | .hbm, ⟨30, _⟩ => ⟨S4x2x8x2064x2064, .f32⟩
  | .hbm, ⟨31, _⟩ => ⟨S_, .f32⟩
  | .hbm, ⟨32, _⟩ => ⟨S4x2x8x2064, .f32⟩
  | .hbm, ⟨33, _⟩ => ⟨S4x2x8x2064x1, .f32⟩
  | .hbm, ⟨34, _⟩ => ⟨S4x2x8x2064x2064, .f32⟩
  | .hbm, ⟨35, _⟩ => ⟨S4x2x8x2064x2064, .f32⟩
  | .hbm, ⟨36, _⟩ => ⟨S4x2x128x8x2064, .f32⟩
  | .hbm, ⟨37, _⟩ => ⟨S4x2064x2x8x128, .f32⟩
  | .hbm, ⟨38, _⟩ => ⟨S8256x2048, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Up.lean ====
abbrev S8256x4096 : Shape := ⟨2, ![8256, 4096]⟩
abbrev S4096x16384 : Shape := ⟨2, ![4096, 16384]⟩
abbrev S8256x16384 : Shape := ⟨2, ![8256, 16384]⟩
abbrev S1376x4096 : Shape := ⟨2, ![1376, 4096]⟩
abbrev S4096x512 : Shape := ⟨2, ![4096, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4096x16384, .f32⟩
  | .hbm, ⟨2, _⟩ => ⟨S8256x16384, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S8256x4096 : Shape := ⟨2, ![8256, 4096]⟩
abbrev S4096x16384 : Shape := ⟨2, ![4096, 16384]⟩
abbrev S8256x16384 : Shape := ⟨2, ![8256, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x16384, .f32⟩
  | .hbm, ⟨2, _⟩ => ⟨S8256x4096, .f32⟩
  | .hbm, ⟨3, _⟩ => ⟨S8256x16384, .f32⟩
  | .hbm, ⟨4, _⟩ => ⟨S_, .f32⟩
  | .hbm, ⟨5, _⟩ => ⟨S8256x16384, .f32⟩
  | .hbm, ⟨6, _⟩ => ⟨S8256x16384, .f32⟩
  | .hbm, ⟨7, _⟩ => ⟨S8256x16384, .f32⟩
  | .hbm, ⟨8, _⟩ => ⟨S8256x16384, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S8256x16384 : Shape := ⟨2, ![8256, 16384]⟩
abbrev S16384x4096 : Shape := ⟨2, ![16384, 4096]⟩
abbrev S8256x4096 : Shape := ⟨2, ![8256, 4096]⟩
abbrev S1376x2048 : Shape := ⟨2, ![1376, 2048]⟩
abbrev S2048x1024 : Shape := ⟨2, ![2048, 1024]⟩
abbrev S1376x1024 : Shape := ⟨2, ![1376, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x16384, .bf16⟩
  | .hbm, ⟨1, _⟩ => ⟨S16384x4096, .f32⟩
  | .hbm, ⟨2, _⟩ => ⟨S8256x4096, .f32⟩
  | .local _ .vmem, ⟨0, _⟩ => ⟨S1376x2048, .bf16⟩
  | .local _ .vmem, ⟨1, _⟩ => ⟨S1376x2048, .bf16⟩
  | .local _ .vmem, ⟨2, _⟩ => ⟨S2048x1024, .f32⟩
  | .local _ .vmem, ⟨3, _⟩ => ⟨S2048x1024, .f32⟩
  | .local _ .vmem, ⟨4, _⟩ => ⟨S1376x1024, .f32⟩
  | .local _ .vmem, ⟨5, _⟩ => ⟨S1376x1024, .f32⟩
  | .local _ .vmem, ⟨6, _⟩ => ⟨S1376x1024, .f32⟩
  | _, _ => ⟨S8256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8256x16384 : Shape := ⟨2, ![8256, 16384]⟩
abbrev S16384x4096 : Shape := ⟨2, ![16384, 4096]⟩
abbrev S8256x4096 : Shape := ⟨2, ![8256, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8256x16384, .bf16⟩
  | .hbm, ⟨1, _⟩ => ⟨S16384x4096, .f32⟩
  | .hbm, ⟨2, _⟩ => ⟨S8256x16384, .f32⟩
  | .hbm, ⟨3, _⟩ => ⟨S8256x4096, .f32⟩
  | _, _ => ⟨S8256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MixOut.lean ====
abbrev S8256x4096 : Shape := ⟨2, ![8256, 4096]⟩
abbrev S4096x4096 : Shape := ⟨2, ![4096, 4096]⟩
abbrev S1376x4096 : Shape := ⟨2, ![1376, 4096]⟩
abbrev S4096x512 : Shape := ⟨2, ![4096, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4096x4096, .f32⟩
  | .hbm, ⟨2, _⟩ => ⟨S8256x4096, .f32⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1376x512, .f32⟩
  | .local _ .vmem, ⟨5, _⟩ => ⟨S1376x512, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixOutReferenceIdeal.lean ====
abbrev S8256x4096 : Shape := ⟨2, ![8256, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x4096, .f32⟩
  | .hbm, ⟨2, _⟩ => ⟨S8256x4096, .f32⟩
  | .hbm, ⟨3, _⟩ => ⟨S8256x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== In.lean ====
abbrev S8256x4096 : Shape := ⟨2, ![8256, 4096]⟩
abbrev S1x4096x4176 : Shape := ⟨3, ![1, 4096, 4176]⟩
abbrev S4096x4176 : Shape := ⟨2, ![4096, 4176]⟩
abbrev S4096x2048 : Shape := ⟨2, ![4096, 2048]⟩
abbrev S4096x256 : Shape := ⟨2, ![4096, 256]⟩
abbrev S4096x16 : Shape := ⟨2, ![4096, 16]⟩
abbrev S4096x1024 : Shape := ⟨2, ![4096, 1024]⟩
abbrev S4096x512 : Shape := ⟨2, ![4096, 512]⟩
abbrev S4096x64 : Shape := ⟨2, ![4096, 64]⟩
abbrev S_ : Shape := ⟨0, ![]⟩
abbrev S4096x112 : Shape := ⟨2, ![4096, 112]⟩
abbrev S4096x4608 : Shape := ⟨2, ![4096, 4608]⟩
abbrev S8256x4608 : Shape := ⟨2, ![8256, 4608]⟩
abbrev S1376x4096 : Shape := ⟨2, ![1376, 4096]⟩
abbrev S1376x512 : Shape := ⟨2, ![1376, 512]⟩
abbrev S8256x256 : Shape := ⟨2, ![8256, 256]⟩
abbrev S1x4x2064x2x128 : Shape := ⟨5, ![1, 4, 2064, 2, 128]⟩
abbrev S8256x2048 : Shape := ⟨2, ![8256, 2048]⟩
abbrev S8256x1024 : Shape := ⟨2, ![8256, 1024]⟩
abbrev S8256x512 : Shape := ⟨2, ![8256, 512]⟩
abbrev S8256x64 : Shape := ⟨2, ![8256, 64]⟩
abbrev S8256x16 : Shape := ⟨2, ![8256, 16]⟩

abbrev nBuf : Space → Nat
  | .hbm => 28
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S1x4096x4176, .f32⟩
  | .hbm, ⟨2, _⟩ => ⟨S4096x4176, .f32⟩
  | .hbm, ⟨3, _⟩ => ⟨S4096x2048, .f32⟩
  | .hbm, ⟨4, _⟩ => ⟨S4096x256, .f32⟩
  | .hbm, ⟨5, _⟩ => ⟨S4096x256, .f32⟩
  | .hbm, ⟨6, _⟩ => ⟨S4096x16, .f32⟩
  | .hbm, ⟨7, _⟩ => ⟨S4096x1024, .f32⟩
  | .hbm, ⟨8, _⟩ => ⟨S4096x512, .f32⟩
  | .hbm, ⟨9, _⟩ => ⟨S4096x64, .f32⟩
  | .hbm, ⟨10, _⟩ => ⟨S_, .f32⟩
  | .hbm, ⟨11, _⟩ => ⟨S4096x64, .f32⟩
  | .hbm, ⟨12, _⟩ => ⟨S_, .f32⟩
  | .hbm, ⟨13, _⟩ => ⟨S4096x112, .f32⟩
  | .hbm, ⟨14, _⟩ => ⟨S_, .f32⟩
  | .hbm, ⟨15, _⟩ => ⟨S4096x256, .f32⟩
  | .hbm, ⟨16, _⟩ => ⟨S4096x4608, .f32⟩
  | .hbm, ⟨17, _⟩ => ⟨S4096x4608, .bf16⟩
  | .hbm, ⟨18, _⟩ => ⟨S8256x4608, .f32⟩
  | .hbm, ⟨19, _⟩ => ⟨S8256x256, .f32⟩
  | .hbm, ⟨20, _⟩ => ⟨S1x4x2064x2x128, .f32⟩
  | .hbm, ⟨21, _⟩ => ⟨S8256x256, .f32⟩
  | .hbm, ⟨22, _⟩ => ⟨S1x4x2064x2x128, .f32⟩
  | .hbm, ⟨23, _⟩ => ⟨S8256x2048, .f32⟩
  | .hbm, ⟨24, _⟩ => ⟨S8256x1024, .f32⟩
  | .hbm, ⟨25, _⟩ => ⟨S8256x512, .f32⟩
  | .hbm, ⟨26, _⟩ => ⟨S8256x64, .f32⟩
  | .hbm, ⟨27, _⟩ => ⟨S8256x16, .f32⟩
  | .local _ .vmem, ⟨0, _⟩ => ⟨S1376x4096, .bf16⟩
  | .local _ .vmem, ⟨1, _⟩ => ⟨S1376x4096, .bf16⟩
  | .local _ .vmem, ⟨2, _⟩ => ⟨S4096x512, .bf16⟩
  | .local _ .vmem, ⟨3, _⟩ => ⟨S4096x512, .bf16⟩
  | .local _ .vmem, ⟨4, _⟩ => ⟨S1376x512, .f32⟩
  | .local _ .vmem, ⟨5, _⟩ => ⟨S1376x512, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S8256x4096 : Shape := ⟨2, ![8256, 4096]⟩
abbrev S1x4096x4176 : Shape := ⟨3, ![1, 4096, 4176]⟩
abbrev S4096x4176 : Shape := ⟨2, ![4096, 4176]⟩
abbrev S8256x4176 : Shape := ⟨2, ![8256, 4176]⟩
abbrev S8256x2048 : Shape := ⟨2, ![8256, 2048]⟩
abbrev S8256x256 : Shape := ⟨2, ![8256, 256]⟩
abbrev S8256x16 : Shape := ⟨2, ![8256, 16]⟩
abbrev S8256x1024 : Shape := ⟨2, ![8256, 1024]⟩
abbrev S8256x512 : Shape := ⟨2, ![8256, 512]⟩
abbrev S8256x64 : Shape := ⟨2, ![8256, 64]⟩
abbrev S1x4x2064x2x128 : Shape := ⟨5, ![1, 4, 2064, 2, 128]⟩

abbrev nBuf : Space → Nat
  | .hbm => 14
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S1x4096x4176, .f32⟩
  | .hbm, ⟨2, _⟩ => ⟨S8256x4096, .f32⟩
  | .hbm, ⟨3, _⟩ => ⟨S4096x4176, .f32⟩
  | .hbm, ⟨4, _⟩ => ⟨S8256x4176, .f32⟩
  | .hbm, ⟨5, _⟩ => ⟨S8256x2048, .f32⟩
  | .hbm, ⟨6, _⟩ => ⟨S8256x256, .f32⟩
  | .hbm, ⟨7, _⟩ => ⟨S8256x256, .f32⟩
  | .hbm, ⟨8, _⟩ => ⟨S8256x16, .f32⟩
  | .hbm, ⟨9, _⟩ => ⟨S8256x1024, .f32⟩
  | .hbm, ⟨10, _⟩ => ⟨S8256x512, .f32⟩
  | .hbm, ⟨11, _⟩ => ⟨S8256x64, .f32⟩
  | .hbm, ⟨12, _⟩ => ⟨S1x4x2064x2x128, .f32⟩
  | .hbm, ⟨13, _⟩ => ⟨S1x4x2064x2x128, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Fin.lean ====
abbrev S8256x4096 : Shape := ⟨2, ![8256, 4096]⟩
abbrev S1x4096 : Shape := ⟨2, ![1, 4096]⟩
abbrev S4096 : Shape := ⟨1, ![4096]⟩
abbrev S192x4096 : Shape := ⟨2, ![192, 4096]⟩
abbrev S192 : Shape := ⟨1, ![192]⟩
abbrev S192x1 : Shape := ⟨2, ![192, 1]⟩
abbrev S4x2064x4096 : Shape := ⟨3, ![4, 2064, 4096]⟩
abbrev S4x2048x4096 : Shape := ⟨3, ![4, 2048, 4096]⟩

abbrev nBuf : Space → Nat
  | .hbm => 8
  | .vmem => 7
  | .smem => 0
  | _ => 0

abbrev bufTy : (tb : Table) → Fin (tcTables nBuf tb) → BufTy
  | .hbm, ⟨0, _⟩ => ⟨S8256x4096, .f32⟩
  | .hbm, ⟨1, _⟩ => ⟨S8256x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8256x4096, .f32⟩
  | .hbm, ⟨6, _⟩ => ⟨S4x2064x4096, .f32⟩
  | .hbm, ⟨7, _⟩ => ⟨S4x2048x4096, .f32⟩
  | .local _ .vmem, ⟨0, _⟩ => ⟨S192x4096, .f32⟩
  | .local _ .vmem, ⟨1, _⟩ => ⟨S192x4096, .f32⟩
  | .local _ .vmem, ⟨2, _⟩ => ⟨S192x4096, .f32⟩
  | .local _ .vmem, ⟨3, _⟩ => ⟨S192x4096, .f32⟩
  | .local _ .vmem, ⟨4, _⟩ => ⟨S1x4096, .f32⟩
  | .local _ .vmem, ⟨5, _⟩ => ⟨S192x4096, .f32⟩
  | .local _ .vmem, ⟨6, _⟩ => ⟨S192x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinReferenceIdeal.lean ====
abbrev S8256x4096 : Shape := ⟨2, ![8256, 4096]⟩
abbrev S1x4096 : Shape := ⟨2, ![1, 4096]⟩
abbrev S_ : Shape := ⟨0, ![]⟩
abbrev S8256 : Shape := ⟨1, ![8256]⟩
abbrev S8256x1 : Shape := ⟨2, ![8256, 1]⟩
abbrev S4x2064x4096 : Shape := ⟨3, ![4, 2064, 4096]⟩
abbrev S4x2048x4096 : Shape := ⟨3, ![4, 2048, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S8256x4096, .f32⟩
  | .hbm, ⟨2, _⟩ => ⟨S1x4096, .f32⟩
  | .hbm, ⟨3, _⟩ => ⟨S8256x4096, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x4096, .f32⟩
  | .hbm, ⟨15, _⟩ => ⟨S8256x4096, .f32⟩
  | .hbm, ⟨16, _⟩ => ⟨S8256x4096, .f32⟩
  | .hbm, ⟨17, _⟩ => ⟨S8256x4096, .f32⟩
  | .hbm, ⟨18, _⟩ => ⟨S8256x4096, .f32⟩
  | .hbm, ⟨19, _⟩ => ⟨S4x2064x4096, .f32⟩
  | .hbm, ⟨20, _⟩ => ⟨S4x2048x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Norm.lean ====
abbrev S4x2048x4096 : Shape := ⟨3, ![4, 2048, 4096]⟩
abbrev S16x4096 : Shape := ⟨2, ![16, 4096]⟩
abbrev S1x4096 : Shape := ⟨2, ![1, 4096]⟩
abbrev S1x16x4096 : Shape := ⟨3, ![1, 16, 4096]⟩
abbrev S4x16x4096 : Shape := ⟨3, ![4, 16, 4096]⟩
abbrev S4x2064x4096 : Shape := ⟨3, ![4, 2064, 4096]⟩
abbrev S8256x4096 : Shape := ⟨2, ![8256, 4096]⟩
abbrev S4096 : Shape := ⟨1, ![4096]⟩
abbrev S192x4096 : Shape := ⟨2, ![192, 4096]⟩
abbrev S192 : Shape := ⟨1, ![192]⟩
abbrev S192x1 : Shape := ⟨2, ![192, 1]⟩

abbrev nBuf : Space → Nat
  | .hbm => 10
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S1x4096, .f32⟩
  | .hbm, ⟨3, _⟩ => ⟨S1x16x4096, .f32⟩
  | .hbm, ⟨4, _⟩ => ⟨S4x16x4096, .f32⟩
  | .hbm, ⟨5, _⟩ => ⟨S4x2064x4096, .f32⟩
  | .hbm, ⟨6, _⟩ => ⟨S8256x4096, .f32⟩
  | .hbm, ⟨7, _⟩ => ⟨S4096, .f32⟩
  | .hbm, ⟨8, _⟩ => ⟨S1x4096, .f32⟩
  | .hbm, ⟨9, _⟩ => ⟨S8256x4096, .bf16⟩
  | .local _ .vmem, ⟨0, _⟩ => ⟨S192x4096, .f32⟩
  | .local _ .vmem, ⟨1, _⟩ => ⟨S192x4096, .f32⟩
  | .local _ .vmem, ⟨2, _⟩ => ⟨S1x4096, .f32⟩
  | .local _ .vmem, ⟨3, _⟩ => ⟨S192x4096, .bf16⟩
  | .local _ .vmem, ⟨4, _⟩ => ⟨S192x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4x2048x4096 : Shape := ⟨3, ![4, 2048, 4096]⟩
abbrev S16x4096 : Shape := ⟨2, ![16, 4096]⟩
abbrev S1x4096 : Shape := ⟨2, ![1, 4096]⟩
abbrev S1x16x4096 : Shape := ⟨3, ![1, 16, 4096]⟩
abbrev S4x16x4096 : Shape := ⟨3, ![4, 16, 4096]⟩
abbrev S4x2064x4096 : Shape := ⟨3, ![4, 2064, 4096]⟩
abbrev S8256x4096 : Shape := ⟨2, ![8256, 4096]⟩
abbrev S_ : Shape := ⟨0, ![]⟩
abbrev S8256 : Shape := ⟨1, ![8256]⟩
abbrev S8256x1 : Shape := ⟨2, ![8256, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S1x4096, .f32⟩
  | .hbm, ⟨3, _⟩ => ⟨S1x16x4096, .f32⟩
  | .hbm, ⟨4, _⟩ => ⟨S4x16x4096, .f32⟩
  | .hbm, ⟨5, _⟩ => ⟨S4x2064x4096, .f32⟩
  | .hbm, ⟨6, _⟩ => ⟨S8256x4096, .f32⟩
  | .hbm, ⟨7, _⟩ => ⟨S8256x4096, .f32⟩
  | .hbm, ⟨8, _⟩ => ⟨S_, .f32⟩
  | .hbm, ⟨9, _⟩ => ⟨S8256, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S_, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S8256x4096, .f32⟩
  | .hbm, ⟨19, _⟩ => ⟨S8256x4096, .f32⟩
  | .hbm, ⟨20, _⟩ => ⟨S8256x4096, .f32⟩
  | .hbm, ⟨21, _⟩ => ⟨S8256x4096, .f32⟩
  | .hbm, ⟨22, _⟩ => ⟨S8256x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Rows.lean ====
abbrev S8256x4608 : Shape := ⟨2, ![8256, 4608]⟩
abbrev S1x16 : Shape := ⟨2, ![1, 16]⟩
abbrev S1x1024 : Shape := ⟨2, ![1, 1024]⟩
abbrev S1x512 : Shape := ⟨2, ![1, 512]⟩
abbrev S2064 : Shape := ⟨1, ![2064]⟩
abbrev S32 : Shape := ⟨1, ![32]⟩
abbrev S_ : Shape := ⟨0, ![]⟩
abbrev S2064x1 : Shape := ⟨2, ![2064, 1]⟩
abbrev S1x32 : Shape := ⟨2, ![1, 32]⟩
abbrev S2064x32 : Shape := ⟨2, ![2064, 32]⟩
abbrev S2064x64 : Shape := ⟨2, ![2064, 64]⟩
abbrev S2064x128 : Shape := ⟨2, ![2064, 128]⟩
abbrev S16 : Shape := ⟨1, ![16]⟩
abbrev S112 : Shape := ⟨1, ![112]⟩
abbrev S128 : Shape := ⟨1, ![128]⟩
abbrev S1x128 : Shape := ⟨2, ![1, 128]⟩
abbrev S1024 : Shape := ⟨1, ![1024]⟩
abbrev S512 : Shape := ⟨1, ![512]⟩
abbrev S8256x1024 : Shape := ⟨2, ![8256, 1024]⟩
abbrev S8256x512 : Shape := ⟨2, ![8256, 512]⟩
abbrev S8256x128 : Shape := ⟨2, ![8256, 128]⟩
abbrev S688x1024 : Shape := ⟨2, ![688, 1024]⟩
abbrev S688x512 : Shape := ⟨2, ![688, 512]⟩
abbrev S688x128 : Shape := ⟨2, ![688, 128]⟩
abbrev S688 : Shape := ⟨1, ![688]⟩
abbrev S688x1 : Shape := ⟨2, ![688, 1]⟩
abbrev S8256x16 : Shape := ⟨2, ![8256, 16]⟩
abbrev S1x4x2064x16 : Shape := ⟨4, ![1, 4, 2064, 16]⟩
abbrev S1x4x2064x512 : Shape := ⟨4, ![1, 4, 2064, 512]⟩
abbrev S8256x64 : Shape := ⟨2, ![8256, 64]⟩
abbrev S1x4x2064x64 : Shape := ⟨4, ![1, 4, 2064, 64]⟩

abbrev nBuf : Space → Nat
  | .hbm => 49
  | .vmem => 29
  | .smem => 0
  | _ => 0

abbrev bufTy : (tb : Table) → Fin (tcTables nBuf tb) → BufTy
  | .hbm, ⟨0, _⟩ => ⟨S8256x4608, .f32⟩
  | .hbm, ⟨1, _⟩ => ⟨S1x16, .f32⟩
  | .hbm, ⟨2, _⟩ => ⟨S1x1024, .f32⟩
  | .hbm, ⟨3, _⟩ => ⟨S1x512, .f32⟩
  | .hbm, ⟨4, _⟩ => ⟨S2064, .i32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2064, .f32⟩
  | .hbm, ⟨14, _⟩ => ⟨S2064x1, .f32⟩
  | .hbm, ⟨15, _⟩ => ⟨S1x32, .f32⟩
  | .hbm, ⟨16, _⟩ => ⟨S2064x32, .f32⟩
  | .hbm, ⟨17, _⟩ => ⟨S2064x32, .f32⟩
  | .hbm, ⟨18, _⟩ => ⟨S2064x32, .f32⟩
  | .hbm, ⟨19, _⟩ => ⟨S2064x32, .f32⟩
  | .hbm, ⟨20, _⟩ => ⟨S2064x32, .f32⟩
  | .hbm, ⟨21, _⟩ => ⟨S_, .f32⟩
  | .hbm, ⟨22, _⟩ => ⟨S2064x32, .f32⟩
  | .hbm, ⟨23, _⟩ => ⟨S_, .f32⟩
  | .hbm, ⟨24, _⟩ => ⟨S2064x64, .f32⟩
  | .hbm, ⟨25, _⟩ => ⟨S2064x128, .f32⟩
  | .hbm, ⟨26, _⟩ => ⟨S2064x32, .f32⟩
  | .hbm, ⟨27, _⟩ => ⟨S2064x128, .f32⟩
  | .hbm, ⟨28, _⟩ => ⟨S2064x128, .f32⟩
  | .hbm, ⟨29, _⟩ => ⟨S16, .f32⟩
  | .hbm, ⟨30, _⟩ => ⟨S_, .f32⟩
  | .hbm, ⟨31, _⟩ => ⟨S112, .f32⟩
  | .hbm, ⟨32, _⟩ => ⟨S128, .f32⟩
  | .hbm, ⟨33, _⟩ => ⟨S1x128, .f32⟩
  | .hbm, ⟨34, _⟩ => ⟨S1024, .f32⟩
  | .hbm, ⟨35, _⟩ => ⟨S512, .f32⟩
  | .hbm, ⟨36, _⟩ => ⟨S1x1024, .f32⟩
  | .hbm, ⟨37, _⟩ => ⟨S1x512, .f32⟩
  | .hbm, ⟨38, _⟩ => ⟨S8256x1024, .bf16⟩
  | .hbm, ⟨39, _⟩ => ⟨S8256x512, .f32⟩
  | .hbm, ⟨40, _⟩ => ⟨S8256x512, .bf16⟩
  | .hbm, ⟨41, _⟩ => ⟨S8256x128, .f32⟩
  | .hbm, ⟨42, _⟩ => ⟨S8256x128, .bf16⟩
  | .hbm, ⟨43, _⟩ => ⟨S8256x128, .f32⟩
  | .hbm, ⟨44, _⟩ => ⟨S8256x16, .f32⟩
  | .hbm, ⟨45, _⟩ => ⟨S1x4x2064x16, .f32⟩
  | .hbm, ⟨46, _⟩ => ⟨S1x4x2064x512, .f32⟩
  | .hbm, ⟨47, _⟩ => ⟨S8256x64, .f32⟩
  | .hbm, ⟨48, _⟩ => ⟨S1x4x2064x64, .f32⟩
  | .local _ .vmem, ⟨0, _⟩ => ⟨S688x1024, .f32⟩
  | .local _ .vmem, ⟨1, _⟩ => ⟨S688x1024, .f32⟩
  | .local _ .vmem, ⟨2, _⟩ => ⟨S688x512, .f32⟩
  | .local _ .vmem, ⟨3, _⟩ => ⟨S688x512, .f32⟩
  | .local _ .vmem, ⟨4, _⟩ => ⟨S688x128, .f32⟩
  | .local _ .vmem, ⟨5, _⟩ => ⟨S688x128, .f32⟩
  | .local _ .vmem, ⟨6, _⟩ => ⟨S688x128, .f32⟩
  | .local _ .vmem, ⟨7, _⟩ => ⟨S688x128, .f32⟩
  | .local _ .vmem, ⟨8, _⟩ => ⟨S688x128, .f32⟩
  | .local _ .vmem, ⟨9, _⟩ => ⟨S688x128, .f32⟩
  | .local _ .vmem, ⟨10, _⟩ => ⟨S688x128, .f32⟩
  | .local _ .vmem, ⟨11, _⟩ => ⟨S688x128, .f32⟩
  | .local _ .vmem, ⟨12, _⟩ => ⟨S688x128, .f32⟩
  | .local _ .vmem, ⟨13, _⟩ => ⟨S688x128, .f32⟩
  | .local _ .vmem, ⟨14, _⟩ => ⟨S1x1024, .f32⟩
  | .local _ .vmem, ⟨15, _⟩ => ⟨S1x512, .f32⟩
  | .local _ .vmem, ⟨16, _⟩ => ⟨S1x128, .f32⟩
  | .local _ .vmem, ⟨17, _⟩ => ⟨S688x1024, .bf16⟩
  | .local _ .vmem, ⟨18, _⟩ => ⟨S688x1024, .bf16⟩
  | .local _ .vmem, ⟨19, _⟩ => ⟨S688x512, .f32⟩
  | .local _ .vmem, ⟨20, _⟩ => ⟨S688x512, .f32⟩
  | .local _ .vmem, ⟨21, _⟩ => ⟨S688x512, .bf16⟩
  | .local _ .vmem, ⟨22, _⟩ => ⟨S688x512, .bf16⟩
  | .local _ .vmem, ⟨23, _⟩ => ⟨S688x128, .f32⟩
  | .local _ .vmem, ⟨24, _⟩ => ⟨S688x128, .f32⟩
  | .local _ .vmem, ⟨25, _⟩ => ⟨S688x128, .bf16⟩
  | .local _ .vmem, ⟨26, _⟩ => ⟨S688x128, .bf16⟩
  | .local _ .vmem, ⟨27, _⟩ => ⟨S688x128, .f32⟩
  | .local _ .vmem, ⟨28, _⟩ => ⟨S688x128, .f32⟩
  | _, _ => ⟨S8256x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev main_v29_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_3 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_4 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S688x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S688x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S688x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RowsReferenceIdeal.lean ====
abbrev S8256x4608 : Shape := ⟨2, ![8256, 4608]⟩
abbrev S1x16 : Shape := ⟨2, ![1, 16]⟩
abbrev S1x1024 : Shape := ⟨2, ![1, 1024]⟩
abbrev S1x512 : Shape := ⟨2, ![1, 512]⟩
abbrev S2064 : Shape := ⟨1, ![2064]⟩
abbrev S8256x16 : Shape := ⟨2, ![8256, 16]⟩
abbrev S_ : Shape := ⟨0, ![]⟩
abbrev S8256x512 : Shape := ⟨2, ![8256, 512]⟩
abbrev S8256 : Shape := ⟨1, ![8256]⟩
abbrev S8256x1 : Shape := ⟨2, ![8256, 1]⟩
abbrev S8256x1024 : Shape := ⟨2, ![8256, 1024]⟩
abbrev S32 : Shape := ⟨1, ![32]⟩
abbrev S2064x1 : Shape := ⟨2, ![2064, 1]⟩
abbrev S1x32 : Shape := ⟨2, ![1, 32]⟩
abbrev S2064x32 : Shape := ⟨2, ![2064, 32]⟩
abbrev S8256x64 : Shape := ⟨2, ![8256, 64]⟩
abbrev S4x2064x64 : Shape := ⟨3, ![4, 2064, 64]⟩
abbrev S4x2064x32 : Shape := ⟨3, ![4, 2064, 32]⟩
abbrev S1x2064x32 : Shape := ⟨3, ![1, 2064, 32]⟩
abbrev S1x4x2064x16 : Shape := ⟨4, ![1, 4, 2064, 16]⟩
abbrev S1x4x2064x512 : Shape := ⟨4, ![1, 4, 2064, 512]⟩
abbrev S1x4x2064x64 : Shape := ⟨4, ![1, 4, 2064, 64]⟩

abbrev nBuf : Space → Nat
  | .hbm => 95
  | .vmem => 0
  | .smem => 0
  | _ => 0

abbrev bufTy : (tb : Table) → Fin (tcTables nBuf tb) → BufTy
  | .hbm, ⟨0, _⟩ => ⟨S8256x4608, .f32⟩
  | .hbm, ⟨1, _⟩ => ⟨S1x16, .f32⟩
  | .hbm, ⟨2, _⟩ => ⟨S1x1024, .f32⟩
  | .hbm, ⟨3, _⟩ => ⟨S1x512, .f32⟩
  | .hbm, ⟨4, _⟩ => ⟨S2064, .i32⟩
  | .hbm, ⟨5, _⟩ => ⟨S8256x16, .f32⟩
  | .hbm, ⟨6, _⟩ => ⟨S8256x16, .f32⟩
  | .hbm, ⟨7, _⟩ => ⟨S8256x16, .f32⟩
  | .hbm, ⟨8, _⟩ => ⟨S8256x16, .f32⟩
  | .hbm, ⟨9, _⟩ => ⟨S_, .f32⟩
  | .hbm, ⟨10, _⟩ => ⟨S8256x16, .f32⟩
  | .hbm, ⟨11, _⟩ => ⟨S8256x16, .f32⟩
  | .hbm, ⟨12, _⟩ => ⟨S8256x16, .f32⟩
  | .hbm, ⟨13, _⟩ => ⟨S8256x16, .f32⟩
  | .hbm, ⟨14, _⟩ => ⟨S8256x16, .i1⟩
  | .hbm, ⟨15, _⟩ => ⟨S8256x16, .f32⟩
  | .hbm, ⟨16, _⟩ => ⟨S8256x16, .f32⟩
  | .hbm, ⟨17, _⟩ => ⟨S8256x16, .f32⟩
  | .hbm, ⟨18, _⟩ => ⟨S8256x16, .f32⟩
  | .hbm, ⟨19, _⟩ => ⟨S8256x16, .f32⟩
  | .hbm, ⟨20, _⟩ => ⟨S8256x16, .f32⟩
  | .hbm, ⟨21, _⟩ => ⟨S8256x16, .f32⟩
  | .hbm, ⟨22, _⟩ => ⟨S8256x16, .f32⟩
  | .hbm, ⟨23, _⟩ => ⟨S8256x16, .f32⟩
  | .hbm, ⟨24, _⟩ => ⟨S8256x512, .f32⟩
  | .hbm, ⟨25, _⟩ => ⟨S8256x512, .f32⟩
  | .hbm, ⟨26, _⟩ => ⟨S_, .f32⟩
  | .hbm, ⟨27, _⟩ => ⟨S8256, .f32⟩
  | .hbm, ⟨28, _⟩ => ⟨S8256x1, .f32⟩
  | .hbm, ⟨29, _⟩ => ⟨S_, .f32⟩
  | .hbm, ⟨30, _⟩ => ⟨S8256x1, .f32⟩
  | .hbm, ⟨31, _⟩ => ⟨S8256x1, .f32⟩
  | .hbm, ⟨32, _⟩ => ⟨S_, .f32⟩
  | .hbm, ⟨33, _⟩ => ⟨S8256x1, .f32⟩
  | .hbm, ⟨34, _⟩ => ⟨S8256x1, .f32⟩
  | .hbm, ⟨35, _⟩ => ⟨S8256x1, .f32⟩
  | .hbm, ⟨36, _⟩ => ⟨S8256x512, .f32⟩
  | .hbm, ⟨37, _⟩ => ⟨S8256x512, .f32⟩
  | .hbm, ⟨38, _⟩ => ⟨S8256x512, .f32⟩
  | .hbm, ⟨39, _⟩ => ⟨S8256x512, .f32⟩
  | .hbm, ⟨40, _⟩ => ⟨S8256x1024, .f32⟩
  | .hbm, ⟨41, _⟩ => ⟨S8256x1024, .f32⟩
  | .hbm, ⟨42, _⟩ => ⟨S_, .f32⟩
  | .hbm, ⟨43, _⟩ => ⟨S8256, .f32⟩
  | .hbm, ⟨44, _⟩ => ⟨S8256x1, .f32⟩
  | .hbm, ⟨45, _⟩ => ⟨S_, .f32⟩
  | .hbm, ⟨46, _⟩ => ⟨S8256x1, .f32⟩
  | .hbm, ⟨47, _⟩ => ⟨S8256x1, .f32⟩
  | .hbm, ⟨48, _⟩ => ⟨S_, .f32⟩
  | .hbm, ⟨49, _⟩ => ⟨S8256x1, .f32⟩
  | .hbm, ⟨50, _⟩ => ⟨S8256x1, .f32⟩
  | .hbm, ⟨51, _⟩ => ⟨S8256x1, .f32⟩
  | .hbm, ⟨52, _⟩ => ⟨S8256x1024, .f32⟩
  | .hbm, ⟨53, _⟩ => ⟨S8256x1024, .f32⟩
  | .hbm, ⟨54, _⟩ => ⟨S8256x1024, .f32⟩
  | .hbm, ⟨55, _⟩ => ⟨S8256x1024, .f32⟩
  | .hbm, ⟨56, _⟩ => ⟨S8256x1024, .bf16⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S2064, .f32⟩
  | .hbm, ⟨66, _⟩ => ⟨S2064x1, .f32⟩
  | .hbm, ⟨67, _⟩ => ⟨S1x32, .f32⟩
  | .hbm, ⟨68, _⟩ => ⟨S2064x32, .f32⟩
  | .hbm, ⟨69, _⟩ => ⟨S2064x32, .f32⟩
  | .hbm, ⟨70, _⟩ => ⟨S2064x32, .f32⟩
  | .hbm, ⟨71, _⟩ => ⟨S2064x32, .f32⟩
  | .hbm, ⟨72, _⟩ => ⟨S2064x32, .f32⟩
  | .hbm, ⟨73, _⟩ => ⟨S8256x64, .f32⟩
  | .hbm, ⟨74, _⟩ => ⟨S4x2064x64, .f32⟩
  | .hbm, ⟨75, _⟩ => ⟨S4x2064x32, .f32⟩
  | .hbm, ⟨76, _⟩ => ⟨S4x2064x32, .f32⟩
  | .hbm, ⟨77, _⟩ => ⟨S1x2064x32, .f32⟩
  | .hbm, ⟨78, _⟩ => ⟨S4x2064x32, .f32⟩
  | .hbm, ⟨79, _⟩ => ⟨S4x2064x32, .f32⟩
  | .hbm, ⟨80, _⟩ => ⟨S1x2064x32, .f32⟩
  | .hbm, ⟨81, _⟩ => ⟨S4x2064x32, .f32⟩
  | .hbm, ⟨82, _⟩ => ⟨S4x2064x32, .f32⟩
  | .hbm, ⟨83, _⟩ => ⟨S4x2064x32, .f32⟩
  | .hbm, ⟨84, _⟩ => ⟨S1x2064x32, .f32⟩
  | .hbm, ⟨85, _⟩ => ⟨S4x2064x32, .f32⟩
  | .hbm, ⟨86, _⟩ => ⟨S4x2064x32, .f32⟩
  | .hbm, ⟨87, _⟩ => ⟨S1x2064x32, .f32⟩
  | .hbm, ⟨88, _⟩ => ⟨S4x2064x32, .f32⟩
  | .hbm, ⟨89, _⟩ => ⟨S4x2064x32, .f32⟩
  | .hbm, ⟨90, _⟩ => ⟨S4x2064x32, .f32⟩
  | .hbm, ⟨91, _⟩ => ⟨S4x2064x64, .f32⟩
  | .hbm, ⟨92, _⟩ => ⟨S1x4x2064x16, .f32⟩
  | .hbm, ⟨93, _⟩ => ⟨S1x4x2064x512, .f32⟩
  | .hbm, ⟨94, _⟩ => ⟨S1x4x2064x64, .f32⟩
  | _, _ => ⟨S8256x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== InSample.lean ====
abbrev S512x4096 : Shape := ⟨2, ![512, 4096]⟩
abbrev S1x4096x4176 : Shape := ⟨3, ![1, 4096, 4176]⟩
abbrev S4096x4176 : Shape := ⟨2, ![4096, 4176]⟩
abbrev S4096x2048 : Shape := ⟨2, ![4096, 2048]⟩
abbrev S4096x256 : Shape := ⟨2, ![4096, 256]⟩
abbrev S4096x16 : Shape := ⟨2, ![4096, 16]⟩
abbrev S4096x1024 : Shape := ⟨2, ![4096, 1024]⟩
abbrev S4096x512 : Shape := ⟨2, ![4096, 512]⟩
abbrev S4096x64 : Shape := ⟨2, ![4096, 64]⟩
abbrev S_ : Shape := ⟨0, ![]⟩
abbrev S4096x112 : Shape := ⟨2, ![4096, 112]⟩
abbrev S4096x4608 : Shape := ⟨2, ![4096, 4608]⟩
abbrev S512x4608 : Shape := ⟨2, ![512, 4608]⟩
abbrev S512x512 : Shape := ⟨2, ![512, 512]⟩
abbrev S512x256 : Shape := ⟨2, ![512, 256]⟩
abbrev S1x128x4x2x128 : Shape := ⟨5, ![1, 128, 4, 2, 128]⟩
abbrev S512x2048 : Shape := ⟨2, ![512, 2048]⟩
abbrev S512x1024 : Shape := ⟨2, ![512, 1024]⟩
abbrev S512x64 : Shape := ⟨2, ![512, 64]⟩
abbrev S512x16 : Shape := ⟨2, ![512, 16]⟩

abbrev nBuf : Space → Nat
  | .hbm => 28
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S1x4096x4176, .f32⟩
  | .hbm, ⟨2, _⟩ => ⟨S4096x4176, .f32⟩
  | .hbm, ⟨3, _⟩ => ⟨S4096x2048, .f32⟩
  | .hbm, ⟨4, _⟩ => ⟨S4096x256, .f32⟩
  | .hbm, ⟨5, _⟩ => ⟨S4096x256, .f32⟩
  | .hbm, ⟨6, _⟩ => ⟨S4096x16, .f32⟩
  | .hbm, ⟨7, _⟩ => ⟨S4096x1024, .f32⟩
  | .hbm, ⟨8, _⟩ => ⟨S4096x512, .f32⟩
  | .hbm, ⟨9, _⟩ => ⟨S4096x64, .f32⟩
  | .hbm, ⟨10, _⟩ => ⟨S_, .f32⟩
  | .hbm, ⟨11, _⟩ => ⟨S4096x64, .f32⟩
  | .hbm, ⟨12, _⟩ => ⟨S_, .f32⟩
  | .hbm, ⟨13, _⟩ => ⟨S4096x112, .f32⟩
  | .hbm, ⟨14, _⟩ => ⟨S_, .f32⟩
  | .hbm, ⟨15, _⟩ => ⟨S4096x256, .f32⟩
  | .hbm, ⟨16, _⟩ => ⟨S4096x4608, .f32⟩
  | .hbm, ⟨17, _⟩ => ⟨S4096x4608, .bf16⟩
  | .hbm, ⟨18, _⟩ => ⟨S512x4608, .f32⟩
  | .hbm, ⟨19, _⟩ => ⟨S512x256, .f32⟩
  | .hbm, ⟨20, _⟩ => ⟨S1x128x4x2x128, .f32⟩
  | .hbm, ⟨21, _⟩ => ⟨S512x256, .f32⟩
  | .hbm, ⟨22, _⟩ => ⟨S1x128x4x2x128, .f32⟩
  | .hbm, ⟨23, _⟩ => ⟨S512x2048, .f32⟩
  | .hbm, ⟨24, _⟩ => ⟨S512x1024, .f32⟩
  | .hbm, ⟨25, _⟩ => ⟨S512x512, .f32⟩
  | .hbm, ⟨26, _⟩ => ⟨S512x64, .f32⟩
  | .hbm, ⟨27, _⟩ => ⟨S512x16, .f32⟩
  | .local _ .vmem, ⟨0, _⟩ => ⟨S512x4096, .bf16⟩
  | .local _ .vmem, ⟨1, _⟩ => ⟨S4096x512, .bf16⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSampleReferenceIdeal.lean ====
abbrev S512x4096 : Shape := ⟨2, ![512, 4096]⟩
abbrev S1x4096x4176 : Shape := ⟨3, ![1, 4096, 4176]⟩
abbrev S4096x4176 : Shape := ⟨2, ![4096, 4176]⟩
abbrev S512x4176 : Shape := ⟨2, ![512, 4176]⟩
abbrev S512x2048 : Shape := ⟨2, ![512, 2048]⟩
abbrev S512x256 : Shape := ⟨2, ![512, 256]⟩
abbrev S512x16 : Shape := ⟨2, ![512, 16]⟩
abbrev S512x1024 : Shape := ⟨2, ![512, 1024]⟩
abbrev S512x512 : Shape := ⟨2, ![512, 512]⟩
abbrev S512x64 : Shape := ⟨2, ![512, 64]⟩
abbrev S1x128x4x2x128 : Shape := ⟨5, ![1, 128, 4, 2, 128]⟩

abbrev nBuf : Space → Nat
  | .hbm => 14
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S1x4096x4176, .f32⟩
  | .hbm, ⟨2, _⟩ => ⟨S512x4096, .f32⟩
  | .hbm, ⟨3, _⟩ => ⟨S4096x4176, .f32⟩
  | .hbm, ⟨4, _⟩ => ⟨S512x4176, .f32⟩
  | .hbm, ⟨5, _⟩ => ⟨S512x2048, .f32⟩
  | .hbm, ⟨6, _⟩ => ⟨S512x256, .f32⟩
  | .hbm, ⟨7, _⟩ => ⟨S512x256, .f32⟩
  | .hbm, ⟨8, _⟩ => ⟨S512x16, .f32⟩
  | .hbm, ⟨9, _⟩ => ⟨S512x1024, .f32⟩
  | .hbm, ⟨10, _⟩ => ⟨S512x512, .f32⟩
  | .hbm, ⟨11, _⟩ => ⟨S512x64, .f32⟩
  | .hbm, ⟨12, _⟩ => ⟨S1x128x4x2x128, .f32⟩
  | .hbm, ⟨13, _⟩ => ⟨S1x128x4x2x128, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== FinSample.lean ====
abbrev S512x4096 : Shape := ⟨2, ![512, 4096]⟩
abbrev S1x4096 : Shape := ⟨2, ![1, 4096]⟩
abbrev S4096 : Shape := ⟨1, ![4096]⟩
abbrev S128x4096 : Shape := ⟨2, ![128, 4096]⟩
abbrev S128 : Shape := ⟨1, ![128]⟩
abbrev S128x1 : Shape := ⟨2, ![128, 1]⟩
abbrev S128x4x4096 : Shape := ⟨3, ![128, 4, 4096]⟩

abbrev nBuf : Space → Nat
  | .hbm => 7
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S512x4096, .f32⟩
  | .hbm, ⟨6, _⟩ => ⟨S128x4x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinSampleReferenceIdeal.lean ====
abbrev S512x4096 : Shape := ⟨2, ![512, 4096]⟩
abbrev S1x4096 : Shape := ⟨2, ![1, 4096]⟩
abbrev S_ : Shape := ⟨0, ![]⟩
abbrev S512 : Shape := ⟨1, ![512]⟩
abbrev S512x1 : Shape := ⟨2, ![512, 1]⟩
abbrev S128x4x4096 : Shape := ⟨3, ![128, 4, 4096]⟩

abbrev nBuf : Space → Nat
  | .hbm => 20
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S1x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S512x4096, .f32⟩
  | .hbm, ⟨19, _⟩ => ⟨S128x4x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Product.lean ====
module
public import Idealize.ShloMosaic.PureOps.Ideal
@[expose] public section
noncomputable section
namespace Cert.Product

/-! # One entry of a product -/

/-- A row times a column. -/
def dot {n : ℕ} (a b : Fin n → EReal) : EReal := ∑ k : Fin n, a k * b k

theorem dot_congr {n : ℕ} {a a' b b' : Fin n → EReal} (ha : ∀ k, a k = a' k) (hb : ∀ k, b k = b' k) : dot a b = dot a' b' := by
  rw [funext ha, funext hb]

/-- The square of the positive part. -/
def reluSq (x : EReal) : EReal := max x 0 * max x 0

/-- A sum over eight runs of 2048 is the sum over all 16384, each place with its run and its place in the run. -/
theorem dot_runs (a b : Fin 16384 → EReal) :
    ∑ s : Fin 8, dot (fun k : Fin 2048 => a ⟨2048 * s.val + k.val, by omega⟩) (fun k : Fin 2048 => b ⟨2048 * s.val + k.val, by omega⟩) = dot a b := by
  unfold dot
  rw [← Finset.sum_product', Finset.univ_product_univ]
  refine Fintype.sum_equiv ⟨fun z => (⟨2048 * z.1.val + z.2.val, by omega⟩ : Fin 16384), fun k => (⟨k.val / 2048, by omega⟩, ⟨k.val % 2048, by omega⟩), fun z => ?_, fun k => ?_⟩ _ _ fun z => rfl
  · obtain ⟨s, k⟩ := z
    exact Prod.ext (Fin.ext (by show (2048 * s.val + k.val) / 2048 = s.val; omega)) (Fin.ext (by show (2048 * s.val + k.val) % 2048 = k.val; omega))
  · exact Fin.ext (by show 2048 * (k.val / 2048) + k.val % 2048 = k.val; omega)

end Cert.Product
end
-- ==== Proof.UpVal.lean ====
module
public import proofs.«01_k».proof.Defs
public import proofs.«01_k».proof.Proof.Product
public import proofs.«01_k».proof.Proof.Gen.UpIdeal.Value
public import proofs.«01_k».proof.Proof.Gen.UpReferenceIdeal.Run
public import Idealize.ShloMosaic.Lib.Pipeline.ValueKit
public import Idealize.ShloMosaic.Lib.Pointwise
@[expose] public section
set_option maxRecDepth 16384
noncomputable section
namespace Cert.UpIdeal.Prod
open Cert.UpIdeal Cert.UpIdeal.Gen
open Idealize.ShloMosaic Idealize.ShloMosaic.TcCoe Idealize.ShloMosaic.Tactic Idealize.SL.Sem Cert.Product

/-! # The product into the MLP, with its squared ReLU -/

/-- The whole result: the square of the positive part of one product. -/
def result (x : FVec Ideal S8256x4096 .bf16) (w : FVec Ideal S4096x16384 .f32) : FVec Ideal S8256x16384 .bf16 := fun i =>
  reluSq (dot (fun k : Fin 4096 => x (ix2 (i 0) k)) fun k => w (ix2 k (i 1)))

/-- One block's payload at an index. -/
theorem pay_at (a : FVec Ideal S1376x4096 .bf16) (b : FVec Ideal S4096x512 .f32) (p : Fin 1376) (q : Fin 512) :
    k0_pay1 (F := Ideal) a b (ix2 p q) = reluSq (dot (fun k : Fin 4096 => a (ix2 p k)) fun k => b (ix2 k q)) := by
  pointwise [k0_pay1, reluSq, dot]

variable (m : (ℓ : Loc nD τ sig) → Buf (Elt Ideal) ℓ) (ρ : Dev nD → PrngReg)

/-- The block of each window at a point. -/
theorem idx : ∀ t : Fin cfg0.N, win0_0.index t = ![(grid0.coords t 0).val, 0] ∧ win0_1.index t = ![0, (grid0.coords t 1).val]
    ∧ win0_2.index t = ![(grid0.coords t 0).val, (grid0.coords t 1).val] := (by decide +kernel : ∀ t : Fin grid0.N, _)

/-- The array after the run is the whole result. -/
theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_at]
  refine congrArg reluSq (dot_congr (fun k => ?_) fun k => ?_) <;> blk_ext [iblk, V, idx t]
/-- The kernel ends with the whole result, its arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.UpIdeal.Prod

namespace Cert.UpReferenceIdeal.Prod
open Cert.UpReferenceIdeal Cert.UpReferenceIdeal.Gen
open Idealize.ShloMosaic Idealize.ShloMosaic.TcCoe Idealize.SL.Sem

/-- The reference ends with the same whole result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.UpIdeal.Prod.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext i
    idx_vars i
    pointwise [Cert.UpIdeal.Prod.result, Cert.Product.reluSq, Cert.Product.dot]), (h c).2⟩) (Value.run m ρ)

end Cert.UpReferenceIdeal.Prod
end
-- ==== Proof.DownVal.lean ====
module
public import proofs.«01_k».proof.Defs
public import proofs.«01_k».proof.Proof.Product
public import proofs.«01_k».proof.Proof.Gen.DownIdeal.Value
public import proofs.«01_k».proof.Proof.Gen.DownReferenceIdeal.Run
public import Idealize.ShloMosaic.Lib.Pipeline.ValueKit
public import Idealize.ShloMosaic.Lib.Pipeline.ReadBack
public import Idealize.ShloMosaic.Lib.Pointwise
@[expose] public section
set_option maxRecDepth 16384
noncomputable section
namespace Cert.DownIdeal.Prod
open Cert.DownIdeal Cert.DownIdeal.Gen
open Idealize.ShloMosaic Idealize.ShloMosaic.TcCoe Idealize.ShloMosaic.Tactic Idealize.SL.Sem Cert.Product

/-! # The product out of the MLP -/

/-- The whole result: one product. -/
def result (x : FVec Ideal S8256x16384 .bf16) (w : FVec Ideal S16384x4096 .f32) : FVec Ideal S8256x4096 .f32 := fun i =>
  dot (fun k : Fin 16384 => x (ix2 (i 0) k)) fun k => w (ix2 k (i 1))

/-- What one step adds to the accumulator, at an index. -/
theorem pay_at (z : FVec Ideal S1376x1024 .f32) (a : FVec Ideal S1376x2048 .bf16) (b : FVec Ideal S2048x1024 .f32) (p : Fin 1376) (q : Fin 1024) :
    k0_pay2 (F := Ideal) z a b (ix2 p q) = z (ix2 p q) + dot (fun k : Fin 2048 => a (ix2 p k)) fun k => b (ix2 k q) := by
  pointwise [k0_pay2, dot]

/-- The accumulator starts at zero. -/
theorem zero_at (p : Fin 1376) (q : Fin 1024) : k0_pay1 (F := Ideal) (ix2 p q) = 0 := by
  pointwise [k0_pay1]

variable (m : (ℓ : Loc nD τ sig) → Buf (Elt Ideal) ℓ) (ρ : Dev nD → PrngReg)

/-- The block of each window at a point. -/
theorem idx : ∀ t : Fin cfg0.N, win0_0.index t = ![t.val / 32, t.val % 8] ∧ win0_1.index t = ![t.val % 8, t.val / 8 % 4]
    ∧ win0_2.index t = ![t.val / 32, t.val / 8 % 4] := (by decide +kernel : ∀ t : Fin grid0.N, _)

/-- The addend of point t. -/
def term (c : Dev nD) (t : Fin cfg0.N) : S1376x1024.Idx → EReal := fun y =>
  dot (fun k : Fin 2048 => iblk m c 0 t (ix2 (y 0) k)) fun k => iblk m c 1 t (ix2 k (y 1))

/-- At the first point of a run the accumulator is the point's addend. -/
theorem acc_first (c : Dev nD) (t : Fin cfg0.N) (h : t.val % 8 = 0) (y : S1376x1024.Idx) : (outsAt0 m c t.val t.isLt).2 y = 0 + term m c t y := by
  rw [outsAt0_A m c t h (by omega)]
  frame_out
  idx_vars y
  rw [pay_at, zero_at]
  rfl

/-- At a later point the addend is added. -/
theorem acc_step (c : Dev nD) (t : Fin cfg0.N) (h : ¬t.val % 8 = 0) (y : S1376x1024.Idx) :
    (outsAt0 m c t.val t.isLt).2 y = (outsAt0 m c (t.val - 1) (Nat.lt_of_le_of_lt (Nat.sub_le _ _) t.isLt)).2 y + term m c t y := by
  by_cases h7 : t.val % 8 = 7
  · rw [outsAt0_C m c t h h7]
    frame_out
    simp only [read_unread_whole]
    idx_vars y
    rw [pay_at]
    rfl
  · rw [outsAt0_B m c t h h7]
    frame_out
    simp only [read_unread_whole]
    idx_vars y
    rw [pay_at]
    rfl

/-- The last point of a run writes the accumulator out. -/
theorem out_last (c : Dev nD) (t : Fin cfg0.N) (h : t.val % 8 = 7) : (outsAt0 m c t.val t.isLt).1 = (outsAt0 m c t.val t.isLt).2 := by
  rw [outsAt0_C m c t (by omega) h]
  frame_out

/-- What a run of eight points writes out, at an index: the sum of its addends. -/
theorem out_sum (c : Dev nD) (t : Fin cfg0.N) (h : t.val % 8 = 7) (hN : t.val < 192) (y : S1376x1024.Idx) :
    (outsAt0 m c t.val t.isLt).1 y = ∑ s : Fin 8, term m c ⟨8 * (t.val / 8) + s.val, lt_of_lt_of_eq (by omega) N_0.symm⟩ y := by
  rw [out_last m c t h]
  exact (Pipeline.eq_sum_fin_of_reset_step_apply_of_flush (fun n h => (outsAt0 m c n h).2) 8 (fun _ => (0 : EReal)) (term m c) (acc_first m c) (acc_step m c) t h y).trans (zero_add _)

/-- The array after the run is the whole result. -/
theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  have hN : t.val < 192 := lt_of_lt_of_eq t.isLt N_0
  blk_simp
  rw [after0_2]
  refine (out_sum m c t h7 hN _).trans (Eq.trans (Finset.sum_congr rfl fun s _ => ?_) (dot_runs _ _))
  refine dot_congr (fun k => ?_) fun k => ?_ <;> blk_ext [iblk, V, idx t, idx ⟨8 * (t.val / 8) + s.val, lt_of_lt_of_eq (by omega) N_0.symm⟩]
/-- The kernel ends with the whole result, its arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.DownIdeal.Prod

namespace Cert.DownReferenceIdeal.Prod
open Cert.DownReferenceIdeal Cert.DownReferenceIdeal.Gen
open Idealize.ShloMosaic Idealize.ShloMosaic.TcCoe Idealize.SL.Sem

/-- The reference ends with the same whole result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Cert.DownIdeal.Prod.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext i
    idx_vars i
    pointwise [Cert.DownIdeal.Prod.result, Cert.Product.dot]), (h c).2⟩) (Value.run m ρ)

end Cert.DownReferenceIdeal.Prod
end
-- ==== Proof.MixOutVal.lean ====
module
public import proofs.«01_k».proof.Defs
public import proofs.«01_k».proof.Proof.Product
public import proofs.«01_k».proof.Proof.Gen.MixOutIdeal.Value
public import proofs.«01_k».proof.Proof.Gen.MixOutReferenceIdeal.Run
public import Idealize.ShloMosaic.Lib.Pipeline.ValueKit
public import Idealize.ShloMosaic.Lib.Pointwise
@[expose] public section
set_option maxRecDepth 16384
noncomputable section
namespace Cert.MixOutIdeal.Prod
open Cert.MixOutIdeal Cert.MixOutIdeal.Gen
open Idealize.ShloMosaic Idealize.ShloMosaic.TcCoe Idealize.ShloMosaic.Tactic Idealize.SL.Sem Cert.Product

/-! # The product with the attention outputs -/

/-- The whole result: one product. -/
def result (x : FVec Ideal S8256x4096 .bf16) (w : FVec Ideal S4096x4096 .f32) : FVec Ideal S8256x4096 .f32 := fun i =>
  dot (fun k : Fin 4096 => x (ix2 (i 0) k)) fun k => w (ix2 k (i 1))

/-- One block's payload at an index. -/
theorem pay_at (a : FVec Ideal S1376x4096 .bf16) (b : FVec Ideal S4096x512 .f32) (p : Fin 1376) (q : Fin 512) :
    k0_pay1 (F := Ideal) a b (ix2 p q) = dot (fun k : Fin 4096 => a (ix2 p k)) fun k => b (ix2 k q) := by
  pointwise [k0_pay1, dot]

variable (m : (ℓ : Loc nD τ sig) → Buf (Elt Ideal) ℓ) (ρ : Dev nD → PrngReg)

/-- The block of each window at a point. -/
theorem idx : ∀ t : Fin cfg0.N, win0_0.index t = ![(grid0.coords t 0).val, 0] ∧ win0_1.index t = ![0, (grid0.coords t 1).val]
    ∧ win0_2.index t = ![(grid0.coords t 0).val, (grid0.coords t 1).val] := (by decide +kernel : ∀ t : Fin grid0.N, _)

/-- The array after the run is the whole result. -/
theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_at]
  refine dot_congr (fun k => ?_) fun k => ?_ <;> blk_ext [iblk, V, idx t]
/-- The kernel ends with the whole result, its arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.MixOutIdeal.Prod

namespace Cert.MixOutReferenceIdeal.Prod
open Cert.MixOutReferenceIdeal Cert.MixOutReferenceIdeal.Gen
open Idealize.ShloMosaic Idealize.ShloMosaic.TcCoe Idealize.SL.Sem

/-- The reference ends with the same whole result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = Cert.MixOutIdeal.Prod.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
    funext i
    idx_vars i
    pointwise [Cert.MixOutIdeal.Prod.result, Cert.Product.dot]), (h c).2⟩) (Value.run m ρ)

end Cert.MixOutReferenceIdeal.Prod
end
-- ==== Proof.InVal.lean ====
module
public import proofs.«01_k».proof.Defs
public import proofs.«01_k».proof.Proof.Product
public import proofs.«01_k».proof.Proof.Gen.InIdeal.Frame
public import proofs.«01_k».proof.Proof.Gen.InReferenceIdeal.Run
public import Idealize.ShloMosaic.Lib.Pipeline.ValueKit
public import Idealize.ShloMosaic.Lib.Pointwise
@[expose] public section
set_option maxRecDepth 16384
noncomputable section
namespace Cert.InIdeal.Prod
open Cert.InIdeal Cert.InIdeal.Gen
open Idealize.ShloMosaic Idealize.ShloMosaic.TcCoe Idealize.ShloMosaic.Tactic Idealize.SL.Sem Cert.Product

/-! # The projection in -/

/-- The product in the order of the weight's own columns. -/
def prod {R : ℕ} (x : FVec Ideal ⟨2, ![R, 4096]⟩ .bf16) (w : FVec Ideal S1x4096x4176 .f32) : FVec Ideal ⟨2, ![R, 4176]⟩ .f32 := fun i =>
  dot (fun k : Fin 4096 => x (ix2 (i 0) k)) fun k => w (ix3 0 k (i 1))

/-- The weight with its columns in the kernel's order, zeros between. -/
def perm (w : FVec Ideal S1x4096x4176 .f32) : FVec Ideal S4096x4608 .bf16 :=
  let v : FVec Ideal S4096x4176 .f32 := shapeCast S4096x4176 w shapeCasts_S1x4096x4176_S4096x4176
  truncf .bf16 (concatenate S4096x4608 1
    [⟨S4096x2048, extractStridedSlice S4096x2048 ![0, 0] v slices_S4096x4176_S4096x2048_0_0⟩,
      ⟨S4096x1024, extractStridedSlice S4096x1024 ![0, 2576] v slices_S4096x4176_S4096x1024_0_2576⟩,
      ⟨S4096x512, extractStridedSlice S4096x512 ![0, 3600] v slices_S4096x4176_S4096x512_0_3600⟩,
      ⟨S4096x256, extractStridedSlice S4096x256 ![0, 2048] v slices_S4096x4176_S4096x256_0_2048⟩,
      ⟨S4096x256, extractStridedSlice S4096x256 ![0, 2304] v slices_S4096x4176_S4096x256_0_2304⟩,
      ⟨S4096x64, extractStridedSlice S4096x64 ![0, 4112] v slices_S4096x4176_S4096x64_0_4112⟩,
      ⟨S4096x64, broadcastInDim S4096x64 ![] bcast_S_S4096x64 (constant S_ .f32 0x00000000#32)⟩,
      ⟨S4096x16, extractStridedSlice S4096x16 ![0, 2560] v slices_S4096x4176_S4096x16_0_2560⟩,
      ⟨S4096x112, broadcastInDim S4096x112 ![] bcast_S_S4096x112 (constant S_ .f32 0x00000000#32)⟩,
      ⟨S4096x256, broadcastInDim S4096x256 ![] bcast_S_S4096x256 (constant S_ .f32 0x00000000#32)⟩]
    concatenates_S4096x2048_S4096x1024_S4096x512_S4096x256_S4096x256_S4096x64_S4096x64_S4096x16_S4096x112_S4096x256_S4096x4608_d1) bitsLt_bf16_f32

/-- The product with a reordered weight. -/
def ordered {R : ℕ} (x : FVec Ideal ⟨2, ![R, 4096]⟩ .bf16) (p : FVec Ideal S4096x4608 .bf16) : FVec Ideal ⟨2, ![R, 4608]⟩ .f32 := fun i =>
  dot (fun k : Fin 4096 => x (ix2 (i 0) k)) fun k => p (ix2 k (i 1))

/-- Columns `o …` of the reordered product are columns `o' …` of the product, where the weights are. -/
theorem piece {R : ℕ} (x : FVec Ideal ⟨2, ![R, 4096]⟩ .bf16) (w : FVec Ideal S1x4096x4176 .f32) {n o o' : ℕ}
    (h : (⟨2, ![R, 4608]⟩ : Shape).Slices ![0, o] ⟨2, ![R, n]⟩) (h' : (⟨2, ![R, 4176]⟩ : Shape).Slices ![0, o'] ⟨2, ![R, n]⟩)
    (ho : o + n ≤ 4608) (ho' : o' + n ≤ 4176)
    (hp : ∀ (k : Fin 4096) (q : Fin n), perm w (ix2 k ⟨o + q.val, by omega⟩) = w (ix3 0 k ⟨o' + q.val, by omega⟩)) :
    extractStridedSlice ⟨2, ![R, n]⟩ ![0, o] (ordered x (perm w)) h = extractStridedSlice ⟨2, ![R, n]⟩ ![0, o'] (prod x w) h' := by
  funext i
  obtain ⟨i0, i1, rfl⟩ : ∃ (a : Fin R) (b : Fin n), i = ix2 a b := ⟨i 0, i 1, funext fun a => by match a with | 0 => rfl | 1 => rfl⟩
  rw [extractStridedSlice_apply _ _ h _ (ix2 i0 ⟨o + i1.val, by omega⟩) (fun a => by match a with | 0 => exact (Nat.zero_add _).symm | 1 => rfl),
    extractStridedSlice_apply _ _ h' _ (ix2 i0 ⟨o' + i1.val, by omega⟩) (fun a => by match a with | 0 => exact (Nat.zero_add _).symm | 1 => rfl)]
  exact dot_congr (fun k => rfl) fun k => hp k i1

/-- Where a column of the weight stands in the kernel's order. -/
def Moves (j j' : ℕ) : Prop :=
  (j < 2048 ∧ j' = j) ∨ (2048 ≤ j ∧ j < 3072 ∧ j' = j + 528) ∨ (3072 ≤ j ∧ j < 3584 ∧ j' = j + 528) ∨ (3584 ≤ j ∧ j < 3840 ∧ j = j' + 1536)
    ∨ (3840 ≤ j ∧ j < 4096 ∧ j = j' + 1536) ∨ (4096 ≤ j ∧ j < 4160 ∧ j' = j + 16) ∨ (4224 ≤ j ∧ j < 4240 ∧ j = j' + 1664)

theorem perm_at (w : FVec Ideal S1x4096x4176 .f32) (k : Fin 4096) (j : Fin 4608) (j' : Fin 4176) (hj : Moves j.val j'.val) :
    perm w (ix2 k j) = w (ix3 0 k j') := by
  unfold Moves at hj
  pointwise [perm]
  split_ifs <;> first | (exfalso; omega) | exact congrArg (fun z => w (ix3 0 k z)) (Fin.ext (by simp only []; omega))

/-- One block's payload at an index. -/
theorem pay_at (a : FVec Ideal S1376x4096 .bf16) (b : FVec Ideal S4096x512 .bf16) (p : Fin 1376) (q : Fin 512) :
    k0_pay1 (F := Ideal) a b (ix2 p q) = dot (fun k : Fin 4096 => a (ix2 p k)) fun k => b (ix2 k q) := by
  pointwise [k0_pay1, dot]

variable (m : (ℓ : Loc nD τ sig) → Buf (Elt Ideal) ℓ) (ρ : Dev nD → PrngReg)

/-- The block of each window at a point. -/
theorem idx : ∀ t : Fin cfg0.N, win0_0.index t = ![(grid0.coords t 0).val, 0] ∧ win0_1.index t = ![0, (grid0.coords t 1).val]
    ∧ win0_2.index t = ![(grid0.coords t 0).val, (grid0.coords t 1).val] := (by decide +kernel : ∀ t : Fin grid0.N, _)

/-- The weight as the call finds it. -/
theorem V_w (c : Dev nD) : V m c main_v12 = perm (m ((c : Thread nD τ).loc main_arg1)) := by
  show StableHlo.after hostOps0 _ _ = _
  after_results <;> rfl

/-- The array after the run is the reordered product. -/
theorem final (c : Dev nD) : (dats m 0 c).arrAt 2 cfg0.N = ordered (m ((c : Thread nD τ).loc main_arg0)) (perm (m ((c : Thread nD τ).loc main_arg1))) := by
  refine (dats m 0 c).arrAt_eq_of_covers 2 _ (by decide +kernel) fun t hf y => ?_
  blk_simp
  rw [after0_2]
  frame_out
  idx_vars y
  rw [pay_at, ← V_w m c]
  refine dot_congr (fun k => ?_) fun k => ?_
  · blk_ext [iblk, V, idx t]
  · blk_ext [iblk, idx t]

/-- What the operations after the call leave at a result, over the array of the call. -/
theorem tails (c : Dev nD) (b : Ref sig .tc) : Pipeline.afterTail₀ cfgs (dats m) 0 (V0 m) [hostOps1] c b
    = StableHlo.after hostOps1 (Pipeline.withArrays cfg0.spec c (V0 m c) fun w => (dats m 0 c).arrAt w cfg0.N) (Proc.devRef .tc b) := rfl

theorem arr (c : Dev nD) : Pipeline.withArrays cfg0.spec c (V0 m c) (fun w => (dats m 0 c).arrAt w cfg0.N) (Proc.devRef .tc main_v13)
    = ordered (m ((c : Thread nD τ).loc main_arg0)) (perm (m ((c : Thread nD τ).loc main_arg1))) :=
  (Pipeline.withArrays_arr cfg0.spec launch0.win.arr_inj c (V0 m c) (fun w => (dats m 0 c).arrAt w cfg0.N) 2).trans (final m c)

/-- The seven results, columns of the product. -/
def keys (x : FVec Ideal S8256x4096 .bf16) (w : FVec Ideal S1x4096x4176 .f32) : FVec Ideal S1x4x2064x2x128 .f32 :=
  shapeCast S1x4x2064x2x128 (extractStridedSlice S8256x256 ![0, 2048] (prod x w) (by decide)) shapeCasts_S8256x256_S1x4x2064x2x128
def values (x : FVec Ideal S8256x4096 .bf16) (w : FVec Ideal S1x4096x4176 .f32) : FVec Ideal S1x4x2064x2x128 .f32 :=
  shapeCast S1x4x2064x2x128 (extractStridedSlice S8256x256 ![0, 2304] (prod x w) (by decide)) shapeCasts_S8256x256_S1x4x2064x2x128
def queries (x : FVec Ideal S8256x4096 .bf16) (w : FVec Ideal S1x4096x4176 .f32) : FVec Ideal S8256x2048 .f32 := extractStridedSlice S8256x2048 ![0, 0] (prod x w) (by decide)
def latent (x : FVec Ideal S8256x4096 .bf16) (w : FVec Ideal S1x4096x4176 .f32) : FVec Ideal S8256x1024 .f32 := extractStridedSlice S8256x1024 ![0, 2576] (prod x w) (by decide)
def compressed (x : FVec Ideal S8256x4096 .bf16) (w : FVec Ideal S1x4096x4176 .f32) : FVec Ideal S8256x512 .f32 := extractStridedSlice S8256x512 ![0, 3600] (prod x w) (by decide)
def rotary (x : FVec Ideal S8256x4096 .bf16) (w : FVec Ideal S1x4096x4176 .f32) : FVec Ideal S8256x64 .f32 := extractStridedSlice S8256x64 ![0, 4112] (prod x w) (by decide)
def forget (x : FVec Ideal S8256x4096 .bf16) (w : FVec Ideal S1x4096x4176 .f32) : FVec Ideal S8256x16 .f32 := extractStridedSlice S8256x16 ![0, 2560] (prod x w) (by decide)

theorem results (c : Dev nD) (x : FVec Ideal S8256x4096 .bf16) (w : FVec Ideal S1x4096x4176 .f32)
    (hx : x = m ((c : Thread nD τ).loc main_arg0)) (hw : w = m ((c : Thread nD τ).loc main_arg1)) :
    let at' := Pipeline.afterTail₀ cfgs (dats m) 0 (V0 m) [hostOps1] c
    at' main_v15 = keys x w ∧ at' main_v17 = values x w ∧ at' main_v18 = queries x w ∧ at' main_v19 = latent x w
      ∧ at' main_v20 = compressed x w ∧ at' main_v21 = rotary x w ∧ at' main_v22 = forget x w := by
  have ha := arr m c
  rw [← hx, ← hw] at ha
  have hp : ∀ {o o' n : ℕ} (ho : o + n ≤ 4608) (ho' : o' + n ≤ 4176), (∀ q < n, Moves (o + q) (o' + q)) →
      ∀ (k : Fin 4096) (q : Fin n), perm w (ix2 k ⟨o + q.val, by omega⟩) = w (ix3 0 k ⟨o' + q.val, by omega⟩) :=
    fun ho ho' h k q => perm_at w k _ _ (h q.val q.isLt)
  refine ⟨?_, ?_, ?_, ?_, ?_, ?_, ?_⟩ <;> rw [tails]
  · rw [keys, ← piece x w (n := 256) (o := 3584) (o' := 2048) (h := slices_S8256x4608_S8256x256_0_3584) (by decide) (by decide) (by decide) (hp (by decide) (by decide) fun q hq => by unfold Moves; omega), ← ha]
    after_results <;> rfl
  · rw [values, ← piece x w (n := 256) (o := 3840) (o' := 2304) (h := slices_S8256x4608_S8256x256_0_3840) (by decide) (by decide) (by decide) (hp (by decide) (by decide) fun q hq => by unfold Moves; omega), ← ha]
    after_results <;> rfl
  · rw [queries, ← piece x w (n := 2048) (o := 0) (o' := 0) (h := slices_S8256x4608_S8256x2048_0_0) (by decide) (by decide) (by decide) (hp (by decide) (by decide) fun q hq => by unfold Moves; omega), ← ha]
    after_results <;> rfl
  · rw [latent, ← piece x w (n := 1024) (o := 2048) (o' := 2576) (h := slices_S8256x4608_S8256x1024_0_2048) (by decide) (by decide) (by decide) (hp (by decide) (by decide) fun q hq => by unfold Moves; omega), ← ha]
    after_results <;> rfl
  · rw [compressed, ← piece x w (n := 512) (o := 3072) (o' := 3600) (h := slices_S8256x4608_S8256x512_0_3072) (by decide) (by decide) (by decide) (hp (by decide) (by decide) fun q hq => by unfold Moves; omega), ← ha]
    after_results <;> rfl
  · rw [rotary, ← piece x w (n := 64) (o := 4096) (o' := 4112) (h := slices_S8256x4608_S8256x64_0_4096) (by decide) (by decide) (by decide) (hp (by decide) (by decide) fun q hq => by unfold Moves; omega), ← ha]
    after_results <;> rfl
  · rw [forget, ← piece x w (n := 16) (o := 4224) (o' := 2560) (h := slices_S8256x4608_S8256x16_0_4224) (by decide) (by decide) (by decide) (hp (by decide) (by decide) fun q hq => by unfold Moves; omega), ← ha]
    after_results <;> rfl

/-- The kernel ends with the seven results, its arguments unchanged. -/
theorem run : θ_run defs (onTc (τ := τ) (main (F := Ideal))) ⟨m, fun _ => 0, ρ⟩ fun r => ∀ c : Dev nD,
      r.2.mem ((c : Thread nD τ).loc main_v15) = keys (m ((c : Thread nD τ).loc main_arg0)) (m ((c : Thread nD τ).loc main_arg1))
      ∧ r.2.mem ((c : Thread nD τ).loc main_v17) = values (m ((c : Thread nD τ).loc main_arg0)) (m ((c : Thread nD τ).loc main_arg1))
      ∧ r.2.mem ((c : Thread nD τ).loc main_v18) = queries (m ((c : Thread nD τ).loc main_arg0)) (m ((c : Thread nD τ).loc main_arg1))
      ∧ r.2.mem ((c : Thread nD τ).loc main_v19) = latent (m ((c : Thread nD τ).loc main_arg0)) (m ((c : Thread nD τ).loc main_arg1))
      ∧ r.2.mem ((c : Thread nD τ).loc main_v20) = compressed (m ((c : Thread nD τ).loc main_arg0)) (m ((c : Thread nD τ).loc main_arg1))
      ∧ r.2.mem ((c : Thread nD τ).loc main_v21) = rotary (m ((c : Thread nD τ).loc main_arg0)) (m ((c : Thread nD τ).loc main_arg1))
      ∧ r.2.mem ((c : Thread nD τ).loc main_v22) = forget (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h1, h2, h3, h4, h5, h6, h7⟩ := results m c _ _ rfl rfl
    exact ⟨((h.1 c).2 main_v15 (by decide)).trans h1, ((h.1 c).2 main_v17 (by decide)).trans h2, ((h.1 c).2 main_v18 (by decide)).trans h3,
      ((h.1 c).2 main_v19 (by decide)).trans h4, ((h.1 c).2 main_v20 (by decide)).trans h5, ((h.1 c).2 main_v21 (by decide)).trans h6,
      ((h.1 c).2 main_v22 (by decide)).trans h7, h.2 c⟩) (θ_run_and (run_main m ρ) (unchanged m ρ))

end Cert.InIdeal.Prod

namespace Cert.InReferenceIdeal.Prod
open Cert.InReferenceIdeal Cert.InReferenceIdeal.Gen
open Idealize.ShloMosaic Idealize.ShloMosaic.TcCoe Idealize.SL.Sem Cert.Product

/-- The reference's product is the product. -/
theorem prod_eq (x : FVec Ideal S8256x4096 .bf16) (w : FVec Ideal S1x4096x4176 .f32) :
    (Host.dotGeneral dot_S8256x4096_S4096x4176_S8256x4176_1_0_0_1_n_n none (extf .f32 x bitsLt_bf16_f32) (shapeCast S4096x4176 w shapeCasts_S1x4096x4176_S4096x4176) : FVec Ideal S8256x4176 .f32)
      = Cert.InIdeal.Prod.prod x w := by
  funext i
  idx_vars i
  pointwise [Cert.InIdeal.Prod.prod, dot]

/-- The reference ends with the same seven. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = Cert.InIdeal.Prod.keys (m ((c.tc : Thread nD τ).loc main_arg0)) (m ((c.tc : Thread nD τ).loc main_arg1))
      ∧ r.2.mem ((c.tc : Thread nD τ).loc main_v11) = Cert.InIdeal.Prod.values (m ((c.tc : Thread nD τ).loc main_arg0)) (m ((c.tc : Thread nD τ).loc main_arg1))
      ∧ r.2.mem ((c.tc : Thread nD τ).loc main_v3) = Cert.InIdeal.Prod.queries (m ((c.tc : Thread nD τ).loc main_arg0)) (m ((c.tc : Thread nD τ).loc main_arg1))
      ∧ r.2.mem ((c.tc : Thread nD τ).loc main_v7) = Cert.InIdeal.Prod.latent (m ((c.tc : Thread nD τ).loc main_arg0)) (m ((c.tc : Thread nD τ).loc main_arg1))
      ∧ r.2.mem ((c.tc : Thread nD τ).loc main_v8) = Cert.InIdeal.Prod.compressed (m ((c.tc : Thread nD τ).loc main_arg0)) (m ((c.tc : Thread nD τ).loc main_arg1))
      ∧ r.2.mem ((c.tc : Thread nD τ).loc main_v9) = Cert.InIdeal.Prod.rotary (m ((c.tc : Thread nD τ).loc main_arg0)) (m ((c.tc : Thread nD τ).loc main_arg1))
      ∧ r.2.mem ((c.tc : Thread nD τ).loc main_v6) = Cert.InIdeal.Prod.forget (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    have hc := h c
    rw [prod_eq] at hc
    exact hc) (Value.run m ρ)

end Cert.InReferenceIdeal.Prod
end
-- ==== Proof.Rms.lean ====
module
public import Idealize.ShloMosaic.PureOps.Ideal
public import Idealize.ShloMosaic.Lib.Pointwise
@[expose] public section
set_option maxRecDepth 16384
noncomputable section
namespace Cert.Rms
open Idealize.ShloMosaic Idealize.ShloMosaic.Tactic

/-! # One entry of a normalised row -/

/-- The entry `v` of a row `y` over the root of the row's mean square plus the small constant, times the gain `g`. `c` is the
    row's length. -/
def rms {n : ℕ} (c : BitVec 32) (y : Fin n → EReal) (v g : EReal) : EReal :=
  v * Ideal.rsqrt (Ideal.div (∑ k : Fin n, y k * y k) (Ideal.ofBits FTy.f32 c) + Ideal.ofBits FTy.f32 897988541#32) * g

theorem rms_congr {n : ℕ} {c : BitVec 32} {y y' : Fin n → EReal} {v v' g g' : EReal} (hy : ∀ k, y k = y' k) (hv : v = v') (hg : g = g') :
    rms c y v g = rms c y' v' g' := by
  rw [funext hy, hv, hg]

/-- The host's spelling of a normalised row. -/
theorem host_at {R N : ℕ} (c : BitVec 32) (y : FVec Ideal ⟨2, ![R, N]⟩ .f32) (g : FVec Ideal ⟨2, ![1, N]⟩ .f32)
    (h1 : (⟨2, ![R, 1]⟩ : Shape).BroadcastsInDim ⟨2, ![R, N]⟩ ![0, 1]) (h2 : (⟨1, ![R]⟩ : Shape).BroadcastsInDim ⟨2, ![R, 1]⟩ ![0])
    (h3 : (⟨2, ![R, N]⟩ : Shape).ReducesTo [1] ⟨1, ![R]⟩) (h4 : 0 < (⟨0, ![]⟩ : Shape).numel) (h5 : (⟨0, ![]⟩ : Shape).BroadcastsInDim ⟨2, ![R, 1]⟩ ![])
    (h6 : (⟨2, ![1, N]⟩ : Shape).BroadcastsInDim ⟨2, ![R, N]⟩ ![0, 1]) (hR : R ≠ 1) (hN : N ≠ 1) (r : Fin R) (q : Fin N) :
    mulf (mulf y (broadcastInDim ⟨2, ![R, N]⟩ ![0, 1] h1 (Host.rsqrt (addf (Host.divf (broadcastInDim ⟨2, ![R, 1]⟩ ![0] h2
      (Host.reduceAdd (mulf y y) (constant ⟨0, ![]⟩ .f32 0x00000000#32) h3 h4)) (broadcastInDim ⟨2, ![R, 1]⟩ ![] h5 (constant ⟨0, ![]⟩ .f32 c)))
      (broadcastInDim ⟨2, ![R, 1]⟩ ![] h5 (constant ⟨0, ![]⟩ .f32 0x358637BD#32)))))) (broadcastInDim ⟨2, ![R, N]⟩ ![0, 1] h6 g) (ix2 r q)
    = rms c (fun k => y (ix2 r k)) (y (ix2 r q)) (g (ix2 0 q)) := by
  pointwise [rms]
  refine congrArg₂ (· * ·) (congrArg (fun s => y (ix2 r q) * Ideal.rsqrt (Ideal.div s _ + _)) (Finset.sum_congr rfl fun x _ => ?_)) (congrArg g ?_)
  · have e : ∀ (f : (a : Fin 1) → Fin (![R] a)), f 0 = r → y (ix2 (Shape.Idx.norm (s := ⟨1, ![R]⟩) f 0) x) = y (ix2 r x) := fun f hf => by
      rw [← hf]; rfl
    rw [e _ ?_]
    simp [hR]
    exact dif_neg hR
  · funext a
    match a with
    | 0 => exact Subsingleton.elim (α := Fin 1) _ _
    | 1 => exact dif_neg hN

end Cert.Rms
end
-- ==== Proof.FinVal.lean ====
module
public import proofs.«01_k».proof.Defs
public import proofs.«01_k».proof.Proof.Rms
public import proofs.«01_k».proof.Proof.Gen.FinIdeal.Frame
public import proofs.«01_k».proof.Proof.Gen.FinReferenceIdeal.Run
public import Idealize.ShloMosaic.Lib.Pipeline.ValueKit
public import Idealize.ShloMosaic.Lib.Pointwise
@[expose] public section
set_option maxRecDepth 16384
noncomputable section
namespace Cert.FinIdeal.Prod
open Cert.FinIdeal Cert.FinIdeal.Gen
open Idealize.ShloMosaic Idealize.ShloMosaic.TcCoe Idealize.ShloMosaic.Tactic Idealize.SL.Sem Cert.Rms

/-! # The last call: the residual plus the normalised output of the MLP -/

/-- All rows, meta rows included. -/
def rows {R : ℕ} (x y : FVec Ideal ⟨2, ![R, 4096]⟩ .f32) (g : FVec Ideal ⟨2, ![1, 4096]⟩ .f32) : FVec Ideal ⟨2, ![R, 4096]⟩ .f32 := fun i =>
  x (ix2 (i 0) (i 1)) + rms 1166016512#32 (fun k : Fin 4096 => y (ix2 (i 0) k)) (y (ix2 (i 0) (i 1))) (g (ix2 0 (i 1)))

/-- Each sequence's rows without its meta rows. -/
def cut (z : FVec Ideal S8256x4096 .f32) : FVec Ideal S4x2048x4096 .f32 :=
  extractStridedSlice S4x2048x4096 ![0, 16, 0] (shapeCast S4x2064x4096 z shapeCasts_S8256x4096_S4x2064x4096) slices_S4x2064x4096_S4x2048x4096_0_16_0

/-- One block's payload at an index. -/
theorem pay_at (a b : FVec Ideal S192x4096 .f32) (g : FVec Ideal S1x4096 .f32) (p : Fin 192) (q : Fin 4096) :
    k0_pay1 (F := Ideal) a b g (ix2 p q) = a (ix2 p q) + rms 1166016512#32 (fun k : Fin 4096 => b (ix2 p k)) (b (ix2 p q)) (g (ix2 0 q)) := by
  pointwise [k0_pay1, rms]

variable (m : (ℓ : Loc nD τ sig) → Buf (Elt Ideal) ℓ) (ρ : Dev nD → PrngReg)

/-- The block of each window at a point. -/
theorem idx : ∀ t : Fin cfg0.N, win0_0.index t = ![(grid0.coords t 0).val, 0] ∧ win0_1.index t = ![(grid0.coords t 0).val, 0]
    ∧ win0_2.index t = ![0, 0] ∧ win0_3.index t = ![(grid0.coords t 0).val, 0] := (by decide +kernel : ∀ t : Fin grid0.N, _)

/-- The gain as the call finds it. -/
theorem V_g (c : Dev nD) : V m c main_v1 = (m ((c : Thread nD τ).loc main_arg2) : FVec Ideal S1x4096 .f32) := by
  have h : V m c main_v1 = shapeCast S1x4096 (shapeCast S4096 (m ((c : Thread nD τ).loc main_arg2)) shapeCasts_S1x4096_S4096) shapeCasts_S4096_S1x4096 := by
    show StableHlo.after hostOps0 _ _ = _
    after_results <;> rfl
  rw [h]
  funext i
  idx_vars i
  obtain rfl : 0 = i0 := Subsingleton.elim _ _
  pointwise []

/-- The array after the run is all the rows. -/
theorem final (c : Dev nD) : (dats m 0 c).arrAt 3 cfg0.N = rows (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  rw [pay_at]
  refine congrArg₂ (· + ·) ?_ (rms_congr (fun k => ?_) ?_ ?_)
  · blk_ext [iblk, V, idx t]
  · blk_ext [iblk, V, idx t]
  · blk_ext [iblk, V, idx t]
  · rw [← V_g m c]
    blk_ext [iblk, idx t]

/-- The operations after the call drop the meta rows. -/
theorem tail (c : Dev nD) : Pipeline.afterTail₀ cfgs (dats m) 0 (V0 m) [hostOps1] c main_v4
    = cut ((dats m 0 c).arrAt 3 cfg0.N) := by
  unfold Pipeline.afterTail₀
  rw [← Pipeline.withArrays_arr cfg0.spec launch0.win.arr_inj c (V0 m c) (fun w => (dats m 0 c).arrAt w cfg0.N) 3]
  after_results <;> rfl

/-- The kernel ends with the rows of the prompt, its arguments unchanged. -/
theorem run : θ_run defs (onTc (τ := τ) (main (F := Ideal))) ⟨m, fun _ => 0, ρ⟩ fun r => ∀ c : Dev nD,
      r.2.mem ((c : Thread nD τ).loc main_v4) = cut (rows (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v4 (by decide)).trans ((tail m c).trans (by rw [final])), h.2 c⟩)
    (θ_run_and (run_main m ρ) (unchanged m ρ))

end Cert.FinIdeal.Prod

namespace Cert.FinReferenceIdeal.Prod
open Cert.FinReferenceIdeal Cert.FinReferenceIdeal.Gen
open Idealize.ShloMosaic Idealize.ShloMosaic.TcCoe Idealize.SL.Sem

/-- The reference ends with the same rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.FinIdeal.Prod.cut (Cert.FinIdeal.Prod.rows (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (congrArg Cert.FinIdeal.Prod.cut (funext fun i => by
    idx_vars i
    exact congrArg (fun z : EReal => (_ : EReal) + z) (Cert.Rms.host_at _ _ _ _ _ _ _ _ _ (by decide) (by decide) _ _))), (h c).2⟩) (Value.run m ρ)

end Cert.FinReferenceIdeal.Prod
end
-- ==== Proof.NormVal.lean ====
module
public import proofs.«01_k».proof.Defs
public import proofs.«01_k».proof.Proof.Rms
public import proofs.«01_k».proof.Proof.Gen.NormIdeal.Value
public import proofs.«01_k».proof.Proof.Gen.NormReferenceIdeal.Run
public import Idealize.ShloMosaic.Lib.Pipeline.ValueKit
public import Idealize.ShloMosaic.Lib.Pointwise
@[expose] public section
set_option maxRecDepth 16384
noncomputable section
namespace Cert.NormIdeal.Prod
open Cert.NormIdeal Cert.NormIdeal.Gen
open Idealize.ShloMosaic Idealize.ShloMosaic.TcCoe Idealize.ShloMosaic.Tactic Idealize.SL.Sem Cert.Rms

/-! # The first call: the rows of the prompt behind the meta rows, each normalised -/

/-- The rows of all sequences, each behind the meta rows. -/
def stack (x : FVec Ideal S4x2048x4096 .f32) (e : FVec Ideal S16x4096 .f32) : FVec Ideal S8256x4096 .f32 :=
  shapeCast S8256x4096 (concatenate S4x2064x4096 1 [⟨S4x16x4096, broadcastInDim S4x16x4096 ![0, 1, 2] bcast_S1x16x4096_S4x16x4096_0_1_2 (broadcastInDim S1x16x4096 ![1, 2] bcast_S16x4096_S1x16x4096_1_2 e)⟩, ⟨S4x2048x4096, x⟩] concatenates_S4x16x4096_S4x2048x4096_S4x2064x4096_d1) shapeCasts_S4x2064x4096_S8256x4096

/-- The whole result: every row normalised. -/
def result (z : FVec Ideal S8256x4096 .f32) (g : FVec Ideal S1x4096 .f32) : FVec Ideal S8256x4096 .bf16 := fun i =>
  rms 1166016512#32 (fun k : Fin 4096 => z (ix2 (i 0) k)) (z (ix2 (i 0) (i 1))) (g (ix2 0 (i 1)))

/-- One block's payload at an index. -/
theorem pay_at (a : FVec Ideal S192x4096 .f32) (g : FVec Ideal S1x4096 .f32) (p : Fin 192) (q : Fin 4096) :
    k0_pay1 (F := Ideal) a g (ix2 p q) = rms 1166016512#32 (fun k : Fin 4096 => a (ix2 p k)) (a (ix2 p q)) (g (ix2 0 q)) := by
  pointwise [k0_pay1, rms]

variable (m : (ℓ : Loc nD τ sig) → Buf (Elt Ideal) ℓ) (ρ : Dev nD → PrngReg)

/-- The block of each window at a point. -/
theorem idx : ∀ t : Fin cfg0.N, win0_0.index t = ![(grid0.coords t 0).val, 0] ∧ win0_1.index t = ![0, 0]
    ∧ win0_2.index t = ![(grid0.coords t 0).val, 0] := (by decide +kernel : ∀ t : Fin grid0.N, _)

/-- The rows as the call finds them. -/
theorem V_x (c : Dev nD) : V m c main_v3 = stack (m ((c : Thread nD τ).loc main_arg0)) (m ((c : Thread nD τ).loc main_arg1)) := by
  show StableHlo.after hostOps0 _ _ = _
  after_results <;> rfl

/-- The gain as the call finds it. -/
theorem V_g (c : Dev nD) : V m c main_v5 = (m ((c : Thread nD τ).loc main_arg2) : FVec Ideal S1x4096 .f32) := by
  refine Eq.trans ?_ (shapeCast_shapeCast (t := S4096) (m ((c : Thread nD τ).loc main_arg2) : FVec Ideal S1x4096 .f32) shapeCasts_S1x4096_S4096 shapeCasts_S4096_S1x4096)
  show StableHlo.after hostOps0 _ _ = _
  after_results <;> rfl

/-- The array after the run is the whole result. -/
theorem final (c : Dev nD) : (dats m 0 c).arrAt 2 cfg0.N = result (stack (m ((c : Thread nD τ).loc main_arg0)) (m ((c : Thread nD τ).loc main_arg1))) (m ((c : Thread nD τ).loc main_arg2)) := by
  refine (dats m 0 c).arrAt_eq_of_covers 2 _ (by decide +kernel) fun t hf y => ?_
  blk_simp
  rw [after0_2]
  frame_out
  idx_vars y
  rw [pay_at, ← V_x m c, ← V_g m c]
  refine rms_congr (fun k => ?_) ?_ ?_ <;> blk_ext [iblk, idx t]

/-- The kernel ends with the whole result, its arguments unchanged. -/
theorem run : θ_run defs (onTc (τ := τ) (main (F := Ideal))) ⟨m, fun _ => 0, ρ⟩ fun r => ∀ c : Dev nD,
      r.2.mem ((c : Thread nD τ).loc main_v6) = result (stack (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.NormIdeal.Prod

namespace Cert.NormReferenceIdeal.Prod
open Cert.NormReferenceIdeal Cert.NormReferenceIdeal.Gen
open Idealize.ShloMosaic Idealize.ShloMosaic.TcCoe Idealize.ShloMosaic.Tactic Idealize.SL.Sem

/-- The reference ends with the same whole result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = Cert.NormIdeal.Prod.result (Cert.NormIdeal.Prod.stack (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by
    idx_vars i
    exact Cert.Rms.host_at _ (Cert.NormIdeal.Prod.stack _ _) _ _ _ _ _ _ _ (by decide) (by decide) _ _), (h c).2⟩) (Value.run m ρ)

end Cert.NormReferenceIdeal.Prod
end
-- ==== Proof.Turn.lean ====
module
public import Idealize.ShloMosaic.PureOps.Ideal
public import Idealize.ShloMosaic.Lib.Pointwise
public import proofs.«01_k».proof.Proof.Rms
@[expose] public section
set_option maxRecDepth 16384
noncomputable section
namespace Cert.Turn
open Idealize.ShloMosaic Idealize.ShloMosaic.Tactic Cert.Rms

/-! # Gates, latents and rotary keys of the projected rows -/

/-- The logarithm of the sigmoid, from the side where the exponential is at most one. -/
def gate (x : EReal) : EReal := min x 0 - Ideal.log1p (Ideal.exp (0 - max x (-x)))

theorem log1p_exp_ne_bot (y : EReal) : Ideal.log1p (Ideal.exp y) ≠ ⊥ := by
  unfold Ideal.log1p
  have h : ∀ r : ℝ, 0 ≤ r → Ideal.log (1 + (r : EReal)) ≠ ⊥ := fun r hr => by
    have e : (1 : EReal) + (r : EReal) = ((1 + r : ℝ) : EReal) := by norm_cast
    rw [e]
    show (if (1 + r : ℝ) ≤ 0 then (⊥ : EReal) else _) ≠ ⊥
    rw [if_neg (by linarith)]
    exact EReal.coe_ne_bot _
  induction y using EReal.rec with
  | bot => exact h 0 le_rfl
  | top =>
    show Ideal.log ((1 : EReal) + ⊤) ≠ ⊥
    rw [EReal.add_top_of_ne_bot (by decide)]
    exact top_ne_bot
  | coe r => exact h _ (Real.exp_pos r).le

/-- The host's spelling: minus the logarithm of one plus the exponential of the negated value. -/
theorem gate_eq (x : EReal) : -(max (-x) 0 + Ideal.log1p (Ideal.exp (-max (-x) (- -x)))) = gate x := by
  have h0 : max (-x) 0 ≠ (⊥ : EReal) := fun h => by
    have := le_max_right (-x) (0 : EReal)
    rw [h] at this
    exact absurd this (by decide)
  rw [EReal.neg_add (Or.inl h0) (Or.inr (log1p_exp_ne_bot _)), gate, neg_neg, max_comm (-x) x, zero_sub]
  refine congrArg (fun z : EReal => z - _) ?_
  rcases le_total x 0 with h | h
  · rw [min_eq_left h, max_eq_left (by simpa using EReal.neg_le_neg_iff.mpr h), neg_neg]
  · rw [min_eq_right h, max_eq_right (by simpa using EReal.neg_le_neg_iff.mpr h), neg_zero]

/-- A pair of halves turned by the angle whose cosines and sines are `c` and `s`. -/
def turn (x : Fin 64 → EReal) (c s : Fin 32 → EReal) (q : Fin 64) : EReal :=
  if h : q.val < 32 then x q * c ⟨q.val, h⟩ - x ⟨q.val + 32, by omega⟩ * s ⟨q.val, h⟩
  else x ⟨q.val - 32, by omega⟩ * s ⟨q.val - 32, by omega⟩ + x q * c ⟨q.val - 32, by omega⟩

variable {R : ℕ}

/-- The gates of all rows, the latents normalised, and the rotary keys turned by their rows' angles. -/
def gates (z : FVec Ideal ⟨2, ![R, 4608]⟩ .f32) (b : FVec Ideal ⟨2, ![1, 16]⟩ .f32) : FVec Ideal ⟨2, ![R, 16]⟩ .f32 := fun i =>
  gate (z (ix2 (i 0) ⟨4224 + (i 1).val, have h : (i 1).val < 16 := (i 1).isLt; by omega⟩) + b (ix2 0 (i 1)))
def compressed (z : FVec Ideal ⟨2, ![R, 4608]⟩ .f32) (g : FVec Ideal ⟨2, ![1, 512]⟩ .f32) : FVec Ideal ⟨2, ![R, 512]⟩ .f32 := fun i =>
  rms 0x44000000#32 (fun k : Fin 512 => z (ix2 (i 0) ⟨3072 + k.val, by omega⟩)) (z (ix2 (i 0) ⟨3072 + (i 1).val, have h : (i 1).val < 512 := (i 1).isLt; by omega⟩)) (g (ix2 0 (i 1)))
def latents (z : FVec Ideal ⟨2, ![R, 4608]⟩ .f32) (g : FVec Ideal ⟨2, ![1, 1024]⟩ .f32) : FVec Ideal ⟨2, ![R, 1024]⟩ .bf16 := fun i =>
  rms 0x44800000#32 (fun k : Fin 1024 => z (ix2 (i 0) ⟨2048 + k.val, by omega⟩)) (z (ix2 (i 0) ⟨2048 + (i 1).val, have h : (i 1).val < 1024 := (i 1).isLt; by omega⟩)) (g (ix2 0 (i 1)))
def turned {N : ℕ} (hN : 0 < N) (z : FVec Ideal ⟨2, ![R, 4608]⟩ .f32) (c s : FVec Ideal ⟨2, ![N, 32]⟩ .f32) : FVec Ideal ⟨2, ![R, 64]⟩ .f32 := fun i =>
  turn (fun j => z (ix2 (i 0) ⟨4096 + j.val, by omega⟩)) (fun j => c (ix2 ⟨(i 0).val % N, Nat.mod_lt _ hN⟩ j)) (fun j => s (ix2 ⟨(i 0).val % N, Nat.mod_lt _ hN⟩ j)) (i 1)

/-- The same in the kernel's lanes: the row, and the row rotated either way, each times a table. -/
def lanes {N : ℕ} (hN : 0 < N) (z : FVec Ideal ⟨2, ![R, 4608]⟩ .f32) (c s1 s2 : FVec Ideal ⟨2, ![N, 128]⟩ .f32) : FVec Ideal ⟨2, ![R, 128]⟩ .f32 := fun i =>
  z (ix2 (i 0) ⟨4096 + (i 1).val, have h : (i 1).val < 128 := (i 1).isLt; by omega⟩) * c (ix2 ⟨(i 0).val % N, Nat.mod_lt _ hN⟩ (i 1))
    + z (ix2 (i 0) ⟨4096 + ((i 1).val + 128 - 96) % 128, by omega⟩) * s1 (ix2 ⟨(i 0).val % N, Nat.mod_lt _ hN⟩ (i 1))
    + z (ix2 (i 0) ⟨4096 + ((i 1).val + 128 - 32) % 128, by omega⟩) * s2 (ix2 ⟨(i 0).val % N, Nat.mod_lt _ hN⟩ (i 1))

/-- The gates in the kernel's lanes, with the bias padded. -/
def gateLanes (z : FVec Ideal ⟨2, ![R, 4608]⟩ .f32) (b : FVec Ideal ⟨2, ![1, 128]⟩ .f32) : FVec Ideal ⟨2, ![R, 128]⟩ .f32 := fun i =>
  gate (z (ix2 (i 0) ⟨4224 + (i 1).val, have h : (i 1).val < 128 := (i 1).isLt; by omega⟩) + b (ix2 0 (i 1)))

/-- Tables that hold the cosines twice, the negated sines and the sines, zeros beside, turn the rows. -/
theorem lanes_eq {N M : ℕ} (hN : 0 < N) (hM : 0 < M) (hd : M ∣ N) (z : FVec Ideal ⟨2, ![R, 4608]⟩ .f32) (c s1 s2 : FVec Ideal ⟨2, ![N, 128]⟩ .f32) (co si : FVec Ideal ⟨2, ![M, 32]⟩ .f32)
    (hc : ∀ (r : Fin N) (q : Fin 32), c (ix2 r ⟨q.val, by omega⟩) = co (ix2 ⟨r.val % M, Nat.mod_lt _ hM⟩ q) ∧ c (ix2 r ⟨q.val + 32, by omega⟩) = co (ix2 ⟨r.val % M, Nat.mod_lt _ hM⟩ q))
    (h1 : ∀ (r : Fin N) (q : Fin 32), s1 (ix2 r ⟨q.val, by omega⟩) = -(si (ix2 ⟨r.val % M, Nat.mod_lt _ hM⟩ q) : EReal) ∧ s1 (ix2 r ⟨q.val + 32, by omega⟩) = (0 : EReal))
    (h2 : ∀ (r : Fin N) (q : Fin 32), s2 (ix2 r ⟨q.val, by omega⟩) = (0 : EReal) ∧ s2 (ix2 r ⟨q.val + 32, by omega⟩) = si (ix2 ⟨r.val % M, Nat.mod_lt _ hM⟩ q))
    (r : Fin R) (q : Fin 64) : lanes hN z c s1 s2 (ix2 r ⟨q.val, by omega⟩) = turned hM z co si (ix2 r q) := by
  have hr : r.val % N % M = r.val % M := Nat.mod_mod_of_dvd _ hd
  have hrow : (⟨r.val % N % M, Nat.mod_lt _ hM⟩ : Fin M) = ⟨r.val % M, Nat.mod_lt _ hM⟩ := Fin.ext hr
  show z (ix2 r ⟨4096 + q.val, _⟩) * c (ix2 ⟨r.val % N, _⟩ ⟨q.val, _⟩) + z (ix2 r ⟨4096 + (q.val + 128 - 96) % 128, _⟩) * s1 (ix2 ⟨r.val % N, _⟩ ⟨q.val, _⟩)
      + z (ix2 r ⟨4096 + (q.val + 128 - 32) % 128, _⟩) * s2 (ix2 ⟨r.val % N, _⟩ ⟨q.val, _⟩)
    = turn (fun j => z (ix2 r ⟨4096 + j.val, _⟩)) (fun j => co (ix2 ⟨r.val % M, _⟩ j)) (fun j => si (ix2 ⟨r.val % M, _⟩ j)) q
  unfold turn
  by_cases hq : q.val < 32
  · rw [dif_pos hq, (hc ⟨r.val % N, Nat.mod_lt _ hN⟩ ⟨q.val, hq⟩).1, (h1 ⟨r.val % N, Nat.mod_lt _ hN⟩ ⟨q.val, hq⟩).1, (h2 ⟨r.val % N, Nat.mod_lt _ hN⟩ ⟨q.val, hq⟩).1]
    simp only [hrow, mul_zero, add_zero, mul_neg]
    rw [← sub_eq_add_neg]
    have e : (⟨4096 + (q.val + 128 - 96) % 128, by omega⟩ : Fin 4608) = ⟨4096 + (q.val + 32), by omega⟩ := Fin.ext (by simp only []; omega)
    rw [e]
  · obtain ⟨p, hp⟩ : ∃ p : Fin 32, q.val = p.val + 32 := ⟨⟨q.val - 32, by omega⟩, by simp only []; omega⟩
    have e0 : (⟨q.val, by omega⟩ : Fin 128) = ⟨p.val + 32, by omega⟩ := Fin.ext hp
    have at' := fun f : FVec Ideal ⟨2, ![N, 128]⟩ .f32 => congrArg (fun t => f (ix2 ⟨r.val % N, Nat.mod_lt _ hN⟩ t)) e0
    rw [dif_neg hq, (at' c).trans (hc ⟨r.val % N, Nat.mod_lt _ hN⟩ p).2, (at' s1).trans (h1 ⟨r.val % N, Nat.mod_lt _ hN⟩ p).2, (at' s2).trans (h2 ⟨r.val % N, Nat.mod_lt _ hN⟩ p).2]
    simp only [hrow, mul_zero, add_zero]
    rw [add_comm]
    have e : (⟨4096 + (q.val + 128 - 32) % 128, by omega⟩ : Fin 4608) = ⟨4096 + (q.val - 32), by omega⟩ := Fin.ext (by simp only []; omega)
    have e1 : (⟨q.val - 32, by omega⟩ : Fin 32) = p := Fin.ext (by simp only []; omega)
    rw [e, e1]

end Cert.Turn
end
-- ==== Proof.TurnHost.lean ====
module
public import Idealize.ShloMosaic.PureOps.Ideal
public import Idealize.ShloMosaic.Lib.Pointwise
public import Idealize.ShloMosaic.Lib.Pipeline.ValueKit
public import proofs.«01_k».proof.Proof.Turn
@[expose] public section
set_option maxRecDepth 16384
noncomputable section
namespace Cert.Turn
open Idealize.ShloMosaic Idealize.ShloMosaic.Tactic Cert.Rms

/-! # The same as the host spells it -/

variable {R : ℕ}

/-- A slice of columns at an index. -/
theorem cols_at {n o N : ℕ} (z : FVec Ideal ⟨2, ![R, N]⟩ .f32) (h : (⟨2, ![R, N]⟩ : Shape).Slices ![0, o] ⟨2, ![R, n]⟩) (ho : o + n ≤ N) (r : Fin R) (q : Fin n) :
    extractStridedSlice ⟨2, ![R, n]⟩ ![0, o] z h (ix2 r q) = z (ix2 r ⟨o + q.val, by omega⟩) :=
  extractStridedSlice_apply _ _ h _ _ fun a => by match a with | 0 => exact (Nat.zero_add _).symm | 1 => rfl

/-- Two reshapes are one. -/
theorem cast_cast {s t u : Shape} {α : Type} (v : s.Idx → α) (h : s.ShapeCasts t) (h' : t.ShapeCasts u) (h'' : s.ShapeCasts u) :
    shapeCast u (shapeCast t v h) h' = shapeCast u v h'' := funext fun i => congrArg v (by
  show Shape.reshapeEquiv _ (Shape.reshapeEquiv _ i) = Shape.reshapeEquiv _ i
  rw [Shape.reshapeEquiv_reshapeEquiv])

/-- The gate by the host's logarithm of a sum of exponentials. -/
theorem soft (x o : FVec Ideal ⟨2, ![R, 16]⟩ .f32) (ho : ∀ i, o i = (0 : EReal)) :
    Host.negf (select (cmpf .une (subf (Host.negf x) o) (subf (Host.negf x) o)) (addf (Host.negf x) o)
      (addf (maximumf (Host.negf x) o) (Host.log1p (Host.exp (Host.negf (Host.absf (subf (Host.negf x) o))))))) = fun i => gate (x i) := by
  funext i
  obtain ⟨a, b, rfl⟩ : ∃ (a : Fin R) (b : Fin 16), i = ix2 a b := ⟨i 0, i 1, funext fun t => by match t with | 0 => rfl | 1 => rfl⟩
  pointwise []
  simp only [ho, sub_zero, add_zero]
  rw [if_neg (by simp)]
  exact gate_eq _

theorem gates_host (z : FVec Ideal ⟨2, ![R, 4608]⟩ .f32) (b : FVec Ideal ⟨2, ![1, 16]⟩ .f32) (x : FVec Ideal ⟨2, ![R, 16]⟩ .f32)
    (h : (⟨2, ![R, 4608]⟩ : Shape).Slices ![0, 4224] ⟨2, ![R, 16]⟩) (hb : (⟨2, ![1, 16]⟩ : Shape).BroadcastsInDim ⟨2, ![R, 16]⟩ ![0, 1])
    (hx : x = addf (extractStridedSlice ⟨2, ![R, 16]⟩ ![0, 4224] z h) (broadcastInDim ⟨2, ![R, 16]⟩ ![0, 1] hb b)) : (fun i => gate (x i)) = gates z b := by
  subst hx
  funext i
  obtain ⟨a, q, rfl⟩ : ∃ (a : Fin R) (q : Fin 16), i = ix2 a q := ⟨i 0, i 1, funext fun t => by match t with | 0 => rfl | 1 => rfl⟩
  refine congrArg gate ?_
  show (extractStridedSlice ⟨2, ![R, 16]⟩ ![0, 4224] z h (ix2 a q) : EReal) + broadcastInDim ⟨2, ![R, 16]⟩ ![0, 1] hb b (ix2 a q) = _
  rw [cols_at z h (by decide)]
  refine congrArg (fun t : EReal => _ + t) ?_
  pointwise []

end Cert.Turn
end
-- ==== Proof.RowsArr.lean ====
module
public import proofs.«01_k».proof.Defs
public import proofs.«01_k».proof.Proof.Turn
public import proofs.«01_k».proof.Proof.Gen.RowsIdeal.Frame
public import Idealize.ShloMosaic.Lib.Pipeline.ValueKit
public import Idealize.ShloMosaic.Lib.Pointwise
@[expose] public section
set_option maxRecDepth 16384
noncomputable section
namespace Cert.RowsIdeal.Prod
open Cert.RowsIdeal Cert.RowsIdeal.Gen
open Idealize.ShloMosaic Idealize.ShloMosaic.TcCoe Idealize.ShloMosaic.Tactic Idealize.SL.Sem Cert.Rms Cert.Turn

/-! # The rows of the prompt that go to the caches -/

/-- One block's payloads at an index. -/
theorem lat_at (a : FVec Ideal S688x1024 .f32) (g : FVec Ideal S1x1024 .f32) (p : Fin 688) (q : Fin 1024) :
    k0_pay4 (F := Ideal) a g (ix2 p q) = rms 0x44800000#32 (fun k : Fin 1024 => a (ix2 p k)) (a (ix2 p q)) (g (ix2 0 q)) := by
  pointwise [k0_pay4, rms]
theorem ckv_at (a : FVec Ideal S688x512 .f32) (g : FVec Ideal S1x512 .f32) (p : Fin 688) (q : Fin 512) :
    k0_pay5 (F := Ideal) a g (ix2 p q) = rms 0x44000000#32 (fun k : Fin 512 => a (ix2 p k)) (a (ix2 p q)) (g (ix2 0 q)) := by
  pointwise [k0_pay5, rms]
theorem rot_at (x c s1 s2 : FVec Ideal S688x128 .f32) (p : Fin 688) (q : Fin 128) :
    k0_pay1 (F := Ideal) x c s1 s2 (ix2 p q) = x (ix2 p q) * c (ix2 p q) + x (ix2 p ⟨(q.val + 128 - 96) % 128, by omega⟩) * s1 (ix2 p q)
      + x (ix2 p ⟨(q.val + 128 - 32) % 128, by omega⟩) * s2 (ix2 p q) := by
  pointwise [k0_pay1]
theorem gate_at (x : FVec Ideal S688x128 .f32) (b : FVec Ideal S1x128 .f32) (p : Fin 688) (q : Fin 128) :
    k0_pay3 (F := Ideal) x b (ix2 p q) = gate (x (ix2 p q) + b (ix2 0 q)) := by
  pointwise [k0_pay3]
  rfl

variable (m : (ℓ : Loc nD τ sig) → Buf (Elt Ideal) ℓ) (ρ : Dev nD → PrngReg)

/-- The block of each window at a point. -/
theorem idx : ∀ t : Fin cfg0.N, win0_0.index t = ![(grid0.coords t 0).val, 2] ∧ win0_1.index t = ![(grid0.coords t 0).val, 6]
    ∧ win0_2.index t = ![(grid0.coords t 0).val, 32] ∧ win0_3.index t = ![(grid0.coords t 0).val, 33]
    ∧ win0_4.index t = ![(grid0.coords t 0).val % 3, 0] ∧ win0_5.index t = ![(grid0.coords t 0).val % 3, 0] ∧ win0_6.index t = ![(grid0.coords t 0).val % 3, 0]
    ∧ win0_7.index t = ![0, 0] ∧ win0_8.index t = ![0, 0] ∧ win0_9.index t = ![0, 0] ∧ win0_10.index t = ![(grid0.coords t 0).val, 0]
    ∧ win0_11.index t = ![(grid0.coords t 0).val, 0] ∧ win0_13.index t = ![(grid0.coords t 0).val, 0]
    ∧ win0_15.index t = ![(grid0.coords t 0).val, 0] := (by decide +kernel : ∀ t : Fin grid0.N, _)

theorem V_z (c : Dev nD) : V m c main_arg0 = m ((c : Thread nD τ).loc main_arg0) := by
  show StableHlo.after hostOps0 _ _ = _
  after_results <;> rfl
theorem V_lat (c : Dev nD) : V m c main_v27 = (m ((c : Thread nD τ).loc main_arg2) : FVec Ideal S1x1024 .f32) := by
  refine Eq.trans ?_ (shapeCast_shapeCast (t := S1024) (m ((c : Thread nD τ).loc main_arg2) : FVec Ideal S1x1024 .f32) shapeCasts_S1x1024_S1024 shapeCasts_S1024_S1x1024)
  show StableHlo.after hostOps0 _ _ = _
  after_results <;> rfl
theorem V_ckv (c : Dev nD) : V m c main_v28 = (m ((c : Thread nD τ).loc main_arg3) : FVec Ideal S1x512 .f32) := by
  refine Eq.trans ?_ (shapeCast_shapeCast (t := S512) (m ((c : Thread nD τ).loc main_arg3) : FVec Ideal S1x512 .f32) shapeCasts_S1x512_S512 shapeCasts_S512_S1x512)
  show StableHlo.after hostOps0 _ _ = _
  after_results <;> rfl

/-- The first window's block is whole at every point. -/
theorem X_at (c : Dev nD) (t : Fin cfg0.N) (p : Fin 688) (q : Fin 1024) : X0_0 m c t (ix2 p q)
    = V m c main_arg0 (ix2 ⟨(grid0.coords t 0).val * 688 + p.val, by have h : (grid0.coords t 0).val < 12 := (grid0.coords t 0).isLt; omega⟩ ⟨2048 + q.val, by omega⟩) := by
  unfold X0_0 Pipeline.Window.fill
  rw [dif_pos (moved0_0 t _)]
  unfold iblk
  refine congrArg (V m c main_arg0) (funext fun a => Fin.ext ?_)
  match a with
  | 0 =>
    show win0_0.index t 0 * 688 + 1 * p.val = _
    rw [(idx t).1, Nat.one_mul]
    rfl
  | 1 =>
    show win0_0.index t 1 * 1024 + 1 * q.val = _
    rw [(idx t).1, Nat.one_mul]
    rfl

set_option maxHeartbeats 1000000 in
/-- The arrays after the run. -/
theorem final_lat (c : Dev nD) : (dats m 0 c).arrAt 10 cfg0.N = latents (m ((c : Thread nD τ).loc main_arg0)) (m ((c : Thread nD τ).loc main_arg2)) := by
  refine (dats m 0 c).arrAt_eq_of_covers 10 _ (by decide +kernel) fun t hf y => ?_
  blk_simp
  rw [after0_10]
  unfold outsAt0
  dsimp only
  frame_out
  idx_vars y
  rw [lat_at, ← V_lat m c, ← V_z m c]
  simp only [X_at]
  refine rms_congr (fun k => ?_) ?_ ?_ <;> blk_ext [iblk, idx t]
set_option maxHeartbeats 1000000 in
theorem final_ckv (c : Dev nD) : (dats m 0 c).arrAt 11 cfg0.N = compressed (m ((c : Thread nD τ).loc main_arg0)) (m ((c : Thread nD τ).loc main_arg3)) := by
  refine (dats m 0 c).arrAt_eq_of_covers 11 _ (by decide +kernel) fun t hf y => ?_
  blk_simp
  rw [after0_11]
  unfold outsAt0
  dsimp only
  frame_out
  idx_vars y
  rw [ckv_at, ← V_ckv m c, ← V_z m c]
  refine rms_congr (fun k => ?_) ?_ ?_ <;> blk_ext [iblk, idx t]
theorem final_gate (c : Dev nD) : (dats m 0 c).arrAt 15 cfg0.N = gateLanes (m ((c : Thread nD τ).loc main_arg0)) (V m c main_v24) := by
  refine (dats m 0 c).arrAt_eq_of_covers 15 _ (by decide +kernel) fun t hf y => ?_
  blk_simp
  rw [after0_15]
  unfold outsAt0
  dsimp only
  frame_out
  idx_vars y
  rw [gate_at, ← V_z m c]
  refine congrArg gate (congrArg₂ (fun a b : EReal => a + b) ?_ ?_) <;> blk_ext [iblk, idx t]
set_option maxHeartbeats 1000000 in
theorem final_rot (c : Dev nD) : (dats m 0 c).arrAt 13 cfg0.N = lanes (N := 2064) (by decide) (m ((c : Thread nD τ).loc main_arg0)) (V m c main_v17) (V m c main_v19) (V m c main_v20) := by
  refine (dats m 0 c).arrAt_eq_of_covers 13 _ (by decide +kernel) fun t hf y => ?_
  blk_simp
  rw [after0_13]
  unfold outsAt0
  dsimp only
  frame_out
  idx_vars y
  rw [rot_at, ← V_z m c]
  refine congrArg₂ (fun a b : EReal => a + b) (congrArg₂ (fun a b : EReal => a + b) (congrArg₂ (fun a b : EReal => a * b) ?_ ?_) (congrArg₂ (fun a b : EReal => a * b) ?_ ?_)) (congrArg₂ (fun a b : EReal => a * b) ?_ ?_)
    <;> blk_ext [iblk, idx t]

end Cert.RowsIdeal.Prod
end
-- ==== Proof.RowsVal.lean ====
module
public import proofs.«01_k».proof.Defs
public import proofs.«01_k».proof.Proof.TurnHost
public import proofs.«01_k».proof.Proof.RowsArr
public import proofs.«01_k».proof.Proof.Gen.RowsReferenceIdeal.Run
@[expose] public section
set_option maxRecDepth 16384
noncomputable section
namespace Cert.RowsIdeal.Prod
open Cert.RowsIdeal Cert.RowsIdeal.Gen
open Idealize.ShloMosaic Idealize.ShloMosaic.TcCoe Idealize.ShloMosaic.Tactic Idealize.SL.Sem Cert.Rms Cert.Turn

/-! # The rows of the prompt that go to the caches: the results -/

/-- The angle of each position and pair. -/
def angle : FVec Ideal S2064x32 .f32 :=
  mulf (broadcastInDim S2064x32 ![0, 1] bcast_S2064x1_S2064x32_0_1 (broadcastInDim S2064x1 ![0] bcast_S2064_S2064x1_0 (sitofp .f32 (iotaInDim S2064 32 0))))
    (broadcastInDim S2064x32 ![0, 1] bcast_S1x32_S2064x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Zeros, and a table of two blocks with zeros beside. -/
def zeros : FVec Ideal S2064x32 .f32 := broadcastInDim S2064x32 ![] bcast_S_S2064x32 (constant S_ .f32 0x00000000#32)
def table (a b : FVec Ideal S2064x32 .f32) : FVec Ideal S2064x128 .f32 :=
  concatenate S2064x128 1 [⟨S2064x32, a⟩, ⟨S2064x32, b⟩, ⟨S2064x64, broadcastInDim S2064x64 ![] bcast_S_S2064x64 (constant S_ .f32 0x00000000#32)⟩]
    concatenates_S2064x32_S2064x32_S2064x64_S2064x128_d1

theorem table_at (a b : FVec Ideal S2064x32 .f32) (r : Fin 2064) (q : Fin 32) :
    table a b (ix2 r ⟨q.val, by omega⟩) = a (ix2 r q) ∧ table a b (ix2 r ⟨q.val + 32, by omega⟩) = b (ix2 r q) := by
  constructor
  · pointwise [table]
  · pointwise [table]
    rw [dif_neg (by omega), dif_pos (by omega)]
    exact congrArg (fun t => b (ix2 r t)) (Fin.ext (by simp only []; omega))

/-- The bias padded with zeros. -/
def padded (b : FVec Ideal S1x16 .f32) : FVec Ideal S1x128 .f32 :=
  shapeCast S1x128 (concatenate S128 0 [⟨S16, shapeCast S16 b shapeCasts_S1x16_S16⟩, ⟨S112, broadcastInDim S112 ![] bcast_S_S112 (constant S_ .f32 0x00000000#32)⟩]
    concatenates_S16_S112_S128_d0) shapeCasts_S128_S1x128

theorem padded_at (b : FVec Ideal S1x16 .f32) (q : Fin 16) : padded b (ix2 0 ⟨q.val, by omega⟩) = b (ix2 0 q) := by
  pointwise [padded]

/-- The results. -/
def logf (z : FVec Ideal S8256x4608 .f32) (b : FVec Ideal S1x16 .f32) : FVec Ideal S1x4x2064x16 .f32 := shapeCast S1x4x2064x16 (gates z b) shapeCasts_S8256x16_S1x4x2064x16
def ckv (z : FVec Ideal S8256x4608 .f32) (g : FVec Ideal S1x512 .f32) : FVec Ideal S1x4x2064x512 .f32 := shapeCast S1x4x2064x512 (compressed z g) shapeCasts_S8256x512_S1x4x2064x512
def kr (z : FVec Ideal S8256x4608 .f32) (co si : FVec Ideal S2064x32 .f32) : FVec Ideal S1x4x2064x64 .f32 :=
  shapeCast S1x4x2064x64 (turned (N := 2064) (by decide) z co si) shapeCasts_S8256x64_S1x4x2064x64

/-- The kernel's lanes cut to the columns that count. -/
theorem cut_gates (z : FVec Ideal S8256x4608 .f32) (b : FVec Ideal S1x16 .f32) :
    extractStridedSlice S8256x16 ![0, 0] (gateLanes z (padded b)) slices_S8256x128_S8256x16_0_0 = gates z b := by
  funext i
  idx_vars i
  refine (cols_at _ slices_S8256x128_S8256x16_0_0 (by decide) i0 i1).trans (congrArg gate (congrArg₂ (fun s t : EReal => s + t) ?_ ?_))
  · exact congrArg (fun t => z (ix2 i0 t)) (Fin.ext (by show 4224 + (0 + i1.val) = 4224 + i1.val; omega))
  · refine Eq.trans (congrArg (fun t => padded b (ix2 0 t)) (Fin.ext ?_)) (padded_at b i1)
    exact Nat.zero_add _
theorem cut_rot (z : FVec Ideal S8256x4608 .f32) (co si : FVec Ideal S2064x32 .f32) :
    extractStridedSlice S8256x64 ![0, 0] (lanes (N := 2064) (by decide) z (table co co) (table (Host.negf si) zeros) (table zeros si)) slices_S8256x128_S8256x64_0_0
      = turned (N := 2064) (by decide) z co si := by
  have hr : ∀ r : Fin 2064, (⟨r.val % 2064, Nat.mod_lt _ (by decide)⟩ : Fin 2064) = r := fun r => Fin.ext (Nat.mod_eq_of_lt r.isLt)
  have hz : ∀ i, zeros i = (0 : EReal) := fun i => by
    idx_vars i
    pointwise [zeros]
  funext i
  idx_vars i
  refine (cols_at _ slices_S8256x128_S8256x64_0_0 (by decide) i0 i1).trans (Eq.trans (congrArg (fun t => lanes (N := 2064) (by decide) z _ _ _ (ix2 i0 t)) (Fin.ext (Nat.zero_add _)))
    (lanes_eq (by decide) (by decide) (dvd_refl 2064) z _ _ _ co si (fun r q => ?_) (fun r q => ?_) (fun r q => ?_) i0 i1))
  · rw [hr]; exact table_at co co r q
  · rw [hr, (table_at _ _ r q).1, (table_at _ _ r q).2]; exact ⟨rfl, hz _⟩
  · rw [hr, (table_at _ _ r q).1, (table_at _ _ r q).2]; exact ⟨hz _, rfl⟩

variable (m : (ℓ : Loc nD τ sig) → Buf (Elt Ideal) ℓ) (ρ : Dev nD → PrngReg)

/-- The tables as the call finds them. -/
theorem V_c (c : Dev nD) : V m c main_v17 = table (Host.cos angle) (Host.cos angle) := by
  show StableHlo.after hostOps0 _ _ = _
  after_results <;> rfl
theorem V_s1 (c : Dev nD) : V m c main_v19 = table (Host.negf (Host.sin angle)) zeros := by
  show StableHlo.after hostOps0 _ _ = _
  after_results <;> rfl
theorem V_s2 (c : Dev nD) : V m c main_v20 = table zeros (Host.sin angle) := by
  show StableHlo.after hostOps0 _ _ = _
  after_results <;> rfl
theorem V_b (c : Dev nD) : V m c main_v24 = padded (m ((c : Thread nD τ).loc main_arg1)) := by
  show StableHlo.after hostOps0 _ _ = _
  after_results <;> rfl

/-- What the operations after the call leave at a result, over the arrays of the call. -/
theorem tails (c : Dev nD) (b : Ref sig .tc) : Pipeline.afterTail₀ cfgs (dats m) 0 (V0 m) [hostOps1] c b
    = StableHlo.after hostOps1 (Pipeline.withArrays cfg0.spec c (V0 m c) fun w => (dats m 0 c).arrAt w cfg0.N) (Proc.devRef .tc b) := rfl

theorem results (c : Dev nD) (z : FVec Ideal S8256x4608 .f32) (b : FVec Ideal S1x16 .f32) (g : FVec Ideal S1x512 .f32)
    (hz : z = m ((c : Thread nD τ).loc main_arg0)) (hb : b = m ((c : Thread nD τ).loc main_arg1)) (hg : g = m ((c : Thread nD τ).loc main_arg3)) :
    let at' := Pipeline.afterTail₀ cfgs (dats m) 0 (V0 m) [hostOps1] c
    at' main_v31 = logf z b ∧ at' main_v32 = ckv z g ∧ at' main_v34 = kr z (Host.cos angle) (Host.sin angle) := by
  have h1 := ((dats m 0 c).withArrays_arrAt sharedIn0 (V0 m c) (A_eq m c) 15).trans (final_gate m c)
  have h2 := ((dats m 0 c).withArrays_arrAt sharedIn0 (V0 m c) (A_eq m c) 11).trans (final_ckv m c)
  have h3 := ((dats m 0 c).withArrays_arrAt sharedIn0 (V0 m c) (A_eq m c) 13).trans (final_rot m c)
  rw [V_b, ← hz, ← hb] at h1
  rw [← hz, ← hg] at h2
  rw [V_c, V_s1, V_s2, ← hz] at h3
  refine ⟨?_, ?_, ?_⟩ <;> rw [tails]
  · rw [logf, ← cut_gates, ← h1]
    after_results <;> rfl
  · rw [ckv, ← h2]
    after_results <;> rfl
  · rw [kr, ← cut_rot, ← h3]
    after_results <;> rfl

/-- The kernel ends with the four results, its arguments unchanged. -/
theorem run : θ_run defs (onTc (τ := τ) (main (F := Ideal))) ⟨m, fun _ => 0, ρ⟩ fun r => ∀ c : Dev nD,
      r.2.mem ((c : Thread nD τ).loc main_v31) = logf (m ((c : Thread nD τ).loc main_arg0)) (m ((c : Thread nD τ).loc main_arg1))
      ∧ r.2.mem ((c : Thread nD τ).loc main_v32) = ckv (m ((c : Thread nD τ).loc main_arg0)) (m ((c : Thread nD τ).loc main_arg3))
      ∧ r.2.mem ((c : Thread nD τ).loc main_v34) = kr (m ((c : Thread nD τ).loc main_arg0)) (Host.cos angle) (Host.sin angle)
      ∧ r.2.mem ((c : Thread nD τ).loc main_v29_0) = latents (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h1, h2, h3⟩ := results m c _ _ _ rfl rfl rfl
    exact ⟨((h.1 c).2 main_v31 (by decide)).trans h1, ((h.1 c).2 main_v32 (by decide)).trans h2, ((h.1 c).2 main_v34 (by decide)).trans h3,
      ((h.1 c).1 10).trans (final_lat m c), h.2 c⟩) (θ_run_and (run_main m ρ) (unchanged m ρ))

end Cert.RowsIdeal.Prod

namespace Cert.RowsReferenceIdeal.Prod
open Cert.RowsReferenceIdeal Cert.RowsReferenceIdeal.Gen
open Idealize.ShloMosaic Idealize.ShloMosaic.TcCoe Idealize.ShloMosaic.Tactic Idealize.SL.Sem Cert.Turn

/-- The reference's turned keys, by sequence. -/
theorem rot_host (z : FVec Ideal S8256x4608 .f32) (co si : FVec Ideal S2064x32 .f32) (k : FVec Ideal S4x2064x64 .f32)
    (hk : k = shapeCast S4x2064x64 (extractStridedSlice S8256x64 ![0, 4096] z slices_S8256x4608_S8256x64_0_4096) shapeCasts_S8256x64_S4x2064x64)
    (c s : FVec Ideal S4x2064x32 .f32) (hc : ∀ (a : Fin 4) (t : Fin 2064) (q : Fin 32), c (ix3 a t q) = co (ix2 t q)) (hs : ∀ (a : Fin 4) (t : Fin 2064) (q : Fin 32), s (ix3 a t q) = si (ix2 t q)) :
    concatenate S4x2064x64 2
      [⟨S4x2064x32, subf (mulf (extractStridedSlice S4x2064x32 ![0, 0, 0] k slices_S4x2064x64_S4x2064x32_0_0_0) c) (mulf (extractStridedSlice S4x2064x32 ![0, 0, 32] k slices_S4x2064x64_S4x2064x32_0_0_32) s)⟩,
        ⟨S4x2064x32, addf (mulf (extractStridedSlice S4x2064x32 ![0, 0, 0] k slices_S4x2064x64_S4x2064x32_0_0_0) s) (mulf (extractStridedSlice S4x2064x32 ![0, 0, 32] k slices_S4x2064x64_S4x2064x32_0_0_32) c)⟩]
      concatenates_S4x2064x32_S4x2064x32_S4x2064x64_d2
    = shapeCast S4x2064x64 (turned (N := 2064) (by decide) z co si) shapeCasts_S8256x64_S4x2064x64 := by
  have ek : ∀ (a : Fin 4) (t : Fin 2064) (q : Fin 64), k (ix3 a t q) = z (ix2 ⟨a.val * 2064 + t.val, by omega⟩ ⟨4096 + q.val, by omega⟩) := fun a t q => by
    subst hk
    pointwise []
  have er : ∀ (f : FVec Ideal S8256x64 .f32) (a : Fin 4) (t : Fin 2064) (q : Fin 64), shapeCast S4x2064x64 f shapeCasts_S8256x64_S4x2064x64 (ix3 a t q) = f (ix2 ⟨a.val * 2064 + t.val, by omega⟩ q) := fun f a t q => by
    pointwise []
  funext i
  idx_vars i
  rw [er]
  show _ = turn (fun j => z (ix2 ⟨i0.val * 2064 + i1.val, _⟩ ⟨4096 + j.val, _⟩)) (fun j => co (ix2 ⟨(i0.val * 2064 + i1.val) % 2064, _⟩ j)) (fun j => si (ix2 ⟨(i0.val * 2064 + i1.val) % 2064, _⟩ j)) i2
  have hm : (⟨(i0.val * 2064 + i1.val) % 2064, Nat.mod_lt _ (by decide)⟩ : Fin 2064) = i1 := Fin.ext (by simp only []; omega)
  rw [hm]
  unfold turn
  pointwise []
  simp only [ek, hc, hs]
  split_ifs with h
  · have e : (⟨4096 + (32 + i2.val), by omega⟩ : Fin 4608) = ⟨4096 + (i2.val + 32), by omega⟩ := Fin.ext (by simp only []; omega)
    rw [e]
  · have e : (⟨4096 + (32 + (i2.val - 32)), by omega⟩ : Fin 4608) = ⟨4096 + i2.val, by omega⟩ := Fin.ext (by simp only []; omega)
    rw [e]
  · rename_i h'
    exact absurd rfl h'

theorem spread_at (co : FVec Ideal S2064x32 .f32) (a : Fin 4) (t : Fin 2064) (q : Fin 32) :
    broadcastInDim S4x2064x32 ![0, 1, 2] bcast_S1x2064x32_S4x2064x32_0_1_2 (broadcastInDim S1x2064x32 ![1, 2] bcast_S2064x32_S1x2064x32_1_2 co) (ix3 a t q) = co (ix2 t q) := by
  pointwise []

theorem zero_at (i : S8256x16.Idx) : (broadcastInDim S8256x16 ![] bcast_S_S8256x16 (constant S_ .f32 0x00000000#32) : FVec Ideal S8256x16 .f32) i = (0 : EReal) := by
  idx_vars i
  pointwise []

/-- The reference ends with the same four. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = Cert.RowsIdeal.Prod.logf (m ((c.tc : Thread nD τ).loc main_arg0)) (m ((c.tc : Thread nD τ).loc main_arg1))
      ∧ r.2.mem ((c.tc : Thread nD τ).loc main_v66) = Cert.RowsIdeal.Prod.ckv (m ((c.tc : Thread nD τ).loc main_arg0)) (m ((c.tc : Thread nD τ).loc main_arg3))
      ∧ r.2.mem ((c.tc : Thread nD τ).loc main_v67) = Cert.RowsIdeal.Prod.kr (m ((c.tc : Thread nD τ).loc main_arg0)) (Host.cos Cert.RowsIdeal.Prod.angle) (Host.sin Cert.RowsIdeal.Prod.angle)
      ∧ r.2.mem ((c.tc : Thread nD τ).loc main_v31) = latents (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h1, h2, h3, h4, h5⟩ := h c
    refine ⟨h1.trans ?_, h2.trans ?_, h3.trans ?_, h4.trans ?_, h5⟩
    · exact congrArg (fun t => shapeCast S1x4x2064x16 t shapeCasts_S8256x16_S1x4x2064x16) ((soft _ _ zero_at).trans (gates_host _ _ _ _ _ rfl))
    · refine congrArg (fun t => shapeCast S1x4x2064x512 t shapeCasts_S8256x512_S1x4x2064x512) (funext fun i => ?_)
      idx_vars i
      exact (Cert.Rms.host_at _ _ _ _ _ _ _ _ _ (by decide) (by decide) _ _).trans
        (Cert.Rms.rms_congr (fun k => cols_at _ slices_S8256x4608_S8256x512_0_3072 (by decide) _ k) (cols_at _ slices_S8256x4608_S8256x512_0_3072 (by decide) _ _) rfl)
    · exact (congrArg (fun t => shapeCast S1x4x2064x64 t shapeCasts_S4x2064x64_S1x4x2064x64)
        (rot_host _ (Host.cos Cert.RowsIdeal.Prod.angle) (Host.sin Cert.RowsIdeal.Prod.angle) _ rfl _ _ (spread_at _) (spread_at _))).trans (cast_cast _ _ _ _)
    · funext i
      idx_vars i
      exact (Cert.Rms.host_at _ _ _ _ _ _ _ _ _ (by decide) (by decide) _ _).trans
        (Cert.Rms.rms_congr (fun k => cols_at _ slices_S8256x4608_S8256x1024_0_2048 (by decide) _ k) (cols_at _ slices_S8256x4608_S8256x1024_0_2048 (by decide) _ _) rfl)) (Value.run m ρ)

end Cert.RowsReferenceIdeal.Prod
end
end
-- ==== Proof.InSampleVal.lean ====
module
public import proofs.«01_k».proof.Defs
public import proofs.«01_k».proof.Proof.InVal
public import proofs.«01_k».proof.Proof.Gen.InSampleIdeal.Frame
public import proofs.«01_k».proof.Proof.Gen.InSampleReferenceIdeal.Run
public import Idealize.ShloMosaic.Lib.Pipeline.ValueKit
public import Idealize.ShloMosaic.Lib.Pointwise
@[expose] public section
set_option maxRecDepth 16384
noncomputable section
namespace Cert.InSampleIdeal.Prod
open Cert.InSampleIdeal Cert.InSampleIdeal.Gen
open Cert.InIdeal.Prod (perm perm_at piece prod ordered Moves)
open Idealize.ShloMosaic Idealize.ShloMosaic.TcCoe Idealize.ShloMosaic.Tactic Idealize.SL.Sem Cert.Product

/-! # The projection in, of the sample -/

/-- One block's payload at an index. -/
theorem pay_at (a : FVec Ideal S512x4096 .bf16) (b : FVec Ideal S4096x512 .bf16) (p : Fin 512) (q : Fin 512) :
    k0_pay1 (F := Ideal) a b (ix2 p q) = dot (fun k : Fin 4096 => a (ix2 p k)) fun k => b (ix2 k q) := by
  pointwise [k0_pay1, dot]

variable (m : (ℓ : Loc nD τ sig) → Buf (Elt Ideal) ℓ) (ρ : Dev nD → PrngReg)

/-- The block of each window at a point. -/
theorem idx : ∀ t : Fin cfg0.N, win0_0.index t = ![(grid0.coords t 0).val, 0] ∧ win0_1.index t = ![0, (grid0.coords t 1).val]
    ∧ win0_2.index t = ![(grid0.coords t 0).val, (grid0.coords t 1).val] := (by decide +kernel : ∀ t : Fin grid0.N, _)

/-- The weight as the call finds it. -/
theorem V_w (c : Dev nD) : V m c main_v12 = perm (m ((c : Thread nD τ).loc main_arg1)) := by
  show StableHlo.after hostOps0 _ _ = _
  after_results <;> rfl

/-- The array after the run is the reordered product. -/
theorem final (c : Dev nD) : (dats m 0 c).arrAt 2 cfg0.N = ordered (m ((c : Thread nD τ).loc main_arg0)) (perm (m ((c : Thread nD τ).loc main_arg1))) := by
  refine (dats m 0 c).arrAt_eq_of_covers 2 _ (by decide +kernel) fun t hf y => ?_
  blk_simp
  rw [after0_2]
  frame_out
  idx_vars y
  rw [pay_at, ← V_w m c]
  refine dot_congr (fun k => ?_) fun k => ?_
  · blk_ext [iblk, V, idx t]
  · blk_ext [iblk, idx t]

/-- What the operations after the call leave at a result, over the array of the call. -/
theorem tails (c : Dev nD) (b : Ref sig .tc) : Pipeline.afterTail₀ cfgs (dats m) 0 (V0 m) [hostOps1] c b
    = StableHlo.after hostOps1 (Pipeline.withArrays cfg0.spec c (V0 m c) fun w => (dats m 0 c).arrAt w cfg0.N) (Proc.devRef .tc b) := rfl

theorem arr (c : Dev nD) : Pipeline.withArrays cfg0.spec c (V0 m c) (fun w => (dats m 0 c).arrAt w cfg0.N) (Proc.devRef .tc main_v13)
    = ordered (m ((c : Thread nD τ).loc main_arg0)) (perm (m ((c : Thread nD τ).loc main_arg1))) :=
  (Pipeline.withArrays_arr cfg0.spec launch0.win.arr_inj c (V0 m c) (fun w => (dats m 0 c).arrAt w cfg0.N) 2).trans (final m c)

/-- The seven results, columns of the product. -/
def keys (x : FVec Ideal S512x4096 .bf16) (w : FVec Ideal S1x4096x4176 .f32) : FVec Ideal S1x128x4x2x128 .f32 :=
  shapeCast S1x128x4x2x128 (extractStridedSlice S512x256 ![0, 2048] (prod x w) (by decide)) shapeCasts_S512x256_S1x128x4x2x128
def values (x : FVec Ideal S512x4096 .bf16) (w : FVec Ideal S1x4096x4176 .f32) : FVec Ideal S1x128x4x2x128 .f32 :=
  shapeCast S1x128x4x2x128 (extractStridedSlice S512x256 ![0, 2304] (prod x w) (by decide)) shapeCasts_S512x256_S1x128x4x2x128
def queries (x : FVec Ideal S512x4096 .bf16) (w : FVec Ideal S1x4096x4176 .f32) : FVec Ideal S512x2048 .f32 := extractStridedSlice S512x2048 ![0, 0] (prod x w) (by decide)
def latent (x : FVec Ideal S512x4096 .bf16) (w : FVec Ideal S1x4096x4176 .f32) : FVec Ideal S512x1024 .f32 := extractStridedSlice S512x1024 ![0, 2576] (prod x w) (by decide)
def compressed (x : FVec Ideal S512x4096 .bf16) (w : FVec Ideal S1x4096x4176 .f32) : FVec Ideal S512x512 .f32 := extractStridedSlice S512x512 ![0, 3600] (prod x w) (by decide)
def rotary (x : FVec Ideal S512x4096 .bf16) (w : FVec Ideal S1x4096x4176 .f32) : FVec Ideal S512x64 .f32 := extractStridedSlice S512x64 ![0, 4112] (prod x w) (by decide)
def forget (x : FVec Ideal S512x4096 .bf16) (w : FVec Ideal S1x4096x4176 .f32) : FVec Ideal S512x16 .f32 := extractStridedSlice S512x16 ![0, 2560] (prod x w) (by decide)

theorem results (c : Dev nD) (x : FVec Ideal S512x4096 .bf16) (w : FVec Ideal S1x4096x4176 .f32)
    (hx : x = m ((c : Thread nD τ).loc main_arg0)) (hw : w = m ((c : Thread nD τ).loc main_arg1)) :
    let at' := Pipeline.afterTail₀ cfgs (dats m) 0 (V0 m) [hostOps1] c
    at' main_v15 = keys x w ∧ at' main_v17 = values x w ∧ at' main_v18 = queries x w ∧ at' main_v19 = latent x w
      ∧ at' main_v20 = compressed x w ∧ at' main_v21 = rotary x w ∧ at' main_v22 = forget x w := by
  have ha := arr m c
  rw [← hx, ← hw] at ha
  have hp : ∀ {o o' n : ℕ} (ho : o + n ≤ 4608) (ho' : o' + n ≤ 4176), (∀ q < n, Moves (o + q) (o' + q)) →
      ∀ (k : Fin 4096) (q : Fin n), perm w (ix2 k ⟨o + q.val, by omega⟩) = w (ix3 0 k ⟨o' + q.val, by omega⟩) :=
    fun ho ho' h k q => perm_at w k _ _ (h q.val q.isLt)
  refine ⟨?_, ?_, ?_, ?_, ?_, ?_, ?_⟩ <;> rw [tails]
  · rw [keys, ← piece x w (n := 256) (o := 3584) (o' := 2048) (h := slices_S512x4608_S512x256_0_3584) (by decide) (by decide) (by decide) (hp (by decide) (by decide) fun q hq => by unfold Moves; omega), ← ha]
    after_results <;> rfl
  · rw [values, ← piece x w (n := 256) (o := 3840) (o' := 2304) (h := slices_S512x4608_S512x256_0_3840) (by decide) (by decide) (by decide) (hp (by decide) (by decide) fun q hq => by unfold Moves; omega), ← ha]
    after_results <;> rfl
  · rw [queries, ← piece x w (n := 2048) (o := 0) (o' := 0) (h := slices_S512x4608_S512x2048_0_0) (by decide) (by decide) (by decide) (hp (by decide) (by decide) fun q hq => by unfold Moves; omega), ← ha]
    after_results <;> rfl
  · rw [latent, ← piece x w (n := 1024) (o := 2048) (o' := 2576) (h := slices_S512x4608_S512x1024_0_2048) (by decide) (by decide) (by decide) (hp (by decide) (by decide) fun q hq => by unfold Moves; omega), ← ha]
    after_results <;> rfl
  · rw [compressed, ← piece x w (n := 512) (o := 3072) (o' := 3600) (h := slices_S512x4608_S512x512_0_3072) (by decide) (by decide) (by decide) (hp (by decide) (by decide) fun q hq => by unfold Moves; omega), ← ha]
    after_results <;> rfl
  · rw [rotary, ← piece x w (n := 64) (o := 4096) (o' := 4112) (h := slices_S512x4608_S512x64_0_4096) (by decide) (by decide) (by decide) (hp (by decide) (by decide) fun q hq => by unfold Moves; omega), ← ha]
    after_results <;> rfl
  · rw [forget, ← piece x w (n := 16) (o := 4224) (o' := 2560) (h := slices_S512x4608_S512x16_0_4224) (by decide) (by decide) (by decide) (hp (by decide) (by decide) fun q hq => by unfold Moves; omega), ← ha]
    after_results <;> rfl

/-- The kernel ends with the seven results, its arguments unchanged. -/
theorem run : θ_run defs (onTc (τ := τ) (main (F := Ideal))) ⟨m, fun _ => 0, ρ⟩ fun r => ∀ c : Dev nD,
      r.2.mem ((c : Thread nD τ).loc main_v15) = keys (m ((c : Thread nD τ).loc main_arg0)) (m ((c : Thread nD τ).loc main_arg1))
      ∧ r.2.mem ((c : Thread nD τ).loc main_v17) = values (m ((c : Thread nD τ).loc main_arg0)) (m ((c : Thread nD τ).loc main_arg1))
      ∧ r.2.mem ((c : Thread nD τ).loc main_v18) = queries (m ((c : Thread nD τ).loc main_arg0)) (m ((c : Thread nD τ).loc main_arg1))
      ∧ r.2.mem ((c : Thread nD τ).loc main_v19) = latent (m ((c : Thread nD τ).loc main_arg0)) (m ((c : Thread nD τ).loc main_arg1))
      ∧ r.2.mem ((c : Thread nD τ).loc main_v20) = compressed (m ((c : Thread nD τ).loc main_arg0)) (m ((c : Thread nD τ).loc main_arg1))
      ∧ r.2.mem ((c : Thread nD τ).loc main_v21) = rotary (m ((c : Thread nD τ).loc main_arg0)) (m ((c : Thread nD τ).loc main_arg1))
      ∧ r.2.mem ((c : Thread nD τ).loc main_v22) = forget (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    obtain ⟨h1, h2, h3, h4, h5, h6, h7⟩ := results m c _ _ rfl rfl
    exact ⟨((h.1 c).2 main_v15 (by decide)).trans h1, ((h.1 c).2 main_v17 (by decide)).trans h2, ((h.1 c).2 main_v18 (by decide)).trans h3,
      ((h.1 c).2 main_v19 (by decide)).trans h4, ((h.1 c).2 main_v20 (by decide)).trans h5, ((h.1 c).2 main_v21 (by decide)).trans h6,
      ((h.1 c).2 main_v22 (by decide)).trans h7, h.2 c⟩) (θ_run_and (run_main m ρ) (unchanged m ρ))

end Cert.InSampleIdeal.Prod

namespace Cert.InSampleReferenceIdeal.Prod
open Cert.InSampleReferenceIdeal Cert.InSampleReferenceIdeal.Gen
open Idealize.ShloMosaic Idealize.ShloMosaic.TcCoe Idealize.SL.Sem Cert.Product

/-- The reference's product is the product. -/
theorem prod_eq (x : FVec Ideal S512x4096 .bf16) (w : FVec Ideal S1x4096x4176 .f32) :
    (Host.dotGeneral dot_S512x4096_S4096x4176_S512x4176_1_0_0_1_n_n none (extf .f32 x bitsLt_bf16_f32) (shapeCast S4096x4176 w shapeCasts_S1x4096x4176_S4096x4176) : FVec Ideal S512x4176 .f32)
      = Cert.InIdeal.Prod.prod x w := by
  funext i
  idx_vars i
  pointwise [Cert.InIdeal.Prod.prod, dot]

/-- The reference ends with the same seven. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = Cert.InSampleIdeal.Prod.keys (m ((c.tc : Thread nD τ).loc main_arg0)) (m ((c.tc : Thread nD τ).loc main_arg1))
      ∧ r.2.mem ((c.tc : Thread nD τ).loc main_v11) = Cert.InSampleIdeal.Prod.values (m ((c.tc : Thread nD τ).loc main_arg0)) (m ((c.tc : Thread nD τ).loc main_arg1))
      ∧ r.2.mem ((c.tc : Thread nD τ).loc main_v3) = Cert.InSampleIdeal.Prod.queries (m ((c.tc : Thread nD τ).loc main_arg0)) (m ((c.tc : Thread nD τ).loc main_arg1))
      ∧ r.2.mem ((c.tc : Thread nD τ).loc main_v7) = Cert.InSampleIdeal.Prod.latent (m ((c.tc : Thread nD τ).loc main_arg0)) (m ((c.tc : Thread nD τ).loc main_arg1))
      ∧ r.2.mem ((c.tc : Thread nD τ).loc main_v8) = Cert.InSampleIdeal.Prod.compressed (m ((c.tc : Thread nD τ).loc main_arg0)) (m ((c.tc : Thread nD τ).loc main_arg1))
      ∧ r.2.mem ((c.tc : Thread nD τ).loc main_v9) = Cert.InSampleIdeal.Prod.rotary (m ((c.tc : Thread nD τ).loc main_arg0)) (m ((c.tc : Thread nD τ).loc main_arg1))
      ∧ r.2.mem ((c.tc : Thread nD τ).loc main_v6) = Cert.InSampleIdeal.Prod.forget (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    have hc := h c
    rw [prod_eq] at hc
    exact hc) (Value.run m ρ)

end Cert.InSampleReferenceIdeal.Prod
end
-- ==== Proof.FinSampleVal.lean ====
module
public import proofs.«01_k».proof.Defs
public import proofs.«01_k».proof.Proof.FinVal
public import proofs.«01_k».proof.Proof.Gen.FinSampleIdeal.Frame
public import proofs.«01_k».proof.Proof.Gen.FinSampleReferenceIdeal.Run
public import Idealize.ShloMosaic.Lib.Pipeline.ValueKit
public import Idealize.ShloMosaic.Lib.Pointwise
@[expose] public section
set_option maxRecDepth 16384
noncomputable section
namespace Cert.FinSampleIdeal.Prod
open Cert.FinSampleIdeal Cert.FinSampleIdeal.Gen
open Cert.FinIdeal.Prod (rows)
open Idealize.ShloMosaic Idealize.ShloMosaic.TcCoe Idealize.ShloMosaic.Tactic Idealize.SL.Sem Cert.Rms

/-! # The last call, of the sample -/

/-- The rows by sequence. -/
def fold (z : FVec Ideal S512x4096 .f32) : FVec Ideal S128x4x4096 .f32 := shapeCast S128x4x4096 z shapeCasts_S512x4096_S128x4x4096

/-- One block's payload at an index. -/
theorem pay_at (a b : FVec Ideal S128x4096 .f32) (g : FVec Ideal S1x4096 .f32) (p : Fin 128) (q : Fin 4096) :
    k0_pay1 (F := Ideal) a b g (ix2 p q) = a (ix2 p q) + rms 1166016512#32 (fun k : Fin 4096 => b (ix2 p k)) (b (ix2 p q)) (g (ix2 0 q)) := by
  pointwise [k0_pay1, rms]

variable (m : (ℓ : Loc nD τ sig) → Buf (Elt Ideal) ℓ) (ρ : Dev nD → PrngReg)

/-- The block of each window at a point. -/
theorem idx : ∀ t : Fin cfg0.N, win0_0.index t = ![(grid0.coords t 0).val, 0] ∧ win0_1.index t = ![(grid0.coords t 0).val, 0]
    ∧ win0_2.index t = ![0, 0] ∧ win0_3.index t = ![(grid0.coords t 0).val, 0] := (by decide +kernel : ∀ t : Fin grid0.N, _)

/-- The gain as the call finds it. -/
theorem V_g (c : Dev nD) : V m c main_v1 = (m ((c : Thread nD τ).loc main_arg2) : FVec Ideal S1x4096 .f32) := by
  have h : V m c main_v1 = shapeCast S1x4096 (shapeCast S4096 (m ((c : Thread nD τ).loc main_arg2)) shapeCasts_S1x4096_S4096) shapeCasts_S4096_S1x4096 := by
    show StableHlo.after hostOps0 _ _ = _
    after_results <;> rfl
  rw [h]
  funext i
  idx_vars i
  obtain rfl : 0 = i0 := Subsingleton.elim _ _
  pointwise []

/-- The array after the run is all the rows. -/
theorem final (c : Dev nD) : (dats m 0 c).arrAt 3 cfg0.N = rows (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  rw [pay_at]
  refine congrArg₂ (· + ·) ?_ (rms_congr (fun k => ?_) ?_ ?_)
  · blk_ext [iblk, V, idx t]
  · blk_ext [iblk, V, idx t]
  · blk_ext [iblk, V, idx t]
  · rw [← V_g m c]
    blk_ext [iblk, idx t]

/-- The operations after the call group the rows. -/
theorem tail (c : Dev nD) : Pipeline.afterTail₀ cfgs (dats m) 0 (V0 m) [hostOps1] c main_v3
    = fold ((dats m 0 c).arrAt 3 cfg0.N) := by
  unfold Pipeline.afterTail₀
  rw [← Pipeline.withArrays_arr cfg0.spec launch0.win.arr_inj c (V0 m c) (fun w => (dats m 0 c).arrAt w cfg0.N) 3]
  after_results <;> rfl

/-- The kernel ends with the rows of the sample, its arguments unchanged. -/
theorem run : θ_run defs (onTc (τ := τ) (main (F := Ideal))) ⟨m, fun _ => 0, ρ⟩ fun r => ∀ c : Dev nD,
      r.2.mem ((c : Thread nD τ).loc main_v3) = fold (rows (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v3 (by decide)).trans ((tail m c).trans (by rw [final])), h.2 c⟩)
    (θ_run_and (run_main m ρ) (unchanged m ρ))

end Cert.FinSampleIdeal.Prod

namespace Cert.FinSampleReferenceIdeal.Prod
open Cert.FinSampleReferenceIdeal Cert.FinSampleReferenceIdeal.Gen
open Idealize.ShloMosaic Idealize.ShloMosaic.TcCoe Idealize.SL.Sem

/-- The reference ends with the same rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.FinSampleIdeal.Prod.fold (Cert.FinIdeal.Prod.rows (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (congrArg Cert.FinSampleIdeal.Prod.fold (funext fun i => by
    idx_vars i
    exact congrArg (fun z : EReal => (_ : EReal) + z) (Cert.Rms.host_at _ _ _ _ _ _ _ _ _ (by decide) (by decide) _ _))), (h c).2⟩) (Value.run m ρ)

end Cert.FinSampleReferenceIdeal.Prod
end
-- ==== Proof.KernelRun.lean ====
/-
  The frame of the attention kernel as it is compiled, at every reading of the floats: on any staged blocks the body runs
  to its end and leaves its input blocks as it found them; nothing is said of what it stores. A trip of the loop over the
  query blocks is run once at a symbolic trip, the loop goes by an invariant that holds the scratch at anything, and the
  launch is the library's for an output nothing reads.
-/
module
public import proofs.«01_k».proof.Proof.Gen.Kernel.Loops
public import proofs.«01_k».proof.Proof.Gen.Kernel.Launch
public import proofs.«01_k».proof.Proof.Gen.Kernel.Points
public import proofs.«01_k».proof.Proof.Gen.Kernel.Frame
@[expose] public section
set_option maxRecDepth 16384
noncomputable section
namespace Cert.Kernel.Run
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]

local notation "𝕄G" => MT nD τ sig Unit (Elt F) ℕ (UR sig nD τ) ℕ

section Body
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)

/-- What a trip of the loop over the query blocks holds: the queries, the staged keys and the staged values at their
    contents, the output block and the running-softmax scratch at anything. -/
abbrev Held (X2 : BufTy.Contents (Elt F) arg2.view.ty) (X6 : BufTy.Contents (Elt F) arg6.view.ty) (X7 : BufTy.Contents (Elt F) arg7.view.ty) : sProp 𝕄G :=
  iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (∃ f, (arg5.view.loc (c : Thread nD τ) ↦[arg5.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))

/-- One trip, at a symbolic query block. -/
theorem trip (X2 : BufTy.Contents (Elt F) arg2.view.ty) (X6 : BufTy.Contents (Elt F) arg6.view.ty) (X7 : BufTy.Contents (Elt F) arg7.view.ty) (k : Fin k0_t1_loop.trips) :
    Held (F := F) c arg2 arg5 arg6 arg7 arg8 arg9 arg10 arg11 X2 X6 X7
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 k PUnit.unit)
          (fun _ => Held (F := F) c arg2 arg5 arg6 arg7 arg8 arg9 arg10 arg11 X2 X6 X7) := by
  unfold k0_t1_body
  iintro ⟨HR2, HR6, HR7, ⟨%f5, HW5⟩, ⟨%f8, HW8⟩, ⟨%f9, HW9⟩, ⟨%f10, HW10⟩, ⟨%f11, HW11⟩⟩
  sl_exec
  sl_step
  sl_close

set_option warn.classDefReducibility false in
/-- The loop over the query blocks holds the same before every trip. -/
@[sl_loop] def loopInv_k0_t1 (X2 : BufTy.Contents (Elt F) arg2.view.ty) (X6 : BufTy.Contents (Elt F) arg6.view.ty) (X7 : BufTy.Contents (Elt F) arg7.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 where
  inv _ _ := Held (F := F) c arg2 arg5 arg6 arg7 arg8 arg9 arg10 arg11 X2 X6 X7
  step k acc := trip (F := F) c i arg2 harg2 arg3 harg3 arg4 harg4 arg5 harg5 arg6 harg6 arg7 harg7 arg8 harg8 arg9 harg9 arg10 harg10 arg11 harg11 X2 X6 X7 k

/-- The whole body: the three input blocks stay, the rest ends at something. -/
theorem body (X2 : BufTy.Contents (Elt F) arg2.view.ty) (X3 : BufTy.Contents (Elt F) arg3.view.ty) (X4 : BufTy.Contents (Elt F) arg4.view.ty) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f))) : sProp 𝕄G)
      ⊢ wp frame (wpE (defs₀ (F := F)) Variants.none (c : Thread nD τ) none) Set.univ (cc0_flash_prompt_fox (F := F) i arg2 harg2 arg3 harg3 arg4 harg4 arg5 harg5 arg6 harg6 arg7 harg7 arg8 harg8 arg9 harg9 arg10 harg10 arg11 harg11)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, (arg5.view.loc (c : Thread nD τ) ↦[arg5.view.set]{fullShare} f)) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))) := by
  rw [cc0_flash_prompt_fox_eq_skeleton]; unfold cc0_flash_prompt_fox_skel
  iintro ⟨H2, H3, H4, ⟨%f5, H5⟩, ⟨%f6, H6⟩, ⟨%f7, H7⟩, ⟨%f8, H8⟩, ⟨%f9, H9⟩, ⟨%f10, H10⟩, ⟨%f11, H11⟩⟩
  sl_exec
  sl_step
  sl_close

/-- The same, the buffers owned at what their memrefs read. -/
theorem bodyOwns (d2 : S2064x2048.Idx → Elt F .bf16) (d3 : S2064x256.Idx → Elt F .bf16) (d4 : S2064x128.Idx → Elt F .f32) :
    (iprop(owns (c : Thread nD τ) arg2 fullShare d2 ∗ owns (c : Thread nD τ) arg3 fullShare d3 ∗ owns (c : Thread nD τ) arg4 fullShare d4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄G)
      ⊢ wp frame (wpE (defs₀ (F := F)) Variants.none (c : Thread nD τ) none) Set.univ (cc0_flash_prompt_fox (F := F) i arg2 harg2 arg3 harg3 arg4 harg4 arg5 harg5 arg6 harg6 arg7 harg7 arg8 harg8 arg9 harg9 arg10 harg10 arg11 harg11)
          (fun _ => iprop(owns (c : Thread nD τ) arg2 fullShare d2 ∗ owns (c : Thread nD τ) arg3 fullShare d3 ∗ owns (c : Thread nD τ) arg4 fullShare d4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))) := by
  unfold owns
  iintro ⟨⟨%X2, %h2, H2⟩, ⟨%X3, %h3, H3⟩, ⟨%X4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩⟩
  iapply (wp_wand_r Idealize.ShloMosaic.frame (wpE (defs₀ (F := F)) Variants.none (c : Thread nD τ) none) Set.univ)
  isplitl [H2 H3 H4 H5 H6 H7 H8 H9 H10 H11]
  · iapply (body (F := F) c i arg2 harg2 arg3 harg3 arg4 harg4 arg5 harg5 arg6 harg6 arg7 harg7 arg8 harg8 arg9 harg9 arg10 harg10 arg11 harg11 X2 X3 X4)
    isplitl [H2]; · iexact H2
    isplitl [H3]; · iexact H3
    isplitl [H4]; · iexact H4
    isplitl [H5]; · iexists f5; iexact H5
    isplitl [H6]; · iexists f6; iexact H6
    isplitl [H7]; · iexists f7; iexact H7
    isplitl [H8]; · iexists f8; iexact H8
    isplitl [H9]; · iexists f9; iexact H9
    isplitl [H10]; · iexists f10; iexact H10
    iexists f11; iexact H11
  · iintro %_ ⟨H2, H3, H4, ⟨%g5, H5⟩, ⟨%g6, H6⟩, ⟨%g7, H7⟩, ⟨%g8, H8⟩, ⟨%g9, H9⟩, ⟨%g10, H10⟩, ⟨%g11, H11⟩⟩
    isplitl [H2]
    · iexists X2; isplitr; · ipureintro; exact h2
      iexact H2
    isplitl [H3]
    · iexists X3; isplitr; · ipureintro; exact h3
      iexact H3
    isplitl [H4]
    · iexists X4; isplitr; · ipureintro; exact h4
      iexact H4
    isplitl [H5]
    · iexists _, g5; isplitr; · ipureintro; rfl
      iexact H5
    isplitl [H6]
    · iexists _, g6; isplitr; · ipureintro; rfl
      iexact H6
    isplitl [H7]
    · iexists _, g7; isplitr; · ipureintro; rfl
      iexact H7
    isplitl [H8]
    · iexists _, g8; isplitr; · ipureintro; rfl
      iexact H8
    isplitl [H9]
    · iexists _, g9; isplitr; · ipureintro; rfl
      iexact H9
    isplitl [H10]
    · iexists _, g10; isplitr; · ipureintro; rfl
      iexact H10
    iexists _, g11; isplitr; · ipureintro; rfl
    iexact H11
end Body

section Launch
variable (m : (ℓ : Loc nD τ sig) → Buf (Elt F) ℓ) (ρ : Dev nD → PrngReg)

/-- The output window is forgotten: nothing here reads what the kernel leaves in it. -/
def forgets : Fin 4 → Bool := fun w => w == 3

/-- The proof data: each array as launched, each input block in place after the body, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

/-- What the body is handed at point `t`, and hands back. -/
def bodyRes (c : Dev nD) (t : Fin cfg0.N) : sProp 𝕄G :=
  iprop(Pipeline.ΦA spec0 c ∗ (dats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ (∃ X, owns (c : Thread nD τ) (st0_3 t) fullShare X))

/-- What is left between the points: the six scratch buffers and the generator's register, each at anything. -/
theorem rest_eq (c : Dev nD) : (Pipeline.ΦA spec0 c : sProp 𝕄G)
    = iprop(iprop((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f) ∗ (∃ f, owns (c : Thread nD τ) (Memref.whole cc0_scratch5) fullShare f))
      ∗ (∃ r, prngReg c r)) := by
  unfold Pipeline.ΦA
  rw [scopedRest0_eq]
  simp only [owns_whole]
  try rfl

theorem sound_body (c : Dev nD) (t : Fin cfg0.N) :
    bodyRes (F := F) m c t ⊢ wp frame (wpE (defs₀ (F := F)) Variants.none c none) Set.univ (bodyAt0 t) (fun _ => bodyRes (F := F) m c t) := by
  unfold bodyRes bodyAt0
  rw [rest_eq]
  iintro ⟨⟨⟨H6, H7, H8, H9, H10, H11⟩, Hg⟩, HO, H2, H3, H4, H5⟩
  iapply (wp_wand_r Idealize.ShloMosaic.frame (wpE (defs₀ (F := F)) Variants.none (c : Thread nD τ) none) Set.univ)
  isplitl [H2 H3 H4 H5 H6 H7 H8 H9 H10 H11]
  · iapply (bodyOwns (F := F) c (grid0.coords t) (st0_0 t) _ (st0_1 t) _ (st0_2 t) _ (st0_3 t) _ (Memref.whole cc0_scratch0) _ (Memref.whole cc0_scratch1) _ (Memref.whole cc0_scratch2) _ (Memref.whole cc0_scratch3) _ (Memref.whole cc0_scratch4) _ (Memref.whole cc0_scratch5) _ (iblk m c 0 t) (iblk m c 1 t) (iblk m c 2 t))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, H3, H4, H5, H6, H7, H8, H9, H10, H11⟩
    isplitl [H6 H7 H8 H9 H10 H11 Hg]
    · isplitr [Hg]
      · isplitl [H6]; · iexact H6
        isplitl [H7]; · iexact H7
        isplitl [H8]; · iexact H8
        isplitl [H9]; · iexact H9
        isplitl [H10]; · iexact H10
        iexact H11
      · iexact Hg
    isplitl [HO]; · iexact HO
    isplitl [H2]; · iexact H2
    isplitl [H3]; · iexact H3
    isplitl [H4]; · iexact H4
    iexact H5

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- What the pipeline hands the body at a point is `bodyRes`: each input window's buffer holds its block. -/
theorem before_res (c : Dev nD) (t : Fin cfg0.N) :
    iprop(Pipeline.ΦA spec0 c ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ X, owns (c : Thread nD τ) (st0_3 t) fullShare X))
      ⊢ bodyRes (F := F) m c t := by
  unfold bodyRes
  iintro ⟨HΦ, HO, ⟨%d0, H0⟩, ⟨%d1, H1⟩, ⟨%d2, H2⟩, H3⟩
  rw [before0_0_of m (dats m 0 c) rfl (fun _ => rfl), before0_1_of m (dats m 0 c) rfl (fun _ => rfl), before0_2_of m (dats m 0 c) rfl (fun _ => rfl)]
  isplitl [HΦ]; · iexact HΦ
  isplitl [HO]; · iexact HO
  isplitl [H0]; · iexact H0
  isplitl [H1]; · iexact H1
  isplitl [H2]; · iexact H2
  iexact H3

theorem body_obligation (c : Dev nD) :
    BodyObligation (dats (F := F) m 0 c) (defs₀ (F := F)) Variants.none () Set.univ forgets := fun t => by
  rw [bigSep_W0, bigSep_W0, defs₀_row]
  refine triple_restated (sound_body m c t) rfl (before_res m c t) fun _ => .rfl

set_option backward.isDefEq.respectTransparency.types false in
/-- Every run of the program ends, with the argument arrays as launched and every semaphore at zero. -/
theorem run_main :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)
    (hQ' := fun r h => ⟨fun c => by
      have e (w : Fin 4) (hw : forgets w = false) (hi : ((cfgs (0 : Fin 1)).win w).isOut = false) :
          r.2.mem (((cfgs (0 : Fin 1)).spec w).arr.view.loc (c.tc : Thread nD τ)) = V m c (Pipeline.arrRef spec0 w) :=
        (((dats (F := F) m 0 c).toRForget_arrAt_iff hw _ _).mp ((h.1 c).1 w)).trans ((dats m 0 c).arrAt_in w hi _)
      exact ⟨e 0 rfl rfl, e 1 rfl rfl, e 2 rfl rfl⟩, h.2⟩)
end Launch
end Cert.Kernel.Run
-- ==== Proof.Trip.lean ====
module
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
@[expose] public section
set_option maxRecDepth 16384
noncomputable section
namespace Cert.KernelIdeal.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄G" => MT nD τ sig Unit (Elt F) ℕ (UR sig nD τ) ℕ

/-- Contents of a window or scratch buffer seen through its memref. -/
abbrev Cts {sp : Space} {s : Shape} {e : EltTy} (a : Memref sig .tc sp s e) : Type := BufTy.Contents (Elt F) a.view.ty

section
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)

/-- What one query block's trip holds: the queries and the staged keys and values at their contents, the output block
    and the running-softmax scratch at any. -/
abbrev Held (X2 : BufTy.Contents (Elt F) arg2.view.ty) (X6 : BufTy.Contents (Elt F) arg6.view.ty) (X7 : BufTy.Contents (Elt F) arg7.view.ty)
    (f5 : BufTy.Contents (Elt F) arg5.view.ty) (f8 : BufTy.Contents (Elt F) arg8.view.ty) (f9 : BufTy.Contents (Elt F) arg9.view.ty) (f10 : BufTy.Contents (Elt F) arg10.view.ty) (f11 : BufTy.Contents (Elt F) arg11.view.ty) : sProp 𝕄G :=
  iprop((arg2.view.loc (c : Thread nD τ) ↦[arg2.view.set]{fullShare} X2) ∗ (arg6.view.loc (c : Thread nD τ) ↦[arg6.view.set]{fullShare} X6) ∗ (arg7.view.loc (c : Thread nD τ) ↦[arg7.view.set]{fullShare} X7) ∗ (arg5.view.loc (c : Thread nD τ) ↦[arg5.view.set]{fullShare} f5) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11))

/-- One query block's trip: the eight pieces of output it writes, as a function of what it finds in the scratch. -/
@[irreducible] def tripQ (𝒱 : Variants) (bd : Option 𝒱.V) (X2 : BufTy.Contents (Elt F) arg2.view.ty) (X6 : BufTy.Contents (Elt F) arg6.view.ty) (X7 : BufTy.Contents (Elt F) arg7.view.ty) (k : Fin k0_t1_loop.trips) :
    { L : (BufTy.Contents (Elt F) arg8.view.ty → BufTy.Contents (Elt F) arg9.view.ty → BufTy.Contents (Elt F) arg10.view.ty → BufTy.Contents (Elt F) arg11.view.ty → List (View.Piece (Elt F) S2064x1024 .f32)) //
      ∀ (E : Set ℕ) f5 f8 f9 f10 f11, Held (F := F) c arg2 arg5 arg6 arg7 arg8 arg9 arg10 arg11 X2 X6 X7 f5 f8 f9 f10 f11
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 k PUnit.unit)
          (fun _ => iprop(∃ g8 g9 g10 g11, Held (F := F) c arg2 arg5 arg6 arg7 arg8 arg9 arg10 arg11 X2 X6 X7 (arg5.view.writes (Elt F) f5 (L f8 f9 f10 f11)) g8 g9 g10 g11)) } := by
  refine ⟨?_, fun E f5 f8 f9 f10 f11 => ?run⟩
  case run =>
    unfold k0_t1_body
    iintro ⟨HR2, HR6, HR7, HW5, HW8, HW9, HW10, HW11⟩
    sl_exec
    sl_step
    sl_close

end
end Cert.KernelIdeal.Att
-- ==== Proof.Outer.lean ====
module
public import proofs.«01_k».proof.Proof.Trip
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
@[expose] public section
set_option maxRecDepth 16384
noncomputable section
namespace Cert.KernelIdeal.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄G" => MT nD τ sig Unit (Elt F) ℕ (UR sig nD τ) ℕ

section
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)

/-- The pieces of output the trip of query block `k` writes. -/
abbrev tripO (X2 : BufTy.Contents (Elt F) arg2.view.ty) (X6 : BufTy.Contents (Elt F) arg6.view.ty) (X7 : BufTy.Contents (Elt F) arg7.view.ty) (k : Fin k0_t1_loop.trips) :=
  (tripQ (F := F) c i arg2 harg2 arg3 harg3 arg4 harg4 arg5 harg5 arg6 harg6 arg7 harg7 arg8 harg8 arg9 harg9 arg10 harg10 arg11 harg11 Variants.none none X2 X6 X7 k).1

/-- The output blocks that `n` trips can leave: each trip writes its pieces, whatever the scratch held. -/
inductive Reach (X2 : BufTy.Contents (Elt F) arg2.view.ty) (X6 : BufTy.Contents (Elt F) arg6.view.ty) (X7 : BufTy.Contents (Elt F) arg7.view.ty)  : ℕ → BufTy.Contents (Elt F) arg5.view.ty → Prop
  | zero (f) : Reach X2 X6 X7 0 f
  | succ (k : Fin k0_t1_loop.trips) (f) (f8) (f9) (f10) (f11) : Reach X2 X6 X7 k.val f →
      Reach X2 X6 X7 (k.val + 1) (arg5.view.writes (Elt F) f (tripO (F := F) c i arg2 harg2 arg3 harg3 arg4 harg4 arg5 harg5 arg6 harg6 arg7 harg7 arg8 harg8 arg9 harg9 arg10 harg10 arg11 harg11 X2 X6 X7 k f8 f9 f10 f11))

/-- `Reach` before trip `k`: nothing is asked before the first. -/
def Done (X2 : BufTy.Contents (Elt F) arg2.view.ty) (X6 : BufTy.Contents (Elt F) arg6.view.ty) (X7 : BufTy.Contents (Elt F) arg7.view.ty) : ℕ → BufTy.Contents (Elt F) arg5.view.ty → Prop
  | 0, f => f = f
  | n + 1, f => Reach (F := F) c i arg2 harg2 arg3 harg3 arg4 harg4 arg5 harg5 arg6 harg6 arg7 harg7 arg8 harg8 arg9 harg9 arg10 harg10 arg11 harg11 X2 X6 X7 (n + 1) f

theorem Done.reach {X2 : BufTy.Contents (Elt F) arg2.view.ty} {X6 : BufTy.Contents (Elt F) arg6.view.ty} {X7 : BufTy.Contents (Elt F) arg7.view.ty} :
    ∀ {n : ℕ} {f}, Done (F := F) c i arg2 harg2 arg3 harg3 arg4 harg4 arg5 harg5 arg6 harg6 arg7 harg7 arg8 harg8 arg9 harg9 arg10 harg10 arg11 harg11 X2 X6 X7 n f → Reach (F := F) c i arg2 harg2 arg3 harg3 arg4 harg4 arg5 harg5 arg6 harg6 arg7 harg7 arg8 harg8 arg9 harg9 arg10 harg10 arg11 harg11 X2 X6 X7 n f
  | 0, f, _ => Reach.zero f
  | _ + 1, _, h => h

set_option warn.classDefReducibility false in
/-- The query blocks' loop: before trip `k` the output block is one that `k` trips can leave, the scratch anything. -/
@[sl_loop] def loopInv_k0_t1 (X2 : BufTy.Contents (Elt F) arg2.view.ty) (X6 : BufTy.Contents (Elt F) arg6.view.ty) (X7 : BufTy.Contents (Elt F) arg7.view.ty)  :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 where
  inv k _ := iprop(∃ f5 f8 f9 f10 f11, Held (F := F) c arg2 arg5 arg6 arg7 arg8 arg9 arg10 arg11 X2 X6 X7 f5 f8 f9 f10 f11 ∗ ⌜Done (F := F) c i arg2 harg2 arg3 harg3 arg4 harg4 arg5 harg5 arg6 harg6 arg7 harg7 arg8 harg8 arg9 harg9 arg10 harg10 arg11 harg11 X2 X6 X7 k f5⌝)
  step k acc := by
    iintro ⟨%f5, %f8, %f9, %f10, %f11, H, %h⟩
    iapply (wp_wand_r Idealize.ShloMosaic.frame (wpE (defs₀ (F := F)) Variants.none (c : Thread nD τ) none) Set.univ)
    isplitl [H]
    · iapply (tripQ (F := F) c i arg2 harg2 arg3 harg3 arg4 harg4 arg5 harg5 arg6 harg6 arg7 harg7 arg8 harg8 arg9 harg9 arg10 harg10 arg11 harg11 Variants.none none X2 X6 X7 k).2 Set.univ f5 f8 f9 f10 f11; iexact H
    · iintro %_ ⟨%g8, %g9, %g10, %g11, H⟩
      iexists _, g8, g9, g10, g11
      isplitl [H]
      · iexact H
      · ipureintro; exact Reach.succ k f5 f8 f9 f10 f11 h.reach

/-- What the body leaves: the keys and values it stages, the pieces the last query block writes, and its run: the inputs in place, the output block at those pieces over one that the query blocks'
    loop can leave. -/
@[irreducible] def bodyQ (X2 : BufTy.Contents (Elt F) arg2.view.ty) (X3 : BufTy.Contents (Elt F) arg3.view.ty) (X4 : BufTy.Contents (Elt F) arg4.view.ty) :
    { LX : BufTy.Contents (Elt F) arg6.view.ty × BufTy.Contents (Elt F) arg7.view.ty × List (View.Piece (Elt F) S2064x1024 .f32) //
      ∀ f5 f6 f7 f8 f9 f10 f11,
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp 𝕄G)
      ⊢ wp frame (wpE (defs₀ (F := F)) Variants.none (c : Thread nD τ) none) Set.univ (cc0_flash_prompt_fox (F := F) i arg2 harg2 arg3 harg3 arg4 harg4 arg5 harg5 arg6 harg6 arg7 harg7 arg8 harg8 arg9 harg9 arg10 harg10 arg11 harg11)
          (fun _ => iprop(∃ f h6 h7 h8 h9 h10 h11, ⌜Done (F := F) c i arg2 harg2 arg3 harg3 arg4 harg4 arg5 harg5 arg6 harg6 arg7 harg7 arg8 harg8 arg9 harg9 arg10 harg10 arg11 harg11 X2 LX.1 LX.2.1 k0_t1_loop.trips f⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} (arg5.view.writes (Elt F) f (LX.2.2))) ∗ (arg6.view.loc (c : Thread nD τ) ↦[arg6.view.set]{fullShare} h6) ∗ (arg7.view.loc (c : Thread nD τ) ↦[arg7.view.set]{fullShare} h7) ∗ (arg8.view.loc (c : Thread nD τ) ↦[arg8.view.set]{fullShare} h8) ∗ (arg9.view.loc (c : Thread nD τ) ↦[arg9.view.set]{fullShare} h9) ∗ (arg10.view.loc (c : Thread nD τ) ↦[arg10.view.set]{fullShare} h10) ∗ (arg11.view.loc (c : Thread nD τ) ↦[arg11.view.set]{fullShare} h11))) } := by
  refine ⟨⟨?_, ?_, ?_⟩, fun f5 f6 f7 f8 f9 f10 f11 => ?run⟩
  case run =>
    dsimp only
    rw [cc0_flash_prompt_fox_eq_skeleton]; unfold cc0_flash_prompt_fox_skel
    iintro ⟨H2, H3, H4, H5, H6, H7, H8, H9, H10, H11⟩
    sl_exec
    sl_step
    iexists f5L0
    sl_close
end
end Cert.KernelIdeal.Att
-- ==== Proof.Steps.lean ====
module
public import proofs.«01_k».proof.Proof.Outer
@[expose] public section
set_option maxRecDepth 16384
noncomputable section
namespace Cert.KernelIdeal.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! # Reading the running-softmax scratch head by head

The scratch buffers hold the eight heads' blocks of rows one under the other. This module reads a buffer after the
stores of one key block, head by head, and folds the loop over the key blocks into a recursion on each head's block. -/

/-- Eight stores, one through each of eight rectangles, the last one made first. -/
def eight {s : Shape} {e : EltTy} (R : Fin 8 → Rect s) (P : (j : Fin 8) → (R j).shape.Idx → Elt F e) : List (View.Piece (Elt F) s e) :=
  [⟨R 7, P 7⟩, ⟨R 6, P 6⟩, ⟨R 5, P 5⟩, ⟨R 4, P 4⟩, ⟨R 3, P 3⟩, ⟨R 2, P 2⟩, ⟨R 1, P 1⟩, ⟨R 0, P 0⟩]

theorem readAt_cons_same {sp : Space} {s : Shape} {e : EltTy} (v : View sig .tc sp s e) (f : v.ty.Contents (Elt F)) (r : Rect s)
    (w : r.shape.Idx → Elt F e) (L : List (View.Piece (Elt F) s e)) :
    v.readAt (Elt F) r.toLoadRect (v.writes (Elt F) f (⟨r, w⟩ :: L)) = w := by
  rw [View.writes_cons]
  exact View.read_write_univ _ _

theorem readAt_cons_other {sp : Space} {s : Shape} {e : EltTy} (v : View sig .tc sp s e) (f : v.ty.Contents (Elt F)) (r r' : Rect s)
    (w : r'.shape.Idx → Elt F e) (L : List (View.Piece (Elt F) s e)) (h : Disjoint r'.set r.set) :
    v.readAt (Elt F) r.toLoadRect (v.writes (Elt F) f (⟨r', w⟩ :: L)) = v.readAt (Elt F) r.toLoadRect (v.writes (Elt F) f L) := by
  funext x
  rw [View.readAt_apply, View.readAt_apply]
  exact View.read_writes_cons_miss v f ⟨r', w⟩ L _ (Finset.disjoint_right.1 h (r.toLoadRect.idx_mem x))

/-- After the eight stores each rectangle reads its own payload. -/
theorem readAt_eight {sp : Space} {s : Shape} {e : EltTy} (v : View sig .tc sp s e) (f : v.ty.Contents (Elt F)) (R : Fin 8 → Rect s)
    (P : (j : Fin 8) → (R j).shape.Idx → Elt F e) (hd : ∀ i j, i ≠ j → Disjoint (R i).set (R j).set) (j : Fin 8) :
    v.readAt (Elt F) (R j).toLoadRect (v.writes (Elt F) f (eight R P)) = P j := by
  unfold eight
  match j with
  | 7 => exact readAt_cons_same ..
  | 6 => rw [readAt_cons_other (h := hd _ _ (by decide))]; exact readAt_cons_same ..
  | 5 => iterate 2 rw [readAt_cons_other (h := hd _ _ (by decide))]
         exact readAt_cons_same ..
  | 4 => iterate 3 rw [readAt_cons_other (h := hd _ _ (by decide))]
         exact readAt_cons_same ..
  | 3 => iterate 4 rw [readAt_cons_other (h := hd _ _ (by decide))]
         exact readAt_cons_same ..
  | 2 => iterate 5 rw [readAt_cons_other (h := hd _ _ (by decide))]
         exact readAt_cons_same ..
  | 1 => iterate 6 rw [readAt_cons_other (h := hd _ _ (by decide))]
         exact readAt_cons_same ..
  | 0 => iterate 7 rw [readAt_cons_other (h := hd _ _ (by decide))]
         exact readAt_cons_same ..

/-- Head j's block of rows in a scratch of 128 lanes: 256 rows per head, or 272 in the last query block; and in the
    scratch that holds the queries. -/
abbrev R256 (j : Fin 8) : Rect S2176x128 := Rect.unit ![256 * j.val, 0] S256x128.size (by intro a; match a with | 0 => show 256 * j.val + 256 ≤ 2176; omega | 1 => exact Nat.le_refl 128)
abbrev Q256 (j : Fin 8) : Rect S2176x256 := Rect.unit ![256 * j.val, 0] S256x256.size (by intro a; match a with | 0 => show 256 * j.val + 256 ≤ 2176; omega | 1 => exact Nat.le_refl 256)
abbrev R272 (j : Fin 8) : Rect S2176x128 := Rect.unit ![272 * j.val, 0] S272x128.size (by intro a; match a with | 0 => show 272 * j.val + 272 ≤ 2176; omega | 1 => exact Nat.le_refl 128)
abbrev Q272 (j : Fin 8) : Rect S2176x256 := Rect.unit ![272 * j.val, 0] S272x256.size (by intro a; match a with | 0 => show 272 * j.val + 272 ≤ 2176; omega | 1 => exact Nat.le_refl 256)

theorem rows_disjoint {d : Fin 2 → ℕ} (n w : ℕ) {i j : ℕ} (h : i ≠ j) {hi hj} :
    Disjoint (Rect.unit (s := ⟨2, d⟩) ![n * i, 0] ![n, w] hi).set (Rect.unit (s := ⟨2, d⟩) ![n * j, 0] ![n, w] hj).set := by
  rw [Finset.disjoint_left]
  intro x h1 h2
  have a := (Rect.mem_set_unit.1 h1) 0
  have b := (Rect.mem_set_unit.1 h2) 0
  have a1 : n * i ≤ (x 0).val := a.1
  have a2 : (x 0).val < n * i + n := a.2
  have b1 : n * j ≤ (x 0).val := b.1
  have b2 : (x 0).val < n * j + n := b.2
  rcases Nat.lt_or_gt_of_ne h with hlt | hlt
  · have := Nat.mul_le_mul_left n (Nat.succ_le_of_lt hlt); rw [Nat.mul_succ] at this; omega
  · have := Nat.mul_le_mul_left n (Nat.succ_le_of_lt hlt); rw [Nat.mul_succ] at this; omega

theorem R256_disjoint (i j : Fin 8) (h : i ≠ j) : Disjoint (R256 i).set (R256 j).set := rows_disjoint 256 128 (fun e => h (Fin.ext e))
theorem Q256_disjoint (i j : Fin 8) (h : i ≠ j) : Disjoint (Q256 i).set (Q256 j).set := rows_disjoint 256 256 (fun e => h (Fin.ext e))
theorem R272_disjoint (i j : Fin 8) (h : i ≠ j) : Disjoint (R272 i).set (R272 j).set := rows_disjoint 272 128 (fun e => h (Fin.ext e))
theorem Q272_disjoint (i j : Fin 8) (h : i ≠ j) : Disjoint (Q272 i).set (Q272 j).set := rows_disjoint 272 256 (fun e => h (Fin.ext e))

/-- A head's running maximum, running sum and running weighted sum. -/
abbrev St (F : FTy → Type) [FloatOps F] (s : Shape) : Type := FVec F s .f32 × FVec F s .f32 × FVec F s .f32

/-- The shapes a block of `h` query rows needs to agree for its step to be written. -/
structure Ev (h : ℕ) : Prop where
  lo : (⟨2, ![h, 256]⟩ : Shape).Slices ![0, 0] ⟨2, ![h, 128]⟩
  hi : (⟨2, ![h, 256]⟩ : Shape).Slices ![0, 128] ⟨2, ![h, 128]⟩
  red : (⟨2, ![h, 128]⟩ : Shape).Reduces [1] ⟨1, ![h]⟩
  col : (⟨1, ![h]⟩ : Shape).ShapeCasts ⟨2, ![h, 1]⟩
  bc : (⟨2, ![h, 1]⟩ : Shape).Broadcasts ⟨2, ![h, 128]⟩
  same : (⟨2, ![h, 128]⟩ : Shape).ShapeCasts ⟨2, ![h, 128]⟩
  cat : Shape.Concatenates [(⟨2, ![h, 128]⟩ : Shape), ⟨2, ![h, 128]⟩] ⟨2, ![h, 256]⟩ 1

section
variable {h : ℕ} (E : Ev h) (sc : FVec F ⟨2, ![h, 256]⟩ .f32) (m l a : FVec F ⟨2, ![h, 128]⟩ .f32)

/-- The two halves of a row of scores, the new running maximum, the factor that rescales what is already summed, and the
    two halves of the weights. -/
def sLo : FVec F ⟨2, ![h, 128]⟩ .f32 := extractStridedSlice _ ![0, 0] sc E.lo
def sHi : FVec F ⟨2, ![h, 128]⟩ .f32 := extractStridedSlice _ ![0, 128] sc E.hi
def newMax : FVec F ⟨2, ![h, 128]⟩ .f32 :=
  maximumf m (broadcastTo _ (shapeCast ⟨2, ![h, 1]⟩ (multiReduction .maximumf [1] ⟨1, ![h]⟩ (maximumf (sLo E sc) (sHi E sc)) 0xFF800000#32 E.red (.inl rfl) rfl) E.col) E.bc)
def alpha : FVec F ⟨2, ![h, 128]⟩ .f32 := exp (subf m (newMax E sc m))
def pLo : FVec F ⟨2, ![h, 128]⟩ .f32 := exp (subf (sLo E sc) (newMax E sc m))
def pHi : FVec F ⟨2, ![h, 128]⟩ .f32 := exp (subf (sHi E sc) (newMax E sc m))
def newSum : FVec F ⟨2, ![h, 128]⟩ .f32 :=
  addf (mulf (alpha E sc m) l) (broadcastTo _ (shapeCast ⟨2, ![h, 1]⟩ (multiReduction .add [1] ⟨1, ![h]⟩ (addf (pLo E sc m) (pHi E sc m)) 0x00000000#32 E.red (.inl rfl) rfl) E.col) E.bc)
def weights : FVec F ⟨2, ![h, 256]⟩ .bf16 :=
  truncf .bf16 (concatenate _ 1 [⟨⟨2, ![h, 128]⟩, pLo E sc m⟩, ⟨⟨2, ![h, 128]⟩, pHi E sc m⟩] E.cat) facts.bitsLt_bf16_f32

/-- One key block for one head: the running maximum, sum and weighted sum after it, from the block's scores and the
    product `pv` of weights with the block's values. -/
def upd (pv : FVec F ⟨2, ![h, 256]⟩ .bf16 → FVec F ⟨2, ![h, 128]⟩ .f32) (s : St F ⟨2, ![h, 128]⟩) : St F ⟨2, ![h, 128]⟩ :=
  (shapeCast ⟨2, ![h, 128]⟩ (newMax E sc s.1) E.same, shapeCast ⟨2, ![h, 128]⟩ (newSum E sc s.1 s.2.1) E.same,
   shapeCast ⟨2, ![h, 128]⟩ (addf (mulf (alpha E sc s.1) s.2.2) (pv (weights E sc s.1))) E.same)
end

theorem ev256 : Ev 256 := ⟨facts.slices_S256x256_o0_0_S256x128, facts.slices_S256x256_o0_128_S256x128, facts.reduces_S256x128_S256, facts.shapeCasts_S256_S256x1,
  facts.broadcasts_S256x1_S256x128, facts.shapeCasts_S256x128_S256x128, facts.concatenates_S256x128_S256x128_S256x256_d1⟩
theorem ev272 : Ev 272 := ⟨facts.slices_S272x256_o0_0_S272x128, facts.slices_S272x256_o0_128_S272x128, facts.reduces_S272x128_S272, facts.shapeCasts_S272_S272x1,
  facts.broadcasts_S272x1_S272x128, facts.shapeCasts_S272x128_S272x128, facts.concatenates_S272x128_S272x128_S272x256_d1⟩

/-- Weights times the values of one key block. -/
def pv256 (V : Vec F S1x256x128 .bf16) (p : FVec F S256x256 .bf16) : FVec F S256x128 .f32 :=
  matmul dot_S256x256_S256x128_S256x128_1_0_0_1_n_n none p (shapeCast S256x128 V facts.shapeCasts_S1x256x128_S256x128) (constant S256x128 .f32 0x00000000#32)
def pv272 (V : Vec F S1x256x128 .bf16) (p : FVec F S272x256 .bf16) : FVec F S272x128 .f32 :=
  matmul dot_S272x256_S256x128_S272x128_1_0_0_1_n_n none p (shapeCast S256x128 V facts.shapeCasts_S1x256x128_S256x128) (constant S272x128 .f32 0x00000000#32)

/-- One unmasked key block, and the masked ones: the block on the diagonal, and in the last query block its two. -/
def step256 (q : Vec F S256x256 .bf16) (K : Vec F S1x256x256 .bf16) (V : Vec F S1x256x128 .bf16) : St F S256x128 → St F S256x128 := upd ev256 (k0_pay2 q K) (pv256 V)
def diag256 (q : Vec F S256x256 .bf16) (K : Vec F S1x256x256 .bf16) (V : Vec F S1x256x128 .bf16) : St F S256x128 → St F S256x128 := upd ev256 (k0_pay187 q K) (pv256 V)
def step272 (q : Vec F S272x256 .bf16) (K : Vec F S1x256x256 .bf16) (V : Vec F S1x256x128 .bf16) : St F S272x128 → St F S272x128 := upd ev272 (k0_pay287 q K) (pv272 V)
def diag272 (q : Vec F S272x256 .bf16) (K : Vec F S1x256x256 .bf16) (V : Vec F S1x256x128 .bf16) : St F S272x128 → St F S272x128 := upd ev272 (k0_pay389 q K) (pv272 V)
def last272 (q : Vec F S272x256 .bf16) (K : Vec F S1x256x256 .bf16) (V : Vec F S1x256x128 .bf16) : St F S272x128 → St F S272x128 := upd ev272 (k0_pay479 q K) (pv272 V)

/-- What the three scratch buffers hold in one rectangle. -/
abbrev rd3 {a9 a10 a11 : Memref sig .tc .vmem S2176x128 .f32} (R : Rect S2176x128) (f9 : Cts (F := F) a9) (f10 : Cts (F := F) a10) (f11 : Cts (F := F) a11) :
    (R.shape.Idx → Elt F .f32) × (R.shape.Idx → Elt F .f32) × (R.shape.Idx → Elt F .f32) :=
  (a9.view.readAt (Elt F) R.toLoadRect f9, a10.view.readAt (Elt F) R.toLoadRect f10, a11.view.readAt (Elt F) R.toLoadRect f11)

section
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)
variable (X6 : Cts (F := F) arg6) (X7 : Cts (F := F) arg7) (X8 : Cts (F := F) arg8)

/-- Key block n of the trip for query block k, its values, and head j's queries. -/
abbrev kAt (k : Fin k0_t1_loop.trips) (n : Fin (k0_t2_loop k).trips) : Vec F S1x256x256 .bf16 := arg6.view.readAt (Elt F) (Rect.unit (s := S1x2304x256) (k0_off9 k n) S1x256x256.size (facts.k0_off9_inb k n)).toLoadRect X6
abbrev vAt (k : Fin k0_t1_loop.trips) (n : Fin (k0_t2_loop k).trips) : Vec F S1x256x128 .bf16 := arg7.view.readAt (Elt F) (Rect.unit (s := S1x2304x128) (k0_off10 k n) S1x256x128.size (facts.k0_off10_inb k n)).toLoadRect X7
abbrev kLast (n : Fin k0_t4_loop.trips) : Vec F S1x256x256 .bf16 := arg6.view.readAt (Elt F) (Rect.unit (s := S1x2304x256) (k0_off23 n) S1x256x256.size (facts.k0_off23_inb n)).toLoadRect X6
abbrev vLast (n : Fin k0_t4_loop.trips) : Vec F S1x256x128 .bf16 := arg7.view.readAt (Elt F) (Rect.unit (s := S1x2304x128) (k0_off24 n) S1x256x128.size (facts.k0_off24_inb n)).toLoadRect X7
abbrev qAt (j : Fin 8) : Vec F S256x256 .bf16 := arg8.view.readAt (Elt F) (Q256 j).toLoadRect X8
abbrev qLast (j : Fin 8) : Vec F S272x256 .bf16 := arg8.view.readAt (Elt F) (Q272 j).toLoadRect X8

theorem trip2_eq (k : Fin k0_t1_loop.trips) (a12 a14 : BitVec 32) (n : Fin (k0_t2_loop k).trips) (f9 : Cts (F := F) arg9) (f10 : Cts (F := F) arg10) (f11 : Cts (F := F) arg11) :
    tripL_k0_t2 Variants.none c none i arg2 harg2 arg3 harg3 arg4 harg4 arg5 harg5 arg6 harg6 arg7 harg7 arg8 harg8 arg9 harg9 arg10 harg10 arg11 harg11 k a12 a14 X6 X7 X8 n f9 f10 f11 =
      (eight R256 fun j => (step256 (qAt arg8 X8 j) (kAt arg6 X6 k n) (vAt arg7 X7 k n) (rd3 (R256 j) f9 f10 f11)).1,
       eight R256 fun j => (step256 (qAt arg8 X8 j) (kAt arg6 X6 k n) (vAt arg7 X7 k n) (rd3 (R256 j) f9 f10 f11)).2.1,
       eight R256 fun j => (step256 (qAt arg8 X8 j) (kAt arg6 X6 k n) (vAt arg7 X7 k n) (rd3 (R256 j) f9 f10 f11)).2.2) := by
  unfold tripL_k0_t2 trip_k0_t2
  rfl

theorem trip4_eq (z : F .f32) (n : Fin k0_t4_loop.trips) (f9 : Cts (F := F) arg9) (f10 : Cts (F := F) arg10) (f11 : Cts (F := F) arg11) :
    tripL_k0_t4 Variants.none c none i arg2 harg2 arg3 harg3 arg4 harg4 arg5 harg5 arg6 harg6 arg7 harg7 arg8 harg8 arg9 harg9 arg10 harg10 arg11 harg11 z X6 X7 X8 n f9 f10 f11 =
      (eight R272 fun j => (step272 (qLast arg8 X8 j) (kLast arg6 X6 n) (vLast arg7 X7 n) (rd3 (R272 j) f9 f10 f11)).1,
       eight R272 fun j => (step272 (qLast arg8 X8 j) (kLast arg6 X6 n) (vLast arg7 X7 n) (rd3 (R272 j) f9 f10 f11)).2.1,
       eight R272 fun j => (step272 (qLast arg8 X8 j) (kLast arg6 X6 n) (vLast arg7 X7 n) (rd3 (R272 j) f9 f10 f11)).2.2) := by
  unfold tripL_k0_t4 trip_k0_t4
  rfl
end
end Cert.KernelIdeal.Att
-- ==== Proof.Blocks.lean ====
module
public import proofs.«01_k».proof.Proof.Steps
public import Idealize.ShloMosaic.Lib.ValueIdxCore
@[expose] public section
set_option maxRecDepth 16384
noncomputable section
namespace Cert.KernelIdeal.Att
open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! # One query block, head by head

A trip of the loop over the query blocks stages the eight heads' queries, starts the running softmax afresh, goes over
the key blocks before the diagonal, then over the diagonal block, and writes the quotients. Here the pieces it writes
are given head by head as a recursion over the key blocks, in which nothing remains of what the scratch held before. -/

/-- A recursion over the key blocks. -/
def fold {α : Type} (S : ℕ → α → α) (s : α) : ℕ → α
  | 0 => s
  | n + 1 => S n (fold S s n)

/-- The three scratch buffers' contents in a rectangle. -/
abbrev Tri (F : FTy → Type) [FloatOps F] (R : Rect S2176x128) : Type := (R.shape.Idx → Elt F .f32) × (R.shape.Idx → Elt F .f32) × (R.shape.Idx → Elt F .f32)
abbrev Ls (F : FTy → Type) [FloatOps F] : Type := List (View.Piece (Elt F) S2176x128 .f32) × List (View.Piece (Elt F) S2176x128 .f32) × List (View.Piece (Elt F) S2176x128 .f32)

section
variable (a9 a10 a11 : Memref sig .tc .vmem S2176x128 .f32)

/-- What is read back, in one rectangle, of the stores listed. -/
abbrev rc3 (R : Rect S2176x128) (L : Ls F) : Tri F R := (a9.view.readCov L.1 R.toLoadRect, a10.view.readCov L.2.1 R.toLoadRect, a11.view.readCov L.2.2 R.toLoadRect)

/-- A pass over the first n heads, each read and stored in turn. -/
def passL (R : Fin 8 → Rect S2176x128) (S : (j : Fin 8) → Tri F (R j) → Tri F (R j)) (B : Ls F) : ℕ → Ls F
  | 0 => B
  | n + 1 =>
    (⟨R (Fin.ofNat 8 n), (S (Fin.ofNat 8 n) (rc3 a9 a10 a11 (R (Fin.ofNat 8 n)) (passL R S B n))).1⟩ :: (passL R S B n).1,
     ⟨R (Fin.ofNat 8 n), (S (Fin.ofNat 8 n) (rc3 a9 a10 a11 (R (Fin.ofNat 8 n)) (passL R S B n))).2.1⟩ :: (passL R S B n).2.1,
     ⟨R (Fin.ofNat 8 n), (S (Fin.ofNat 8 n) (rc3 a9 a10 a11 (R (Fin.ofNat 8 n)) (passL R S B n))).2.2⟩ :: (passL R S B n).2.2)

theorem passL_succ (R : Fin 8 → Rect S2176x128) (S : (j : Fin 8) → Tri F (R j) → Tri F (R j)) (B : Ls F) (n : ℕ) :
    passL a9 a10 a11 R S B (n + 1) =
    (⟨R (Fin.ofNat 8 n), (S (Fin.ofNat 8 n) (rc3 a9 a10 a11 (R (Fin.ofNat 8 n)) (passL a9 a10 a11 R S B n))).1⟩ :: (passL a9 a10 a11 R S B n).1,
     ⟨R (Fin.ofNat 8 n), (S (Fin.ofNat 8 n) (rc3 a9 a10 a11 (R (Fin.ofNat 8 n)) (passL a9 a10 a11 R S B n))).2.1⟩ :: (passL a9 a10 a11 R S B n).2.1,
     ⟨R (Fin.ofNat 8 n), (S (Fin.ofNat 8 n) (rc3 a9 a10 a11 (R (Fin.ofNat 8 n)) (passL a9 a10 a11 R S B n))).2.2⟩ :: (passL a9 a10 a11 R S B n).2.2) := rfl

theorem passL_zero (R : Fin 8 → Rect S2176x128) (S : (j : Fin 8) → Tri F (R j) → Tri F (R j)) (B : Ls F) : passL a9 a10 a11 R S B 0 = B := rfl

/-- After a pass a head done reads its own step, a head not yet done what was there before the pass. -/
theorem passL_read (R : Fin 8 → Rect S2176x128) (hd : ∀ i j, i ≠ j → Disjoint (R i).set (R j).set) (S : (j : Fin 8) → Tri F (R j) → Tri F (R j)) (B : Ls F) :
    ∀ n ≤ 8, ∀ j : Fin 8, rc3 a9 a10 a11 (R j) (passL a9 a10 a11 R S B n) = if j.val < n then S j (rc3 a9 a10 a11 (R j) B) else rc3 a9 a10 a11 (R j) B := by
  intro n
  induction n with
  | zero => intro _ j; rfl
  | succ n ih =>
    intro hn j
    have hj : (Fin.ofNat 8 n).val = n := Nat.mod_eq_of_lt hn
    have ih' := ih (by omega)
    rw [passL_succ]
    by_cases h : j = Fin.ofNat 8 n
    · subst h
      have e := ih' (Fin.ofNat 8 n)
      rw [if_neg (by omega)] at e
      rw [if_pos (by omega), ← e]
      exact Prod.ext (View.readCov_cons_toLoadRect a9.view _ _ _) (Prod.ext (View.readCov_cons_toLoadRect a10.view _ _ _) (View.readCov_cons_toLoadRect a11.view _ _ _))
    · have hlt : (j.val < n + 1) = (j.val < n) := by
        have : j.val ≠ n := fun e => h (Fin.ext (by rw [hj]; exact e))
        exact propext ⟨fun _ => by omega, fun _ => by omega⟩
      rw [if_congr (iff_of_eq hlt) rfl rfl, ← ih' j]
      have hd' := hd _ _ (Ne.symm h)
      exact Prod.ext (View.readCov_cons_of_disjoint a9.view _ _ _ hd') (Prod.ext (View.readCov_cons_of_disjoint a10.view _ _ _ hd') (View.readCov_cons_of_disjoint a11.view _ _ _ hd'))
end

section
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)
variable (X2 : Cts (F := F) arg2) (X6 : Cts (F := F) arg6) (X7 : Cts (F := F) arg7) (k : Fin k0_t1_loop.trips)

/-- Key block n of a staged key buffer, and its values. -/
def keyBlk (x : Vec F S1x2304x256 .bf16) (n : ℕ) : Vec F S1x256x256 .bf16 := fun y => x (ix3 0 ⟨(256 * n + (y 1).val) % 2304, Nat.mod_lt _ (by decide)⟩ (y 2))
def valBlk (x : Vec F S1x2304x128 .bf16) (n : ℕ) : Vec F S1x256x128 .bf16 := fun y => x (ix3 0 ⟨(256 * n + (y 1).val) % 2304, Nat.mod_lt _ (by decide)⟩ (y 2))

theorem readAt_keyBlk (n : ℕ) (hn : n < 9) (off : Fin 3 → ℕ) (ho : off = ![0, 256 * n, 0]) (inb : ∀ a, off a + S1x256x256.size a ≤ S1x2304x256.size a) :
    arg6.view.readAt (Elt F) (Rect.unit (s := S1x2304x256) off S1x256x256.size inb).toLoadRect X6 = keyBlk (arg6.view.read (Elt F) X6) n := by
  subst ho
  funext y
  rw [View.readAt_apply]
  unfold keyBlk
  congr 1
  funext a
  apply Fin.ext
  have h1 : (y 1).val < 256 := (y 1).isLt
  have h0 : (y 0).val < 1 := (y 0).isLt
  match a with
  | 0 => show 0 + 1 * (y 0).val = 0; omega
  | 1 => show 256 * n + 1 * (y 1).val = (256 * n + (y 1).val) % 2304; rw [Nat.mod_eq_of_lt (by omega)]; omega
  | 2 => show 0 + 1 * (y 2).val = (y 2).val; omega

theorem readAt_valBlk (n : ℕ) (hn : n < 9) (off : Fin 3 → ℕ) (ho : off = ![0, 256 * n, 0]) (inb : ∀ a, off a + S1x256x128.size a ≤ S1x2304x128.size a) :
    arg7.view.readAt (Elt F) (Rect.unit (s := S1x2304x128) off S1x256x128.size inb).toLoadRect X7 = valBlk (arg7.view.read (Elt F) X7) n := by
  subst ho
  funext y
  rw [View.readAt_apply]
  unfold valBlk
  congr 1
  funext a
  apply Fin.ext
  have h1 : (y 1).val < 256 := (y 1).isLt
  have h0 : (y 0).val < 1 := (y 0).isLt
  match a with
  | 0 => show 0 + 1 * (y 0).val = 0; omega
  | 1 => show 256 * n + 1 * (y 1).val = (256 * n + (y 1).val) % 2304; rw [Nat.mod_eq_of_lt (by omega)]; omega
  | 2 => show 0 + 1 * (y 2).val = (y 2).val; omega

/-- The word of the first row of block n. -/
theorem word256 : ∀ n : Fin 9, (Scalar.indexCast (Scalar.muli (Scf.iv 0#32 1#32 n.val) 256#32)).toNat = 256 * n.val := by decide

theorem trips1 : k0_t1_loop.trips = 7 := by decide
theorem trips4 : k0_t4_loop.trips = 7 := by decide
theorem trips2 : ∀ k : Fin k0_t1_loop.trips, (k0_t2_loop k).trips = k.val := by decide
theorem trips3 : ∀ k : Fin k0_t1_loop.trips, (k0_t3_loop k).trips = 0 := by decide

theorem loop2 (a12 a14 : BitVec 32) (X8 : Cts (F := F) arg8) (G9 : Cts (F := F) arg9) (G10 : Cts (F := F) arg10) (G11 : Cts (F := F) arg11) (j : Fin 8) :
    ∀ n ≤ (k0_t2_loop k).trips,
    rd3 (R256 j) (arg9.view.writes (Elt F) G9 (pb_k0_t2 Variants.none c none i arg2 harg2 arg3 harg3 arg4 harg4 arg5 harg5 arg6 harg6 arg7 harg7 arg8 harg8 arg9 harg9 arg10 harg10 arg11 harg11 k a12 a14 X6 X7 X8 G9 G10 G11 n).1) (arg10.view.writes (Elt F) G10 (pb_k0_t2 Variants.none c none i arg2 harg2 arg3 harg3 arg4 harg4 arg5 harg5 arg6 harg6 arg7 harg7 arg8 harg8 arg9 harg9 arg10 harg10 arg11 harg11 k a12 a14 X6 X7 X8 G9 G10 G11 n).2.1) (arg11.view.writes (Elt F) G11 (pb_k0_t2 Variants.none c none i arg2 harg2 arg3 harg3 arg4 harg4 arg5 harg5 arg6 harg6 arg7 harg7 arg8 harg8 arg9 harg9 arg10 harg10 arg11 harg11 k a12 a14 X6 X7 X8 G9 G10 G11 n).2.2)
      = fold (fun n => step256 (qAt arg8 X8 j) (keyBlk (arg6.view.read (Elt F) X6) n) (valBlk (arg7.view.read (Elt F) X7) n)) (rd3 (R256 j) G9 G10 G11) n := by
  intro n
  induction n with
  | zero => intro _; rfl
  | succ n ih =>
    intro hn
    have h9 : n < 9 := by have := trips2 k; have := k.isLt; have := trips1; omega
    have ih' := ih (by omega)
    have hk : kAt arg6 X6 k ⟨n, hn⟩ = keyBlk (arg6.view.read (Elt F) X6) n := readAt_keyBlk arg6 X6 n h9 _ (by unfold k0_off9; rw [← word256 ⟨n, h9⟩]) _
    have hv : vAt arg7 X7 k ⟨n, hn⟩ = valBlk (arg7.view.read (Elt F) X7) n := readAt_valBlk arg7 X7 n h9 _ (by unfold k0_off10; rw [← word256 ⟨n, h9⟩]) _
    rw [show n + 1 = (⟨n, hn⟩ : Fin (k0_t2_loop k).trips).val + 1 from rfl, pb_k0_t2_succ]
    rw [trip2_eq]
    rw [ View.writes_append, View.writes_append, View.writes_append]
    unfold rd3
    rw [readAt_eight _ _ _ _ R256_disjoint, readAt_eight _ _ _ _ R256_disjoint, readAt_eight _ _ _ _ R256_disjoint, hk, hv]
    exact congrArg (step256 (qAt arg8 X8 j) (keyBlk (arg6.view.read (Elt F) X6) n) (valBlk (arg7.view.read (Elt F) X7) n)) ih'

theorem loop4 (z : F .f32) (X8 : Cts (F := F) arg8) (G9 : Cts (F := F) arg9) (G10 : Cts (F := F) arg10) (G11 : Cts (F := F) arg11) (j : Fin 8) :
    ∀ n ≤ k0_t4_loop.trips,
    rd3 (R272 j) (arg9.view.writes (Elt F) G9 (pb_k0_t4 Variants.none c none i arg2 harg2 arg3 harg3 arg4 harg4 arg5 harg5 arg6 harg6 arg7 harg7 arg8 harg8 arg9 harg9 arg10 harg10 arg11 harg11 z X6 X7 X8 G9 G10 G11 n).1) (arg10.view.writes (Elt F) G10 (pb_k0_t4 Variants.none c none i arg2 harg2 arg3 harg3 arg4 harg4 arg5 harg5 arg6 harg6 arg7 harg7 arg8 harg8 arg9 harg9 arg10 harg10 arg11 harg11 z X6 X7 X8 G9 G10 G11 n).2.1) (arg11.view.writes (Elt F) G11 (pb_k0_t4 Variants.none c none i arg2 harg2 arg3 harg3 arg4 harg4 arg5 harg5 arg6 harg6 arg7 harg7 arg8 harg8 arg9 harg9 arg10 harg10 arg11 harg11 z X6 X7 X8 G9 G10 G11 n).2.2)
      = fold (fun n => step272 (qLast arg8 X8 j) (keyBlk (arg6.view.read (Elt F) X6) n) (valBlk (arg7.view.read (Elt F) X7) n)) (rd3 (R272 j) G9 G10 G11) n := by
  intro n
  induction n with
  | zero => intro _; rfl
  | succ n ih =>
    intro hn
    have h9 : n < 9 := by have := trips4; omega
    have ih' := ih (by omega)
    have hk : kLast arg6 X6 ⟨n, hn⟩ = keyBlk (arg6.view.read (Elt F) X6) n := readAt_keyBlk arg6 X6 n h9 _ (by unfold k0_off23; rw [← word256 ⟨n, h9⟩]) _
    have hv : vLast arg7 X7 ⟨n, hn⟩ = valBlk (arg7.view.read (Elt F) X7) n := readAt_valBlk arg7 X7 n h9 _ (by unfold k0_off24; rw [← word256 ⟨n, h9⟩]) _
    rw [show n + 1 = (⟨n, hn⟩ : Fin k0_t4_loop.trips).val + 1 from rfl, pb_k0_t4_succ]
    rw [trip4_eq]
    rw [ View.writes_append, View.writes_append, View.writes_append]
    unfold rd3
    rw [readAt_eight _ _ _ _ R272_disjoint, readAt_eight _ _ _ _ R272_disjoint, readAt_eight _ _ _ _ R272_disjoint, hk, hv]
    exact congrArg (step272 (qLast arg8 X8 j) (keyBlk (arg6.view.read (Elt F) X6) n) (valBlk (arg7.view.read (Elt F) X7) n)) ih'
end
end Cert.KernelIdeal.Att
-- ==== Proof.TripVal.lean ====
module
public import proofs.«01_k».proof.Proof.Blocks
public import Idealize.ShloMosaic.Lib.ValueIdxCore
@[expose] public section
set_option maxRecDepth 16384
noncomputable section
namespace Cert.KernelIdeal.Att
open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! # What one query block's trip writes -/

section
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)
variable (X2 : Cts (F := F) arg2) (X6 : Cts (F := F) arg6) (X7 : Cts (F := F) arg7) (k : Fin k0_t1_loop.trips)
variable (f8 : Cts (F := F) arg8) (f9 : Cts (F := F) arg9) (f10 : Cts (F := F) arg10) (f11 : Cts (F := F) arg11)

/-- Where head j's queries are read and its outputs written in query block k. -/
def qoff : Fin 8 → Fin 2 → ℕ := fun j => match j with
  | 0 => k0_off1 k | 1 => k0_off2 k | 2 => k0_off3 k | 3 => k0_off4 k | 4 => k0_off5 k | 5 => k0_off6 k | 6 => k0_off7 k | 7 => k0_off8 k
theorem qoff_eq (j : Fin 8) : qoff k j = ![256 * k.val, 256 * j.val] := by
  have hk : k.val < 9 := by have := k.isLt; have := trips1; omega
  have e := word256 ⟨k.val, hk⟩
  match j with
  | 0 | 1 | 2 | 3 | 4 | 5 | 6 | 7 => exact congrArg (fun x : ℕ => (![x, _] : Fin 2 → ℕ)) e
theorem qoff_inb (j : Fin 8) : ∀ a, qoff k j a + S256x256.size a ≤ S2064x2048.size a := by
  have hk : k.val < 7 := by have := k.isLt; have := trips1; omega
  rw [qoff_eq]; intro a
  match a with
  | 0 => show 256 * k.val + 256 ≤ 2064; omega
  | 1 => show 256 * j.val + 256 ≤ 2048; omega
def ooff : Fin 8 → Fin 2 → ℕ := fun j => match j with
  | 0 => k0_off15 k | 1 => k0_off16 k | 2 => k0_off17 k | 3 => k0_off18 k | 4 => k0_off19 k | 5 => k0_off20 k | 6 => k0_off21 k | 7 => k0_off22 k
theorem ooff_eq (j : Fin 8) : ooff k j = ![256 * k.val, 128 * j.val] := by
  have hk : k.val < 9 := by have := k.isLt; have := trips1; omega
  have e := word256 ⟨k.val, hk⟩
  match j with
  | 0 | 1 | 2 | 3 | 4 | 5 | 6 | 7 => exact congrArg (fun x : ℕ => (![x, _] : Fin 2 → ℕ)) e
theorem ooff_inb (j : Fin 8) : ∀ a, ooff k j a + S256x128.size a ≤ S2064x1024.size a := by
  have hk : k.val < 7 := by have := k.isLt; have := trips1; omega
  rw [ooff_eq]; intro a
  match a with
  | 0 => show 256 * k.val + 256 ≤ 2064; omega
  | 1 => show 128 * j.val + 128 ≤ 1024; omega
abbrev OR (j : Fin 8) : Rect S2064x1024 := Rect.unit (ooff k j) S256x128.size (ooff_inb k j)

/-- The eight heads' queries as staged, and the fresh running softmax. -/
def qStaged : List (View.Piece (Elt F) S2176x256 .bf16) :=
  eight Q256 fun j => k0_pay181 (arg2.view.readAt (Elt F) (Rect.unit (s := S2064x2048) (qoff k j) S256x256.size (qoff_inb k j)).toLoadRect X2)
abbrev R2048 : Rect S2176x128 := Rect.unit ![0, 0] S2048x128.size facts.inb_S2176x128_S2048x128_0_0
def P2 : Ls F := pb_k0_t2 Variants.none c none i arg2 harg2 arg3 harg3 arg4 harg4 arg5 harg5 arg6 harg6 arg7 harg7 arg8 harg8 arg9 harg9 arg10 harg10 arg11 harg11 k (tripQ.sl.arg12 k) (tripQ.sl.v913 k) X6 X7 (arg8.view.writes (Elt F) f8 (qStaged arg2 X2 k))
  (arg9.view.writes (Elt F) f9 [⟨R2048, k0_pay182⟩]) (arg10.view.writes (Elt F) f10 [⟨R2048, k0_pay183⟩]) (arg11.view.writes (Elt F) f11 [⟨R2048, k0_pay184⟩]) (k0_t2_loop k).trips
def P2' : Ls F := ((P2 c i arg2 harg2 arg3 harg3 arg4 harg4 arg5 harg5 arg6 harg6 arg7 harg7 arg8 harg8 arg9 harg9 arg10 harg10 arg11 harg11 X2 X6 X7 k f8 f9 f10 f11).1 ++ [⟨R2048, k0_pay182⟩], (P2 c i arg2 harg2 arg3 harg3 arg4 harg4 arg5 harg5 arg6 harg6 arg7 harg7 arg8 harg8 arg9 harg9 arg10 harg10 arg11 harg11 X2 X6 X7 k f8 f9 f10 f11).2.1 ++ [⟨R2048, k0_pay183⟩], (P2 c i arg2 harg2 arg3 harg3 arg4 harg4 arg5 harg5 arg6 harg6 arg7 harg7 arg8 harg8 arg9 harg9 arg10 harg10 arg11 harg11 X2 X6 X7 k f8 f9 f10 f11).2.2 ++ [⟨R2048, k0_pay184⟩])
def P3 (n : ℕ) : Ls F := pb_k0_t3 Variants.none c none i arg2 harg2 arg3 harg3 arg4 harg4 arg5 harg5 arg6 harg6 arg7 harg7 arg8 harg8 arg9 harg9 arg10 harg10 arg11 harg11 k (tripQ.sl.arg12 k) (tripQ.sl.v913 k) (tripQ.sl.v971 k) X6 X7 (arg8.view.writes (Elt F) f8 (qStaged arg2 X2 k))
  (arg9.view.writes (Elt F) f9 (P2' c i arg2 harg2 arg3 harg3 arg4 harg4 arg5 harg5 arg6 harg6 arg7 harg7 arg8 harg8 arg9 harg9 arg10 harg10 arg11 harg11 X2 X6 X7 k f8 f9 f10 f11).1) (arg10.view.writes (Elt F) f10 (P2' c i arg2 harg2 arg3 harg3 arg4 harg4 arg5 harg5 arg6 harg6 arg7 harg7 arg8 harg8 arg9 harg9 arg10 harg10 arg11 harg11 X2 X6 X7 k f8 f9 f10 f11).2.1) (arg11.view.writes (Elt F) f11 (P2' c i arg2 harg2 arg3 harg3 arg4 harg4 arg5 harg5 arg6 harg6 arg7 harg7 arg8 harg8 arg9 harg9 arg10 harg10 arg11 harg11 X2 X6 X7 k f8 f9 f10 f11).2.2) n
def P3' : Ls F := ((P3 c i arg2 harg2 arg3 harg3 arg4 harg4 arg5 harg5 arg6 harg6 arg7 harg7 arg8 harg8 arg9 harg9 arg10 harg10 arg11 harg11 X2 X6 X7 k f8 f9 f10 f11 (k0_t3_loop k).trips).1 ++ (P2' c i arg2 harg2 arg3 harg3 arg4 harg4 arg5 harg5 arg6 harg6 arg7 harg7 arg8 harg8 arg9 harg9 arg10 harg10 arg11 harg11 X2 X6 X7 k f8 f9 f10 f11).1, (P3 c i arg2 harg2 arg3 harg3 arg4 harg4 arg5 harg5 arg6 harg6 arg7 harg7 arg8 harg8 arg9 harg9 arg10 harg10 arg11 harg11 X2 X6 X7 k f8 f9 f10 f11 (k0_t3_loop k).trips).2.1 ++ (P2' c i arg2 harg2 arg3 harg3 arg4 harg4 arg5 harg5 arg6 harg6 arg7 harg7 arg8 harg8 arg9 harg9 arg10 harg10 arg11 harg11 X2 X6 X7 k f8 f9 f10 f11).2.1, (P3 c i arg2 harg2 arg3 harg3 arg4 harg4 arg5 harg5 arg6 harg6 arg7 harg7 arg8 harg8 arg9 harg9 arg10 harg10 arg11 harg11 X2 X6 X7 k f8 f9 f10 f11 (k0_t3_loop k).trips).2.2 ++ (P2' c i arg2 harg2 arg3 harg3 arg4 harg4 arg5 harg5 arg6 harg6 arg7 harg7 arg8 harg8 arg9 harg9 arg10 harg10 arg11 harg11 X2 X6 X7 k f8 f9 f10 f11).2.2)

/-- The loop for what a multiple of the unroll factor leaves over makes no trip. -/
theorem P3'_eq : P3' c i arg2 harg2 arg3 harg3 arg4 harg4 arg5 harg5 arg6 harg6 arg7 harg7 arg8 harg8 arg9 harg9 arg10 harg10 arg11 harg11 X2 X6 X7 k f8 f9 f10 f11 = P2' c i arg2 harg2 arg3 harg3 arg4 harg4 arg5 harg5 arg6 harg6 arg7 harg7 arg8 harg8 arg9 harg9 arg10 harg10 arg11 harg11 X2 X6 X7 k f8 f9 f10 f11 := by
  unfold P3'
  rw [trips3 k]
  rfl

/-- The diagonal block's pass over the heads. -/
abbrev qc (j : Fin 8) : Vec F S256x256 .bf16 := arg8.view.readCov (qStaged arg2 X2 k) (Q256 j).toLoadRect
abbrev kd : Vec F S1x256x256 .bf16 := arg6.view.readAt (Elt F) (Rect.unit (s := S1x2304x256) (k0_off13 k) S1x256x256.size (facts.k0_off13_inb k)).toLoadRect X6
abbrev vd : Vec F S1x256x128 .bf16 := arg7.view.readAt (Elt F) (Rect.unit (s := S1x2304x128) (k0_off14 k) S1x256x128.size (facts.k0_off14_inb k)).toLoadRect X7
def DL : ℕ → Ls F := passL arg9 arg10 arg11 R256 (fun j => diag256 (qc arg2 arg8 X2 k j) (kd arg6 X6 k) (vd arg7 X7 k)) (P3' c i arg2 harg2 arg3 harg3 arg4 harg4 arg5 harg5 arg6 harg6 arg7 harg7 arg8 harg8 arg9 harg9 arg10 harg10 arg11 harg11 X2 X6 X7 k f8 f9 f10 f11)

theorem diag_1 :
    (tripQ.sl.HW9_1 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW10_1 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_1 (F := F) c i arg2 harg2 arg3 harg3 arg4 harg4 arg5 harg5 arg6 harg6 arg7 harg7 arg8 harg8 arg9 harg9 arg10 harg10 arg11 harg11 Variants.none none X2 X6 X7 k f8 f9 f10 f11)
      = DL c i arg2 harg2 arg3 harg3 arg4 harg4 arg5 harg5 arg6 harg6 arg7 harg7 arg8 harg8 arg9 harg9 arg10 harg10 arg11 harg11 X2 X6 X7 k f8 f9 f10 f11 1 := by
  unfold DL; rw [passL_succ]
  rfl

theorem diag_2 :
    (tripQ.sl.HW9_2 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW10_2 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_2 (F := F) c i arg2 harg2 arg3 harg3 arg4 harg4 arg5 harg5 arg6 harg6 arg7 harg7 arg8 harg8 arg9 harg9 arg10 harg10 arg11 harg11 Variants.none none X2 X6 X7 k f8 f9 f10 f11)
      = DL c i arg2 harg2 arg3 harg3 arg4 harg4 arg5 harg5 arg6 harg6 arg7 harg7 arg8 harg8 arg9 harg9 arg10 harg10 arg11 harg11 X2 X6 X7 k f8 f9 f10 f11 2 := by
  unfold DL; rw [passL_succ]; rw [← DL, ← diag_1]
  rfl

theorem diag_3 :
    (tripQ.sl.HW9_3 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW10_3 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_3 (F := F) c i arg2 harg2 arg3 harg3 arg4 harg4 arg5 harg5 arg6 harg6 arg7 harg7 arg8 harg8 arg9 harg9 arg10 harg10 arg11 harg11 Variants.none none X2 X6 X7 k f8 f9 f10 f11)
      = DL c i arg2 harg2 arg3 harg3 arg4 harg4 arg5 harg5 arg6 harg6 arg7 harg7 arg8 harg8 arg9 harg9 arg10 harg10 arg11 harg11 X2 X6 X7 k f8 f9 f10 f11 3 := by
  unfold DL; rw [passL_succ]; rw [← DL, ← diag_2]
  rfl

theorem diag_4 :
    (tripQ.sl.HW9_4 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW10_4 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_4 (F := F) c i arg2 harg2 arg3 harg3 arg4 harg4 arg5 harg5 arg6 harg6 arg7 harg7 arg8 harg8 arg9 harg9 arg10 harg10 arg11 harg11 Variants.none none X2 X6 X7 k f8 f9 f10 f11)
      = DL c i arg2 harg2 arg3 harg3 arg4 harg4 arg5 harg5 arg6 harg6 arg7 harg7 arg8 harg8 arg9 harg9 arg10 harg10 arg11 harg11 X2 X6 X7 k f8 f9 f10 f11 4 := by
  unfold DL; rw [passL_succ]; rw [← DL, ← diag_3]
  rfl

theorem diag_5 :
    (tripQ.sl.HW9_5 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW10_5 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_5 (F := F) c i arg2 harg2 arg3 harg3 arg4 harg4 arg5 harg5 arg6 harg6 arg7 harg7 arg8 harg8 arg9 harg9 arg10 harg10 arg11 harg11 Variants.none none X2 X6 X7 k f8 f9 f10 f11)
      = DL c i arg2 harg2 arg3 harg3 arg4 harg4 arg5 harg5 arg6 harg6 arg7 harg7 arg8 harg8 arg9 harg9 arg10 harg10 arg11 harg11 X2 X6 X7 k f8 f9 f10 f11 5 := by
  unfold DL; rw [passL_succ]; rw [← DL, ← diag_4]
  rfl

theorem diag_6 :
    (tripQ.sl.HW9_6 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW10_6 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_6 (F := F) c i arg2 harg2 arg3 harg3 arg4 harg4 arg5 harg5 arg6 harg6 arg7 harg7 arg8 harg8 arg9 harg9 arg10 harg10 arg11 harg11 Variants.none none X2 X6 X7 k f8 f9 f10 f11)
      = DL c i arg2 harg2 arg3 harg3 arg4 harg4 arg5 harg5 arg6 harg6 arg7 harg7 arg8 harg8 arg9 harg9 arg10 harg10 arg11 harg11 X2 X6 X7 k f8 f9 f10 f11 6 := by
  unfold DL; rw [passL_succ]; rw [← DL, ← diag_5]
  rfl

theorem diag_7 :
    (tripQ.sl.HW9_7 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW10_7 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_7 (F := F) c i arg2 harg2 arg3 harg3 arg4 harg4 arg5 harg5 arg6 harg6 arg7 harg7 arg8 harg8 arg9 harg9 arg10 harg10 arg11 harg11 Variants.none none X2 X6 X7 k f8 f9 f10 f11)
      = DL c i arg2 harg2 arg3 harg3 arg4 harg4 arg5 harg5 arg6 harg6 arg7 harg7 arg8 harg8 arg9 harg9 arg10 harg10 arg11 harg11 X2 X6 X7 k f8 f9 f10 f11 7 := by
  unfold DL; rw [passL_succ]; rw [← DL, ← diag_6]
  rfl

theorem diag_8 :
    (tripQ.sl.HW10_8 (F := F) c i arg2 harg2 arg3 harg3 arg4 harg4 arg5 harg5 arg6 harg6 arg7 harg7 arg8 harg8 arg9 harg9 arg10 harg10 arg11 harg11 Variants.none none X2 X6 X7 k f8 f9 f10 f11, tripQ.sl.HW11_8 (F := F) c i arg2 harg2 arg3 harg3 arg4 harg4 arg5 harg5 arg6 harg6 arg7 harg7 arg8 harg8 arg9 harg9 arg10 harg10 arg11 harg11 Variants.none none X2 X6 X7 k f8 f9 f10 f11)
      = (DL c i arg2 harg2 arg3 harg3 arg4 harg4 arg5 harg5 arg6 harg6 arg7 harg7 arg8 harg8 arg9 harg9 arg10 harg10 arg11 harg11 X2 X6 X7 k f8 f9 f10 f11 8).2 := by
  unfold DL; rw [passL_succ]; rw [← DL, ← diag_7]
  rfl

/-- The pieces a trip writes: in each head's block of output, weighted sum over sum. -/
theorem tripQ_pieces :
    (tripQ (F := F) c i arg2 harg2 arg3 harg3 arg4 harg4 arg5 harg5 arg6 harg6 arg7 harg7 arg8 harg8 arg9 harg9 arg10 harg10 arg11 harg11 Variants.none none X2 X6 X7 k).1 f8 f9 f10 f11 =
      eight (OR k) fun j => divf (F := F) (s := S256x128) (φ := .f32) (arg11.view.readCov (DL c i arg2 harg2 arg3 harg3 arg4 harg4 arg5 harg5 arg6 harg6 arg7 harg7 arg8 harg8 arg9 harg9 arg10 harg10 arg11 harg11 X2 X6 X7 k f8 f9 f10 f11 8).2.2 (R256 j).toLoadRect)
        (arg10.view.readCov (DL c i arg2 harg2 arg3 harg3 arg4 harg4 arg5 harg5 arg6 harg6 arg7 harg7 arg8 harg8 arg9 harg9 arg10 harg10 arg11 harg11 X2 X6 X7 k f8 f9 f10 f11 8).2.1 (R256 j).toLoadRect) := by
  unfold tripQ
  dsimp only
  rw [← diag_8]
  rfl
end
end Cert.KernelIdeal.Att
-- ==== Proof.BodyVal.lean ====
module
public import proofs.«01_k».proof.Proof.TripVal
public import Idealize.ShloMosaic.Lib.ValueIdxCore
@[expose] public section
set_option maxRecDepth 16384
noncomputable section
namespace Cert.KernelIdeal.Att
open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! # What the last query block writes -/

section
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)
variable (X2 : Cts (F := F) arg2) (X3 : Cts (F := F) arg3) (X4 : Cts (F := F) arg4)

/-- The keys and values as staged, and the eight heads' queries of the last block. -/
abbrev X6' : Cts (F := F) arg6 := arg6.view.writes (Elt F) arg6.view.junk (bodyQ.sl.H6_2 arg3 X3)
abbrev X7' : Cts (F := F) arg7 := arg7.view.writes (Elt F) arg7.view.junk (bodyQ.sl.H7_2 arg4 X4)
theorem lastq_inb (j : Fin 8) : ∀ a, (![1792, 256 * j.val] : Fin 2 → ℕ) a + S272x256.size a ≤ S2064x2048.size a := by
  intro a
  match a with
  | 0 => show 1792 + 272 ≤ 2064; omega
  | 1 => show 256 * j.val + 256 ≤ 2048; omega
def lastStaged : List (View.Piece (Elt F) S2176x256 .bf16) :=
  eight Q272 fun j => k0_pay384 (arg2.view.readAt (Elt F) (Rect.unit (s := S2064x2048) ![1792, 256 * j.val] S272x256.size (lastq_inb j)).toLoadRect X2)
abbrev RAll : Rect S2176x128 := Rect.unit ![0, 0] S2176x128.size facts.inb_S2176x128_S2176x128_0_0
def P4 : Ls F := pb_k0_t4 Variants.none c none i arg2 harg2 arg3 harg3 arg4 harg4 arg5 harg5 arg6 harg6 arg7 harg7 arg8 harg8 arg9 harg9 arg10 harg10 arg11 harg11 bodyQ.sl.cst_34 (X6' arg3 arg6 X3) (X7' arg4 arg7 X4) (arg8.view.writes (Elt F) arg8.view.junk (lastStaged arg2 X2))
  (arg9.view.writes (Elt F) arg9.view.junk [⟨RAll, k0_pay385 bodyQ.sl.cst_34⟩]) (arg10.view.writes (Elt F) arg10.view.junk [⟨RAll, k0_pay386⟩]) (arg11.view.writes (Elt F) arg11.view.junk [⟨RAll, k0_pay387⟩]) k0_t4_loop.trips
def P4' : Ls F := ((P4 c i arg2 harg2 arg3 harg3 arg4 harg4 arg5 harg5 arg6 harg6 arg7 harg7 arg8 harg8 arg9 harg9 arg10 harg10 arg11 harg11 X2 X3 X4).1 ++ [⟨RAll, k0_pay385 bodyQ.sl.cst_34⟩], (P4 c i arg2 harg2 arg3 harg3 arg4 harg4 arg5 harg5 arg6 harg6 arg7 harg7 arg8 harg8 arg9 harg9 arg10 harg10 arg11 harg11 X2 X3 X4).2.1 ++ [⟨RAll, k0_pay386⟩], (P4 c i arg2 harg2 arg3 harg3 arg4 harg4 arg5 harg5 arg6 harg6 arg7 harg7 arg8 harg8 arg9 harg9 arg10 harg10 arg11 harg11 X2 X3 X4).2.2 ++ [⟨RAll, k0_pay387⟩])

/-- The two masked blocks' passes over the heads. -/
abbrev ql (j : Fin 8) : Vec F S272x256 .bf16 := arg8.view.readCov (lastStaged arg2 X2) (Q272 j).toLoadRect
abbrev ka : Vec F S1x256x256 .bf16 := arg6.view.readCov (bodyQ.sl.H6_2 arg3 X3) (Rect.unit (s := S1x2304x256) ![0, 1792, 0] S1x256x256.size facts.inb_S1x2304x256_S1x256x256_0_1792_0).toLoadRect
abbrev va : Vec F S1x256x128 .bf16 := arg7.view.readCov (bodyQ.sl.H7_2 arg4 X4) (Rect.unit (s := S1x2304x128) ![0, 1792, 0] S1x256x128.size facts.inb_S1x2304x128_S1x256x128_0_1792_0).toLoadRect
abbrev kb : Vec F S1x256x256 .bf16 := arg6.view.readCov (bodyQ.sl.H6_2 arg3 X3) (Rect.unit (s := S1x2304x256) ![0, 2048, 0] S1x256x256.size facts.inb_S1x2304x256_S1x256x256_0_2048_0).toLoadRect
abbrev vb : Vec F S1x256x128 .bf16 := arg7.view.readCov (bodyQ.sl.H7_2 arg4 X4) (Rect.unit (s := S1x2304x128) ![0, 2048, 0] S1x256x128.size facts.inb_S1x2304x128_S1x256x128_0_2048_0).toLoadRect
def MA : ℕ → Ls F := passL arg9 arg10 arg11 R272 (fun j => diag272 (ql arg2 arg8 X2 j) (ka arg3 arg6 X3) (va arg4 arg7 X4)) (P4' c i arg2 harg2 arg3 harg3 arg4 harg4 arg5 harg5 arg6 harg6 arg7 harg7 arg8 harg8 arg9 harg9 arg10 harg10 arg11 harg11 X2 X3 X4)
def MB : ℕ → Ls F := passL arg9 arg10 arg11 R272 (fun j => last272 (ql arg2 arg8 X2 j) (kb arg3 arg6 X3) (vb arg4 arg7 X4)) (MA c i arg2 harg2 arg3 harg3 arg4 harg4 arg5 harg5 arg6 harg6 arg7 harg7 arg8 harg8 arg9 harg9 arg10 harg10 arg11 harg11 X2 X3 X4 8)

theorem mask_1 :
    (bodyQ.sl.H9_1_1 (F := F) c i arg2 harg2 arg3 harg3 arg4 harg4 arg5 harg5 arg6 harg6 arg7 harg7 arg8 harg8 arg9 harg9 arg10 harg10 arg11 harg11 X2 X3 X4, bodyQ.sl.H10_1_1 (F := F) c i arg2 harg2 arg3 harg3 arg4 harg4 arg5 harg5 arg6 harg6 arg7 harg7 arg8 harg8 arg9 harg9 arg10 harg10 arg11 harg11 X2 X3 X4, bodyQ.sl.H11_1_1 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 1 := by
  unfold MA; rw [passL_succ]
  rfl

theorem mask_2 :
    (bodyQ.sl.H9_2 (F := F) c i arg2 harg2 arg3 harg3 arg4 harg4 arg5 harg5 arg6 harg6 arg7 harg7 arg8 harg8 arg9 harg9 arg10 harg10 arg11 harg11 X2 X3 X4, bodyQ.sl.H10_2 (F := F) c i arg2 harg2 arg3 harg3 arg4 harg4 arg5 harg5 arg6 harg6 arg7 harg7 arg8 harg8 arg9 harg9 arg10 harg10 arg11 harg11 X2 X3 X4, bodyQ.sl.H11_2 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 2 := by
  unfold MA; rw [passL_succ]; rw [← MA, ← mask_1]
  rfl

theorem mask_3 :
    (bodyQ.sl.H9_3 (F := F) c i arg2 harg2 arg3 harg3 arg4 harg4 arg5 harg5 arg6 harg6 arg7 harg7 arg8 harg8 arg9 harg9 arg10 harg10 arg11 harg11 X2 X3 X4, bodyQ.sl.H10_3 (F := F) c i arg2 harg2 arg3 harg3 arg4 harg4 arg5 harg5 arg6 harg6 arg7 harg7 arg8 harg8 arg9 harg9 arg10 harg10 arg11 harg11 X2 X3 X4, bodyQ.sl.H11_3 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 3 := by
  unfold MA; rw [passL_succ]; rw [← MA, ← mask_2]
  rfl

theorem mask_4 :
    (bodyQ.sl.H9_4 (F := F) c i arg2 harg2 arg3 harg3 arg4 harg4 arg5 harg5 arg6 harg6 arg7 harg7 arg8 harg8 arg9 harg9 arg10 harg10 arg11 harg11 X2 X3 X4, bodyQ.sl.H10_4 (F := F) c i arg2 harg2 arg3 harg3 arg4 harg4 arg5 harg5 arg6 harg6 arg7 harg7 arg8 harg8 arg9 harg9 arg10 harg10 arg11 harg11 X2 X3 X4, bodyQ.sl.H11_4 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 4 := by
  unfold MA; rw [passL_succ]; rw [← MA, ← mask_3]
  rfl

theorem mask_5 :
    (bodyQ.sl.H9_5 (F := F) c i arg2 harg2 arg3 harg3 arg4 harg4 arg5 harg5 arg6 harg6 arg7 harg7 arg8 harg8 arg9 harg9 arg10 harg10 arg11 harg11 X2 X3 X4, bodyQ.sl.H10_5 (F := F) c i arg2 harg2 arg3 harg3 arg4 harg4 arg5 harg5 arg6 harg6 arg7 harg7 arg8 harg8 arg9 harg9 arg10 harg10 arg11 harg11 X2 X3 X4, bodyQ.sl.H11_5 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 5 := by
  unfold MA; rw [passL_succ]; rw [← MA, ← mask_4]
  rfl

theorem mask_6 :
    (bodyQ.sl.H9_6 (F := F) c i arg2 harg2 arg3 harg3 arg4 harg4 arg5 harg5 arg6 harg6 arg7 harg7 arg8 harg8 arg9 harg9 arg10 harg10 arg11 harg11 X2 X3 X4, bodyQ.sl.H10_6 (F := F) c i arg2 harg2 arg3 harg3 arg4 harg4 arg5 harg5 arg6 harg6 arg7 harg7 arg8 harg8 arg9 harg9 arg10 harg10 arg11 harg11 X2 X3 X4, bodyQ.sl.H11_6 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 6 := by
  unfold MA; rw [passL_succ]; rw [← MA, ← mask_5]
  rfl

theorem mask_7 :
    (bodyQ.sl.H9_7 (F := F) c i arg2 harg2 arg3 harg3 arg4 harg4 arg5 harg5 arg6 harg6 arg7 harg7 arg8 harg8 arg9 harg9 arg10 harg10 arg11 harg11 X2 X3 X4, bodyQ.sl.H10_7 (F := F) c i arg2 harg2 arg3 harg3 arg4 harg4 arg5 harg5 arg6 harg6 arg7 harg7 arg8 harg8 arg9 harg9 arg10 harg10 arg11 harg11 X2 X3 X4, bodyQ.sl.H11_7 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 7 := by
  unfold MA; rw [passL_succ]; rw [← MA, ← mask_6]
  rfl

theorem mask_8 :
    (bodyQ.sl.H9_8 (F := F) c i arg2 harg2 arg3 harg3 arg4 harg4 arg5 harg5 arg6 harg6 arg7 harg7 arg8 harg8 arg9 harg9 arg10 harg10 arg11 harg11 X2 X3 X4, bodyQ.sl.H10_8 (F := F) c i arg2 harg2 arg3 harg3 arg4 harg4 arg5 harg5 arg6 harg6 arg7 harg7 arg8 harg8 arg9 harg9 arg10 harg10 arg11 harg11 X2 X3 X4, bodyQ.sl.H11_8 (F := F) c i arg2 harg2 arg3 harg3 arg4 harg4 arg5 harg5 arg6 harg6 arg7 harg7 arg8 harg8 arg9 harg9 arg10 harg10 arg11 harg11 X2 X3 X4)
      = MA c i arg2 harg2 arg3 harg3 arg4 harg4 arg5 harg5 arg6 harg6 arg7 harg7 arg8 harg8 arg9 harg9 arg10 harg10 arg11 harg11 X2 X3 X4 8 := by
  unfold MA; rw [passL_succ]; rw [← MA, ← mask_7]
  rfl

theorem mask_9 :
    (bodyQ.sl.H9_9 (F := F) c i arg2 harg2 arg3 harg3 arg4 harg4 arg5 harg5 arg6 harg6 arg7 harg7 arg8 harg8 arg9 harg9 arg10 harg10 arg11 harg11 X2 X3 X4, bodyQ.sl.H10_9 (F := F) c i arg2 harg2 arg3 harg3 arg4 harg4 arg5 harg5 arg6 harg6 arg7 harg7 arg8 harg8 arg9 harg9 arg10 harg10 arg11 harg11 X2 X3 X4, bodyQ.sl.H11_9 (F := F) c i arg2 harg2 arg3 harg3 arg4 harg4 arg5 harg5 arg6 harg6 arg7 harg7 arg8 harg8 arg9 harg9 arg10 harg10 arg11 harg11 X2 X3 X4)
      = MB c i arg2 harg2 arg3 harg3 arg4 harg4 arg5 harg5 arg6 harg6 arg7 harg7 arg8 harg8 arg9 harg9 arg10 harg10 arg11 harg11 X2 X3 X4 1 := by
  unfold MB; rw [passL_succ]; rw [passL_zero, ← mask_8]
  rfl

theorem mask_10 :
    (bodyQ.sl.H9_10 (F := F) c i arg2 harg2 arg3 harg3 arg4 harg4 arg5 harg5 arg6 harg6 arg7 harg7 arg8 harg8 arg9 harg9 arg10 harg10 arg11 harg11 X2 X3 X4, bodyQ.sl.H10_10 (F := F) c i arg2 harg2 arg3 harg3 arg4 harg4 arg5 harg5 arg6 harg6 arg7 harg7 arg8 harg8 arg9 harg9 arg10 harg10 arg11 harg11 X2 X3 X4, bodyQ.sl.H11_10 (F := F) c i arg2 harg2 arg3 harg3 arg4 harg4 arg5 harg5 arg6 harg6 arg7 harg7 arg8 harg8 arg9 harg9 arg10 harg10 arg11 harg11 X2 X3 X4)
      = MB c i arg2 harg2 arg3 harg3 arg4 harg4 arg5 harg5 arg6 harg6 arg7 harg7 arg8 harg8 arg9 harg9 arg10 harg10 arg11 harg11 X2 X3 X4 2 := by
  unfold MB; rw [passL_succ]; rw [← MB, ← mask_9]
  rfl

theorem mask_11 :
    (bodyQ.sl.H9_11 (F := F) c i arg2 harg2 arg3 harg3 arg4 harg4 arg5 harg5 arg6 harg6 arg7 harg7 arg8 harg8 arg9 harg9 arg10 harg10 arg11 harg11 X2 X3 X4, bodyQ.sl.H10_11 (F := F) c i arg2 harg2 arg3 harg3 arg4 harg4 arg5 harg5 arg6 harg6 arg7 harg7 arg8 harg8 arg9 harg9 arg10 harg10 arg11 harg11 X2 X3 X4, bodyQ.sl.H11_11 (F := F) c i arg2 harg2 arg3 harg3 arg4 harg4 arg5 harg5 arg6 harg6 arg7 harg7 arg8 harg8 arg9 harg9 arg10 harg10 arg11 harg11 X2 X3 X4)
      = MB c i arg2 harg2 arg3 harg3 arg4 harg4 arg5 harg5 arg6 harg6 arg7 harg7 arg8 harg8 arg9 harg9 arg10 harg10 arg11 harg11 X2 X3 X4 3 := by
  unfold MB; rw [passL_succ]; rw [← MB, ← mask_10]
  rfl

theorem mask_12 :
    (bodyQ.sl.H9_12 (F := F) c i arg2 harg2 arg3 harg3 arg4 harg4 arg5 harg5 arg6 harg6 arg7 harg7 arg8 harg8 arg9 harg9 arg10 harg10 arg11 harg11 X2 X3 X4, bodyQ.sl.H10_12 (F := F) c i arg2 harg2 arg3 harg3 arg4 harg4 arg5 harg5 arg6 harg6 arg7 harg7 arg8 harg8 arg9 harg9 arg10 harg10 arg11 harg11 X2 X3 X4, bodyQ.sl.H11_12 (F := F) c i arg2 harg2 arg3 harg3 arg4 harg4 arg5 harg5 arg6 harg6 arg7 harg7 arg8 harg8 arg9 harg9 arg10 harg10 arg11 harg11 X2 X3 X4)
      = MB c i arg2 harg2 arg3 harg3 arg4 harg4 arg5 harg5 arg6 harg6 arg7 harg7 arg8 harg8 arg9 harg9 arg10 harg10 arg11 harg11 X2 X3 X4 4 := by
  unfold MB; rw [passL_succ]; rw [← MB, ← mask_11]
  rfl

theorem mask_13 :
    (bodyQ.sl.H9_13 (F := F) c i arg2 harg2 arg3 harg3 arg4 harg4 arg5 harg5 arg6 harg6 arg7 harg7 arg8 harg8 arg9 harg9 arg10 harg10 arg11 harg11 X2 X3 X4, bodyQ.sl.H10_13 (F := F) c i arg2 harg2 arg3 harg3 arg4 harg4 arg5 harg5 arg6 harg6 arg7 harg7 arg8 harg8 arg9 harg9 arg10 harg10 arg11 harg11 X2 X3 X4, bodyQ.sl.H11_13 (F := F) c i arg2 harg2 arg3 harg3 arg4 harg4 arg5 harg5 arg6 harg6 arg7 harg7 arg8 harg8 arg9 harg9 arg10 harg10 arg11 harg11 X2 X3 X4)
      = MB c i arg2 harg2 arg3 harg3 arg4 harg4 arg5 harg5 arg6 harg6 arg7 harg7 arg8 harg8 arg9 harg9 arg10 harg10 arg11 harg11 X2 X3 X4 5 := by
  unfold MB; rw [passL_succ]; rw [← MB, ← mask_12]
  rfl

theorem mask_14 :
    (bodyQ.sl.H9_14 (F := F) c i arg2 harg2 arg3 harg3 arg4 harg4 arg5 harg5 arg6 harg6 arg7 harg7 arg8 harg8 arg9 harg9 arg10 harg10 arg11 harg11 X2 X3 X4, bodyQ.sl.H10_14 (F := F) c i arg2 harg2 arg3 harg3 arg4 harg4 arg5 harg5 arg6 harg6 arg7 harg7 arg8 harg8 arg9 harg9 arg10 harg10 arg11 harg11 X2 X3 X4, bodyQ.sl.H11_14 (F := F) c i arg2 harg2 arg3 harg3 arg4 harg4 arg5 harg5 arg6 harg6 arg7 harg7 arg8 harg8 arg9 harg9 arg10 harg10 arg11 harg11 X2 X3 X4)
      = MB c i arg2 harg2 arg3 harg3 arg4 harg4 arg5 harg5 arg6 harg6 arg7 harg7 arg8 harg8 arg9 harg9 arg10 harg10 arg11 harg11 X2 X3 X4 6 := by
  unfold MB; rw [passL_succ]; rw [← MB, ← mask_13]
  rfl

theorem mask_15 :
    (bodyQ.sl.H9_15 (F := F) c i arg2 harg2 arg3 harg3 arg4 harg4 arg5 harg5 arg6 harg6 arg7 harg7 arg8 harg8 arg9 harg9 arg10 harg10 arg11 harg11 X2 X3 X4, bodyQ.sl.H10_15 (F := F) c i arg2 harg2 arg3 harg3 arg4 harg4 arg5 harg5 arg6 harg6 arg7 harg7 arg8 harg8 arg9 harg9 arg10 harg10 arg11 harg11 X2 X3 X4, bodyQ.sl.H11_15 (F := F) c i arg2 harg2 arg3 harg3 arg4 harg4 arg5 harg5 arg6 harg6 arg7 harg7 arg8 harg8 arg9 harg9 arg10 harg10 arg11 harg11 X2 X3 X4)
      = MB c i arg2 harg2 arg3 harg3 arg4 harg4 arg5 harg5 arg6 harg6 arg7 harg7 arg8 harg8 arg9 harg9 arg10 harg10 arg11 harg11 X2 X3 X4 7 := by
  unfold MB; rw [passL_succ]; rw [← MB, ← mask_14]
  rfl

theorem mask_16 :
    (bodyQ.sl.H10_16 (F := F) c i arg2 harg2 arg3 harg3 arg4 harg4 arg5 harg5 arg6 harg6 arg7 harg7 arg8 harg8 arg9 harg9 arg10 harg10 arg11 harg11 X2 X3 X4, bodyQ.sl.H11_16 (F := F) c i arg2 harg2 arg3 harg3 arg4 harg4 arg5 harg5 arg6 harg6 arg7 harg7 arg8 harg8 arg9 harg9 arg10 harg10 arg11 harg11 X2 X3 X4) = (MB c i arg2 harg2 arg3 harg3 arg4 harg4 arg5 harg5 arg6 harg6 arg7 harg7 arg8 harg8 arg9 harg9 arg10 harg10 arg11 harg11 X2 X3 X4 8).2 := by
  unfold MB; rw [passL_succ]; rw [← MB, ← mask_15]
  rfl

theorem lasto_inb (j : Fin 8) : ∀ a, (![1792, 128 * j.val] : Fin 2 → ℕ) a + S272x128.size a ≤ S2064x1024.size a := by
  intro a
  match a with
  | 0 => show 1792 + 272 ≤ 2064; omega
  | 1 => show 128 * j.val + 128 ≤ 1024; omega
abbrev OL (j : Fin 8) : Rect S2064x1024 := Rect.unit ![1792, 128 * j.val] S272x128.size (lasto_inb j)

theorem bodyQ_pieces :
    (bodyQ (F := F) c i arg2 harg2 arg3 harg3 arg4 harg4 arg5 harg5 arg6 harg6 arg7 harg7 arg8 harg8 arg9 harg9 arg10 harg10 arg11 harg11 X2 X3 X4).1 = (X6' arg3 arg6 X3, X7' arg4 arg7 X4,
      eight OL fun j => divf (F := F) (s := S272x128) (φ := .f32) (arg11.view.readCov (MB c i arg2 harg2 arg3 harg3 arg4 harg4 arg5 harg5 arg6 harg6 arg7 harg7 arg8 harg8 arg9 harg9 arg10 harg10 arg11 harg11 X2 X3 X4 8).2.2 (R272 j).toLoadRect)
        (arg10.view.readCov (MB c i arg2 harg2 arg3 harg3 arg4 harg4 arg5 harg5 arg6 harg6 arg7 harg7 arg8 harg8 arg9 harg9 arg10 harg10 arg11 harg11 X2 X3 X4 8).2.1 (R272 j).toLoadRect)) := by
  unfold bodyQ
  dsimp only
  rw [← mask_16]
  rfl
end
end Cert.KernelIdeal.Att
-- ==== Proof.OutVal.lean ====
module
public import proofs.«01_k».proof.Proof.BodyVal
public import Idealize.ShloMosaic.Lib.ValueIdxCore
public import Idealize.ShloMosaic.Lib.ValueLayout
@[expose] public section
set_option maxRecDepth 16384
noncomputable section
namespace Cert.KernelIdeal.Att
open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! # The output block as a function of the three input blocks -/

theorem mem_eight {s : Shape} {e : EltTy} (R : Fin 8 → Rect s) (P : (j : Fin 8) → (R j).shape.Idx → Elt F e) {p : View.Piece (Elt F) s e} (h : p ∈ eight R P) : ∃ j, p = ⟨R j, P j⟩ := by
  simp only [eight, List.mem_cons, List.not_mem_nil, or_false] at h
  rcases h with h | h | h | h | h | h | h | h <;> exact ⟨_, h⟩

theorem eight_mem {s : Shape} {e : EltTy} (R : Fin 8 → Rect s) (P : (j : Fin 8) → (R j).shape.Idx → Elt F e) (j : Fin 8) : (⟨R j, P j⟩ : View.Piece (Elt F) s e) ∈ eight R P := by
  unfold eight
  match j with
  | 0 | 1 | 2 | 3 | 4 | 5 | 6 | 7 => simp only [List.mem_cons, true_or, or_true]

/-- Head j's queries in query block k, and in the last query block. -/
def qBlk (x : Vec F S2064x2048 .bf16) (k j : ℕ) : Vec F S256x256 .bf16 :=
  fun y => x (ix2 ⟨(256 * k + (y 0).val) % 2064, Nat.mod_lt _ (by decide)⟩ ⟨(256 * j + (y 1).val) % 2048, Nat.mod_lt _ (by decide)⟩)
def qEnd (x : Vec F S2064x2048 .bf16) (j : ℕ) : Vec F S272x256 .bf16 :=
  fun y => x (ix2 ⟨(1792 + (y 0).val) % 2064, Nat.mod_lt _ (by decide)⟩ ⟨(256 * j + (y 1).val) % 2048, Nat.mod_lt _ (by decide)⟩)

/-- The keys with rows of zeros up to a whole number of blocks; the values rounded, with rows of zeros. -/
def keys (x : Vec F S2064x256 .bf16) : Vec F S1x2304x256 .bf16 := fun y => if h : (y 1).val < 2064 then x (ix2 ⟨(y 1).val, h⟩ (y 2)) else Scalar.ofBits .bf16 0x0000#16
def vals (x : Vec F S2064x128 .f32) : Vec F S1x2304x128 .bf16 :=
  fun y => if h : (y 1).val < 2064 then truncf (s := S2064x128) .bf16 x facts.bitsLt_bf16_f32 (ix2 ⟨(y 1).val, h⟩ (y 2)) else Scalar.ofBits .bf16 0x0000#16

/-- The running softmax before any key. -/
def init (s : Shape) : St F s := (fun _ => Scalar.ofBits .f32 0xFF800000#32, fun _ => Scalar.ofBits .f32 0x00000000#32, fun _ => Scalar.ofBits .f32 0x00000000#32)

/-- A head's running softmax at the end of query block k, and at the end of the last one. -/
def fin256 (q : Vec F S256x256 .bf16) (x6 : Vec F S1x2304x256 .bf16) (x7 : Vec F S1x2304x128 .bf16) (k : ℕ) : St F S256x128 :=
  diag256 q (keyBlk x6 k) (valBlk x7 k) (fold (fun n => step256 q (keyBlk x6 n) (valBlk x7 n)) (init S256x128) k)
def fin272 (q : Vec F S272x256 .bf16) (x6 : Vec F S1x2304x256 .bf16) (x7 : Vec F S1x2304x128 .bf16) : St F S272x128 :=
  last272 q (keyBlk x6 8) (valBlk x7 8) (diag272 q (keyBlk x6 7) (valBlk x7 7) (fold (fun n => step272 q (keyBlk x6 n) (valBlk x7 n)) (init S272x128) 7))
def out256 (q : Vec F S256x256 .bf16) (x6 : Vec F S1x2304x256 .bf16) (x7 : Vec F S1x2304x128 .bf16) (k : ℕ) : FVec F S256x128 .f32 := divf (fin256 q x6 x7 k).2.2 (fin256 q x6 x7 k).2.1
def out272 (q : Vec F S272x256 .bf16) (x6 : Vec F S1x2304x256 .bf16) (x7 : Vec F S1x2304x128 .bf16) : FVec F S272x128 .f32 := divf (fin272 q x6 x7).2.2 (fin272 q x6 x7).2.1

/-- The whole output block. -/
def outAll (x2 : Vec F S2064x2048 .bf16) (x6 : Vec F S1x2304x256 .bf16) (x7 : Vec F S1x2304x128 .bf16) : Vec F S2064x1024 .f32 := fun y =>
  if (y 0).val < 1792 then out256 (qBlk x2 ((y 0).val / 256) ((y 1).val / 128)) x6 x7 ((y 0).val / 256) (ix2 ⟨(y 0).val % 256, Nat.mod_lt _ (by decide)⟩ ⟨(y 1).val % 128, Nat.mod_lt _ (by decide)⟩)
  else out272 (qEnd x2 ((y 1).val / 128)) x6 x7 (ix2 ⟨((y 0).val - 1792) % 272, Nat.mod_lt _ (by decide)⟩ ⟨(y 1).val % 128, Nat.mod_lt _ (by decide)⟩)

section
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)

theorem read_const {sp : Space} {s : Shape} {e : EltTy} (v : View sig .tc sp s e) (f : v.ty.Contents (Elt F)) (r R : Rect s) (w : r.shape.Idx → Elt F e) (z : Elt F e)
    (hw : ∀ x, w x = z) (hR : R.set ⊆ r.set) : v.readAt (Elt F) R.toLoadRect (v.writes (Elt F) f [⟨r, w⟩]) = fun _ => z := by
  funext x
  rw [View.readAt_apply]
  exact View.read_writes_apply_of_pieces v f (fun _ => z) _ (fun p hp x => by rw [List.mem_singleton] at hp; subst hp; exact hw x) _
    ⟨_, List.mem_singleton.2 rfl, hR (R.toLoadRect.idx_mem x)⟩

theorem word256a : ∀ n : Fin 9, (Scalar.indexCast (Scalar.muli (Scalar.addi (Scf.iv 0#32 1#32 n.val) 0#32) 256#32)).toNat = 256 * n.val := by decide

/-- Stores that follow a store covering the rectangle read the same whatever was there. -/
theorem readCov_append {sp : Space} {s : Shape} {e : EltTy} (v : View sig .tc sp s e) (f : v.ty.Contents (Elt F)) (L : List (View.Piece (Elt F) s e)) (p : View.Piece (Elt F) s e)
    (R : Rect s) (hR : R.set ⊆ p.1.set) : v.readCov (L ++ [p]) R.toLoadRect = v.readAt (Elt F) R.toLoadRect (v.writes (Elt F) (v.writes (Elt F) f [p]) L) := by
  rw [← View.writes_append, View.readAt_writes_of_cover]
  exact fun x => ⟨p, List.mem_append_right _ (List.mem_singleton.2 rfl), hR (R.toLoadRect.idx_mem x)⟩

theorem R256_sub (j : Fin 8) : (R256 j).set ⊆ R2048.set := by
  intro x hx
  have h := Rect.mem_set_unit.1 hx
  refine Rect.mem_set_unit.2 fun a => ?_
  match a with
  | 0 => have h2 : (x 0).val < 256 * j.val + 256 := (h 0).2
         exact ⟨Nat.zero_le _, by show (x 0).val < 0 + 2048; omega⟩
  | 1 => have h2 : (x 1).val < 0 + 128 := (h 1).2
         exact ⟨Nat.zero_le _, h2⟩
theorem R272_sub (j : Fin 8) : (R272 j).set ⊆ RAll.set := by
  intro x hx
  have h := Rect.mem_set_unit.1 hx
  refine Rect.mem_set_unit.2 fun a => ?_
  match a with
  | 0 => have h2 : (x 0).val < 272 * j.val + 272 := (h 0).2
         exact ⟨Nat.zero_le _, by show (x 0).val < 0 + 2176; omega⟩
  | 1 => have h2 : (x 1).val < 0 + 128 := (h 1).2
         exact ⟨Nat.zero_le _, h2⟩

section trip
variable (X2 : Cts (F := F) arg2) (X6 : Cts (F := F) arg6) (X7 : Cts (F := F) arg7) (k : Fin k0_t1_loop.trips)
variable (f8 : Cts (F := F) arg8) (f9 : Cts (F := F) arg9) (f10 : Cts (F := F) arg10) (f11 : Cts (F := F) arg11)

theorem q_piece (j : Fin 8) : k0_pay181 (arg2.view.readAt (Elt F) (Rect.unit (s := S2064x2048) (qoff k j) S256x256.size (qoff_inb k j)).toLoadRect X2) = qBlk (arg2.view.read (Elt F) X2) k.val j.val := by
  have hk : k.val < 7 := by have := k.isLt; have := trips1; omega
  unfold k0_pay181
  dsimp only
  rw [shapeCast_self]
  funext y
  rw [View.readAt_apply]
  unfold qBlk
  congr 1
  have h0 : (y 0).val < 256 := (y 0).isLt
  have h1 : (y 1).val < 256 := (y 1).isLt
  have e0 : qoff k j 0 = 256 * k.val := by rw [qoff_eq]; rfl
  have e1 : qoff k j 1 = 256 * j.val := by rw [qoff_eq]; rfl
  funext a
  apply Fin.ext
  match a with
  | 0 => show qoff k j 0 + 1 * (y 0).val = (256 * k.val + (y 0).val) % 2064; rw [Nat.mod_eq_of_lt (by omega)]; omega
  | 1 => show qoff k j 1 + 1 * (y 1).val = (256 * j.val + (y 1).val) % 2048; rw [Nat.mod_eq_of_lt (by omega)]; omega

theorem q_read (f : Cts (F := F) arg8) (j : Fin 8) : arg8.view.readAt (Elt F) (Q256 j).toLoadRect (arg8.view.writes (Elt F) f (qStaged arg2 X2 k)) = qBlk (arg2.view.read (Elt F) X2) k.val j.val :=
  (readAt_eight arg8.view f Q256 _ Q256_disjoint j).trans (q_piece arg2 X2 k j)

theorem base_read (j : Fin 8) : rc3 arg9 arg10 arg11 (R256 j) (P3' c i arg2 harg2 arg3 harg3 arg4 harg4 arg5 harg5 arg6 harg6 arg7 harg7 arg8 harg8 arg9 harg9 arg10 harg10 arg11 harg11 X2 X6 X7 k f8 f9 f10 f11) =
    fold (fun n => step256 (qBlk (arg2.view.read (Elt F) X2) k.val j.val) (keyBlk (arg6.view.read (Elt F) X6) n) (valBlk (arg7.view.read (Elt F) X7) n)) (init S256x128) k.val := by
  rw [P3'_eq]
  have hl := loop2 c i arg2 harg2 arg3 harg3 arg4 harg4 arg5 harg5 arg6 harg6 arg7 harg7 arg8 harg8 arg9 harg9 arg10 harg10 arg11 harg11 X6 X7 k (tripQ.sl.arg12 k) (tripQ.sl.v913 k) (arg8.view.writes (Elt F) f8 (qStaged arg2 X2 k))
    (arg9.view.writes (Elt F) f9 [⟨R2048, k0_pay182⟩]) (arg10.view.writes (Elt F) f10 [⟨R2048, k0_pay183⟩]) (arg11.view.writes (Elt F) f11 [⟨R2048, k0_pay184⟩]) j (k0_t2_loop k).trips le_rfl
  have hq : qAt arg8 (arg8.view.writes (Elt F) f8 (qStaged arg2 X2 k)) j = qBlk (arg2.view.read (Elt F) X2) k.val j.val := q_read arg2 arg8 X2 k f8 j
  have hi : rd3 (R256 j) (arg9.view.writes (Elt F) f9 [⟨R2048, k0_pay182⟩]) (arg10.view.writes (Elt F) f10 [⟨R2048, k0_pay183⟩]) (arg11.view.writes (Elt F) f11 [⟨R2048, k0_pay184⟩]) = init (F := F) S256x128 :=
    Prod.ext (read_const arg9.view f9 R2048 (R256 j) k0_pay182 _ (fun x => by unfold k0_pay182; rw [shapeCast_self]; rfl) (R256_sub j))
      (Prod.ext (read_const arg10.view f10 R2048 (R256 j) k0_pay183 _ (fun x => by unfold k0_pay183; rw [shapeCast_self]; rfl) (R256_sub j))
        (read_const arg11.view f11 R2048 (R256 j) k0_pay184 _ (fun x => by unfold k0_pay184; rw [shapeCast_self]; rfl) (R256_sub j)))
  rw [hq, hi, trips2 k] at hl
  rw [← hl, ← trips2 k]
  exact Prod.ext (readCov_append arg9.view f9 _ ⟨R2048, k0_pay182⟩ (R256 j) (R256_sub j))
    (Prod.ext (readCov_append arg10.view f10 _ ⟨R2048, k0_pay183⟩ (R256 j) (R256_sub j)) (readCov_append arg11.view f11 _ ⟨R2048, k0_pay184⟩ (R256 j) (R256_sub j)))

theorem tripQ_eq :
    (tripQ (F := F) c i arg2 harg2 arg3 harg3 arg4 harg4 arg5 harg5 arg6 harg6 arg7 harg7 arg8 harg8 arg9 harg9 arg10 harg10 arg11 harg11 Variants.none none X2 X6 X7 k).1 f8 f9 f10 f11 =
      eight (OR k) fun j => out256 (qBlk (arg2.view.read (Elt F) X2) k.val j.val) (arg6.view.read (Elt F) X6) (arg7.view.read (Elt F) X7) k.val := by
  have h9 : k.val < 9 := by have := k.isLt; have := trips1; omega
  rw [tripQ_pieces]
  congr 1
  funext j
  have hr : rc3 arg9 arg10 arg11 (R256 j) (DL c i arg2 harg2 arg3 harg3 arg4 harg4 arg5 harg5 arg6 harg6 arg7 harg7 arg8 harg8 arg9 harg9 arg10 harg10 arg11 harg11 X2 X6 X7 k f8 f9 f10 f11 8) = _ :=
    passL_read arg9 arg10 arg11 R256 R256_disjoint (fun j => diag256 (qc arg2 arg8 X2 k j) (kd arg6 X6 k) (vd arg7 X7 k)) (P3' c i arg2 harg2 arg3 harg3 arg4 harg4 arg5 harg5 arg6 harg6 arg7 harg7 arg8 harg8 arg9 harg9 arg10 harg10 arg11 harg11 X2 X6 X7 k f8 f9 f10 f11) 8 le_rfl j
  rw [if_pos j.isLt, base_read] at hr
  have hq : qc arg2 arg8 X2 k j = qBlk (arg2.view.read (Elt F) X2) k.val j.val := q_read arg2 arg8 X2 k arg8.view.junk j
  have hk : kd arg6 X6 k = keyBlk (arg6.view.read (Elt F) X6) k.val := readAt_keyBlk arg6 X6 k.val h9 _ (by unfold k0_off13; exact congrArg (fun z => ![0, z, 0]) (word256a ⟨k.val, h9⟩)) _
  have hv : vd arg7 X7 k = valBlk (arg7.view.read (Elt F) X7) k.val := readAt_valBlk arg7 X7 k.val h9 _ (by unfold k0_off14; exact congrArg (fun z => ![0, z, 0]) (word256a ⟨k.val, h9⟩)) _
  simp only [hq, hk, hv] at hr
  exact congrArg (fun s : St F S256x128 => divf (F := F) (s := S256x128) (φ := .f32) s.2.2 s.2.1) hr

theorem outAll_block (j : Fin 8) (x : S256x128.Idx) : outAll (arg2.view.read (Elt F) X2) (arg6.view.read (Elt F) X6) (arg7.view.read (Elt F) X7) ((OR k j).emb x) =
    out256 (qBlk (arg2.view.read (Elt F) X2) k.val j.val) (arg6.view.read (Elt F) X6) (arg7.view.read (Elt F) X7) k.val x := by
  have h7 : k.val < 7 := by have := k.isLt; have := trips1; omega
  have e0 : ooff k j 0 = 256 * k.val := by rw [ooff_eq]; rfl
  have e1 : ooff k j 1 = 128 * j.val := by rw [ooff_eq]; rfl
  have x0 : (x 0).val < 256 := (x 0).isLt
  have x1 : (x 1).val < 128 := (x 1).isLt
  have c0 : (((OR k j).emb x) 0).val = 256 * k.val + (x 0).val := by show ooff k j 0 + 1 * (x 0).val = _; omega
  have c1 : (((OR k j).emb x) 1).val = 128 * j.val + (x 1).val := by show ooff k j 1 + 1 * (x 1).val = _; omega
  unfold outAll
  rw [if_pos (by omega)]
  have d0 : (((OR k j).emb x) 0).val / 256 = k.val := by omega
  have d1 : (((OR k j).emb x) 1).val / 128 = j.val := by omega
  rw [d0, d1]
  refine congrArg (out256 _ _ _ _) ?_
  funext a
  apply Fin.ext
  match a with
  | 0 => show (((OR k j).emb x) 0).val % 256 = (x 0).val; omega
  | 1 => show (((OR k j).emb x) 1).val % 128 = (x 1).val; omega

theorem reach_read (n : ℕ) (f : Cts (F := F) arg5) (h : Reach (F := F) c i arg2 harg2 arg3 harg3 arg4 harg4 arg5 harg5 arg6 harg6 arg7 harg7 arg8 harg8 arg9 harg9 arg10 harg10 arg11 harg11 X2 X6 X7 n f) :
    ∀ y : S2064x1024.Idx, (y 0).val < 256 * n → arg5.view.read (Elt F) f y = outAll (arg2.view.read (Elt F) X2) (arg6.view.read (Elt F) X6) (arg7.view.read (Elt F) X7) y := by
  induction h with
  | zero f => intro y hy; omega
  | succ k f f8 f9 f10 f11 _ ih =>
    intro y hy
    have h7 : k.val < 7 := by have := k.isLt; have := trips1; omega
    have hmem : ∀ j : Fin 8, y ∈ (OR k j).set ↔ (256 * k.val ≤ (y 0).val ∧ (y 0).val < 256 * k.val + 256) ∧ (128 * j.val ≤ (y 1).val ∧ (y 1).val < 128 * j.val + 128) := by
      intro j
      have e0 : ooff k j 0 = 256 * k.val := by rw [ooff_eq]; rfl
      have e1 : ooff k j 1 = 128 * j.val := by rw [ooff_eq]; rfl
      rw [Rect.mem_set_unit]
      constructor
      · intro hh
        have a0 : ooff k j 0 ≤ (y 0).val ∧ (y 0).val < ooff k j 0 + 256 := hh 0
        have a1 : ooff k j 1 ≤ (y 1).val ∧ (y 1).val < ooff k j 1 + 128 := hh 1
        omega
      · intro hh a
        match a with
        | 0 => show ooff k j 0 ≤ (y 0).val ∧ (y 0).val < ooff k j 0 + 256; omega
        | 1 => show ooff k j 1 ≤ (y 1).val ∧ (y 1).val < ooff k j 1 + 128; omega
    have hall : ∀ p ∈ (tripO (F := F) c i arg2 harg2 arg3 harg3 arg4 harg4 arg5 harg5 arg6 harg6 arg7 harg7 arg8 harg8 arg9 harg9 arg10 harg10 arg11 harg11 X2 X6 X7 k f8 f9 f10 f11), ∃ j : Fin 8, p = ⟨OR k j, out256 (qBlk (arg2.view.read (Elt F) X2) k.val j.val) (arg6.view.read (Elt F) X6) (arg7.view.read (Elt F) X7) k.val⟩ := by
      intro p hp
      rw [tripO, tripQ_eq] at hp
      exact mem_eight _ _ hp
    by_cases hlt : (y 0).val < 256 * k.val
    · rw [View.read_writes_apply_of_forall_not_mem _ _ y]
      · exact ih y hlt
      · intro p hp hy'
        obtain ⟨j, rfl⟩ := hall p hp
        have := (hmem j).1 hy'
        omega
    · have hy1 : (y 1).val < 1024 := (y 1).isLt
      refine View.read_writes_apply_of_pieces _ _ _ _ ?_ y ?_
      · intro p hp x
        obtain ⟨j, rfl⟩ := hall p hp
        exact (outAll_block arg2 arg6 arg7 X2 X6 X7 k j x).symm
      · refine ⟨⟨OR k ⟨(y 1).val / 128, by omega⟩, out256 (qBlk (arg2.view.read (Elt F) X2) k.val ((y 1).val / 128)) (arg6.view.read (Elt F) X6) (arg7.view.read (Elt F) X7) k.val⟩, ?_, (hmem _).2 (by dsimp only; omega)⟩
        rw [tripO, tripQ_eq]
        exact eight_mem (F := F) (e := .f32) (OR k) (fun j => out256 (qBlk (arg2.view.read (Elt F) X2) k.val j.val) (arg6.view.read (Elt F) X6) (arg7.view.read (Elt F) X7) k.val) ⟨(y 1).val / 128, by omega⟩
end trip

section body
variable (X2 : Cts (F := F) arg2) (X3 : Cts (F := F) arg3) (X4 : Cts (F := F) arg4)

theorem qlast_read (f : Cts (F := F) arg8) (j : Fin 8) : arg8.view.readAt (Elt F) (Q272 j).toLoadRect (arg8.view.writes (Elt F) f (lastStaged arg2 X2)) = qEnd (arg2.view.read (Elt F) X2) j.val := by
  refine (readAt_eight arg8.view f Q272 _ Q272_disjoint j).trans ?_
  unfold k0_pay384
  dsimp only
  rw [shapeCast_self]
  funext y
  rw [View.readAt_apply]
  unfold qEnd
  congr 1
  have h0 : (y 0).val < 272 := (y 0).isLt
  have h1 : (y 1).val < 256 := (y 1).isLt
  funext a
  apply Fin.ext
  match a with
  | 0 => show 1792 + 1 * (y 0).val = (1792 + (y 0).val) % 2064; rw [Nat.mod_eq_of_lt (by omega)]; omega
  | 1 => show 256 * j.val + 1 * (y 1).val = (256 * j.val + (y 1).val) % 2048; rw [Nat.mod_eq_of_lt (by omega)]; omega

theorem base_last (j : Fin 8) : rc3 arg9 arg10 arg11 (R272 j) (P4' c i arg2 harg2 arg3 harg3 arg4 harg4 arg5 harg5 arg6 harg6 arg7 harg7 arg8 harg8 arg9 harg9 arg10 harg10 arg11 harg11 X2 X3 X4) =
    fold (fun n => step272 (qEnd (arg2.view.read (Elt F) X2) j.val) (keyBlk (arg6.view.read (Elt F) (X6' arg3 arg6 X3)) n) (valBlk (arg7.view.read (Elt F) (X7' arg4 arg7 X4)) n)) (init S272x128) 7 := by
  have hl := loop4 c i arg2 harg2 arg3 harg3 arg4 harg4 arg5 harg5 arg6 harg6 arg7 harg7 arg8 harg8 arg9 harg9 arg10 harg10 arg11 harg11 (X6' arg3 arg6 X3) (X7' arg4 arg7 X4) bodyQ.sl.cst_34 (arg8.view.writes (Elt F) arg8.view.junk (lastStaged arg2 X2))
    (arg9.view.writes (Elt F) arg9.view.junk [⟨RAll, k0_pay385 bodyQ.sl.cst_34⟩]) (arg10.view.writes (Elt F) arg10.view.junk [⟨RAll, k0_pay386⟩]) (arg11.view.writes (Elt F) arg11.view.junk [⟨RAll, k0_pay387⟩]) j k0_t4_loop.trips le_rfl
  have hq : qLast arg8 (arg8.view.writes (Elt F) arg8.view.junk (lastStaged arg2 X2)) j = qEnd (arg2.view.read (Elt F) X2) j.val := qlast_read arg2 arg8 X2 _ j
  have hi : rd3 (R272 j) (arg9.view.writes (Elt F) arg9.view.junk [⟨RAll, k0_pay385 bodyQ.sl.cst_34⟩]) (arg10.view.writes (Elt F) arg10.view.junk [⟨RAll, k0_pay386⟩]) (arg11.view.writes (Elt F) arg11.view.junk [⟨RAll, k0_pay387⟩]) = init (F := F) S272x128 :=
    Prod.ext (read_const arg9.view _ RAll (R272 j) (k0_pay385 bodyQ.sl.cst_34) _ (fun x => by unfold k0_pay385; rw [shapeCast_self]; rfl) (R272_sub j))
      (Prod.ext (read_const arg10.view _ RAll (R272 j) k0_pay386 _ (fun x => by unfold k0_pay386; rw [shapeCast_self]; rfl) (R272_sub j))
        (read_const arg11.view _ RAll (R272 j) k0_pay387 _ (fun x => by unfold k0_pay387; rw [shapeCast_self]; rfl) (R272_sub j)))
  rw [hq, hi] at hl
  refine Eq.trans ?_ (hl.trans (by rw [trips4]))
  exact Prod.ext (readCov_append arg9.view _ _ ⟨RAll, k0_pay385 bodyQ.sl.cst_34⟩ (R272 j) (R272_sub j))
    (Prod.ext (readCov_append arg10.view _ _ ⟨RAll, k0_pay386⟩ (R272 j) (R272_sub j)) (readCov_append arg11.view _ _ ⟨RAll, k0_pay387⟩ (R272 j) (R272_sub j)))

theorem last_read (j : Fin 8) : rc3 arg9 arg10 arg11 (R272 j) (MB c i arg2 harg2 arg3 harg3 arg4 harg4 arg5 harg5 arg6 harg6 arg7 harg7 arg8 harg8 arg9 harg9 arg10 harg10 arg11 harg11 X2 X3 X4 8) =
    fin272 (qEnd (arg2.view.read (Elt F) X2) j.val) (arg6.view.read (Elt F) (X6' arg3 arg6 X3)) (arg7.view.read (Elt F) (X7' arg4 arg7 X4)) := by
  have hr : rc3 arg9 arg10 arg11 (R272 j) (MB c i arg2 harg2 arg3 harg3 arg4 harg4 arg5 harg5 arg6 harg6 arg7 harg7 arg8 harg8 arg9 harg9 arg10 harg10 arg11 harg11 X2 X3 X4 8) = _ :=
    passL_read arg9 arg10 arg11 R272 R272_disjoint (fun j => last272 (ql arg2 arg8 X2 j) (kb arg3 arg6 X3) (vb arg4 arg7 X4)) (MA c i arg2 harg2 arg3 harg3 arg4 harg4 arg5 harg5 arg6 harg6 arg7 harg7 arg8 harg8 arg9 harg9 arg10 harg10 arg11 harg11 X2 X3 X4 8) 8 le_rfl j
  rw [if_pos j.isLt] at hr
  have hr2 : rc3 arg9 arg10 arg11 (R272 j) (MA c i arg2 harg2 arg3 harg3 arg4 harg4 arg5 harg5 arg6 harg6 arg7 harg7 arg8 harg8 arg9 harg9 arg10 harg10 arg11 harg11 X2 X3 X4 8) = _ :=
    passL_read arg9 arg10 arg11 R272 R272_disjoint (fun j => diag272 (ql arg2 arg8 X2 j) (ka arg3 arg6 X3) (va arg4 arg7 X4)) (P4' c i arg2 harg2 arg3 harg3 arg4 harg4 arg5 harg5 arg6 harg6 arg7 harg7 arg8 harg8 arg9 harg9 arg10 harg10 arg11 harg11 X2 X3 X4) 8 le_rfl j
  rw [if_pos j.isLt, base_last] at hr2
  have hq : ql arg2 arg8 X2 j = qEnd (arg2.view.read (Elt F) X2) j.val := qlast_read arg2 arg8 X2 arg8.view.junk j
  have hka : ka arg3 arg6 X3 = keyBlk (arg6.view.read (Elt F) (X6' arg3 arg6 X3)) 7 := readAt_keyBlk arg6 (X6' arg3 arg6 X3) 7 (by decide) _ rfl _
  have hva : va arg4 arg7 X4 = valBlk (arg7.view.read (Elt F) (X7' arg4 arg7 X4)) 7 := readAt_valBlk arg7 (X7' arg4 arg7 X4) 7 (by decide) _ rfl _
  have hkb : kb arg3 arg6 X3 = keyBlk (arg6.view.read (Elt F) (X6' arg3 arg6 X3)) 8 := readAt_keyBlk arg6 (X6' arg3 arg6 X3) 8 (by decide) _ rfl _
  have hvb : vb arg4 arg7 X4 = valBlk (arg7.view.read (Elt F) (X7' arg4 arg7 X4)) 8 := readAt_valBlk arg7 (X7' arg4 arg7 X4) 8 (by decide) _ rfl _
  simp only [hq, hka, hva] at hr2
  rw [hr2] at hr
  simp only [hq, hkb, hvb] at hr
  exact hr

theorem keys_top (x : S1x2064x256.Idx) : keys (arg3.view.read (Elt F) X3) ((Rect.unit (s := S1x2304x256) ![0, 0, 0] S1x2064x256.size facts.inb_S1x2304x256_S1x2064x256_0_0_0).emb x) =
    k0_pay374 (arg3.view.readAt (Elt F) (Rect.unit (s := S2064x256) ![0, 0] S2064x256.size facts.inb_S2064x256_S2064x256_0_0).toLoadRect X3) x := by
  have x1 : (x 1).val < 2064 := (x 1).isLt
  unfold keys
  rw [dif_pos (by show 0 + 1 * (x 1).val < 2064; omega)]
  unfold k0_pay374
  dsimp only
  obtain ⟨a, b, d, rfl⟩ : ∃ (a : Fin 1) (b : Fin 2064) (d : Fin 256), x = ix3 a b d := ⟨x 0, x 1, x 2, by funext a; match a with | 0 => rfl | 1 => rfl | 2 => rfl⟩
  refine Eq.symm ((shapeCast_ab_1ab_apply _ _ a b d).trans ?_)
  rw [View.readAt_apply]
  congr 1
  funext a
  apply Fin.ext
  match a with
  | 0 => show 0 + 1 * b.val = 0 + 1 * b.val; rfl
  | 1 => show 0 + 1 * d.val = 0 + 1 * d.val; rfl

theorem keys_read : arg6.view.read (Elt F) (X6' arg3 arg6 X3) = keys (arg3.view.read (Elt F) X3) := by
  funext y
  have y0 : (y 0).val < 1 := (y 0).isLt
  have y1 : (y 1).val < 2304 := (y 1).isLt
  have y2 : (y 2).val < 256 := (y 2).isLt
  refine View.read_writes_apply_of_pieces arg6.view _ (keys (arg3.view.read (Elt F) X3)) (bodyQ.sl.H6_2 arg3 X3) ?_ y ?_
  · intro p hp x
    unfold bodyQ.sl.H6_2 at hp
    rw [List.mem_cons, List.mem_singleton] at hp
    rcases hp with rfl | rfl
    · exact (keys_top arg3 X3 x).symm
    · have x1 : (x 1).val < 240 := (x 1).isLt
      unfold keys
      rw [dif_neg (by show ¬ (2064 + 1 * (x 1).val < 2064); omega)]
      unfold k0_pay373
      rfl
  · unfold bodyQ.sl.H6_2
    by_cases h : (y 1).val < 2064
    · refine ⟨_, List.mem_cons_self, (Rect.mem_set_unit (inb := facts.inb_S1x2304x256_S1x2064x256_0_0_0)).2 fun a => ?_⟩
      match a with
      | 0 => exact ⟨Nat.zero_le _, by show (y 0).val < 0 + 1; omega⟩
      | 1 => exact ⟨Nat.zero_le _, by show (y 1).val < 0 + 2064; omega⟩
      | 2 => exact ⟨Nat.zero_le _, by show (y 2).val < 0 + 256; omega⟩
    · refine ⟨_, List.mem_cons_of_mem _ (List.mem_singleton.2 rfl), (Rect.mem_set_unit (inb := facts.inb_S1x2304x256_S1x240x256_0_2064_0)).2 fun a => ?_⟩
      match a with
      | 0 => exact ⟨Nat.zero_le _, by show (y 0).val < 0 + 1; omega⟩
      | 1 => exact ⟨by show 2064 ≤ (y 1).val; omega, by show (y 1).val < 2064 + 240; omega⟩
      | 2 => exact ⟨Nat.zero_le _, by show (y 2).val < 0 + 256; omega⟩

theorem vals_top (x : S1x2064x128.Idx) : vals (arg4.view.read (Elt F) X4) ((Rect.unit (s := S1x2304x128) ![0, 0, 0] S1x2064x128.size facts.inb_S1x2304x128_S1x2064x128_0_0_0).emb x) =
    k0_pay376 (arg4.view.readAt (Elt F) (Rect.unit (s := S2064x128) ![0, 0] S2064x128.size facts.inb_S2064x128_S2064x128_0_0).toLoadRect X4) x := by
  have x1 : (x 1).val < 2064 := (x 1).isLt
  unfold vals
  rw [dif_pos (by show 0 + 1 * (x 1).val < 2064; omega)]
  unfold k0_pay376
  dsimp only
  obtain ⟨a, b, d, rfl⟩ : ∃ (a : Fin 1) (b : Fin 2064) (d : Fin 128), x = ix3 a b d := ⟨x 0, x 1, x 2, by funext a; match a with | 0 => rfl | 1 => rfl | 2 => rfl⟩
  refine Eq.symm ((shapeCast_ab_1ab_apply _ _ a b d).trans ?_)
  refine congrArg (fun z : F .f32 => FloatOps.truncf .bf16 facts.bitsLt_bf16_f32 z) ?_
  rw [View.readAt_apply]
  congr 1
  funext a
  apply Fin.ext
  match a with
  | 0 => show 0 + 1 * b.val = 0 + 1 * b.val; rfl
  | 1 => show 0 + 1 * d.val = 0 + 1 * d.val; rfl

theorem vals_read : arg7.view.read (Elt F) (X7' arg4 arg7 X4) = vals (arg4.view.read (Elt F) X4) := by
  funext y
  have y0 : (y 0).val < 1 := (y 0).isLt
  have y1 : (y 1).val < 2304 := (y 1).isLt
  have y2 : (y 2).val < 128 := (y 2).isLt
  refine View.read_writes_apply_of_pieces arg7.view _ (vals (arg4.view.read (Elt F) X4)) (bodyQ.sl.H7_2 arg4 X4) ?_ y ?_
  · intro p hp x
    unfold bodyQ.sl.H7_2 at hp
    rw [List.mem_cons, List.mem_singleton] at hp
    rcases hp with rfl | rfl
    · exact (vals_top arg4 X4 x).symm
    · have x1 : (x 1).val < 240 := (x 1).isLt
      unfold vals
      rw [dif_neg (by show ¬ (2064 + 1 * (x 1).val < 2064); omega)]
      unfold k0_pay375
      rfl
  · unfold bodyQ.sl.H7_2
    by_cases h : (y 1).val < 2064
    · refine ⟨_, List.mem_cons_self, (Rect.mem_set_unit (inb := facts.inb_S1x2304x128_S1x2064x128_0_0_0)).2 fun a => ?_⟩
      match a with
      | 0 => exact ⟨Nat.zero_le _, by show (y 0).val < 0 + 1; omega⟩
      | 1 => exact ⟨Nat.zero_le _, by show (y 1).val < 0 + 2064; omega⟩
      | 2 => exact ⟨Nat.zero_le _, by show (y 2).val < 0 + 128; omega⟩
    · refine ⟨_, List.mem_cons_of_mem _ (List.mem_singleton.2 rfl), (Rect.mem_set_unit (inb := facts.inb_S1x2304x128_S1x240x128_0_2064_0)).2 fun a => ?_⟩
      match a with
      | 0 => exact ⟨Nat.zero_le _, by show (y 0).val < 0 + 1; omega⟩
      | 1 => exact ⟨by show 2064 ≤ (y 1).val; omega, by show (y 1).val < 2064 + 240; omega⟩
      | 2 => exact ⟨Nat.zero_le _, by show (y 2).val < 0 + 128; omega⟩

theorem outAll_end (Y6 : Cts (F := F) arg6) (Y7 : Cts (F := F) arg7) (j : Fin 8) (x : S272x128.Idx) : outAll (arg2.view.read (Elt F) X2) (arg6.view.read (Elt F) Y6) (arg7.view.read (Elt F) Y7) ((OL j).emb x) =
    out272 (qEnd (arg2.view.read (Elt F) X2) j.val) (arg6.view.read (Elt F) Y6) (arg7.view.read (Elt F) Y7) x := by
  have x0 : (x 0).val < 272 := (x 0).isLt
  have x1 : (x 1).val < 128 := (x 1).isLt
  have c0 : (((OL j).emb x) 0).val = 1792 + (x 0).val := by show 1792 + 1 * (x 0).val = _; omega
  have c1 : (((OL j).emb x) 1).val = 128 * j.val + (x 1).val := by show 128 * j.val + 1 * (x 1).val = _; omega
  unfold outAll
  rw [if_neg (by omega)]
  have d1 : (((OL j).emb x) 1).val / 128 = j.val := by omega
  rw [d1]
  refine congrArg (out272 _ _ _) ?_
  funext a
  apply Fin.ext
  match a with
  | 0 => show ((((OL j).emb x) 0).val - 1792) % 272 = (x 0).val; omega
  | 1 => show (((OL j).emb x) 1).val % 128 = (x 1).val; omega

/-- The output block that the body leaves: attention of the queries over the padded keys and values. -/
theorem body_out (f : Cts (F := F) arg5) (h : Done (F := F) c i arg2 harg2 arg3 harg3 arg4 harg4 arg5 harg5 arg6 harg6 arg7 harg7 arg8 harg8 arg9 harg9 arg10 harg10 arg11 harg11 X2 (bodyQ (F := F) c i arg2 harg2 arg3 harg3 arg4 harg4 arg5 harg5 arg6 harg6 arg7 harg7 arg8 harg8 arg9 harg9 arg10 harg10 arg11 harg11 X2 X3 X4).1.1 (bodyQ (F := F) c i arg2 harg2 arg3 harg3 arg4 harg4 arg5 harg5 arg6 harg6 arg7 harg7 arg8 harg8 arg9 harg9 arg10 harg10 arg11 harg11 X2 X3 X4).1.2.1 k0_t1_loop.trips f) :
    arg5.view.read (Elt F) (arg5.view.writes (Elt F) f (bodyQ (F := F) c i arg2 harg2 arg3 harg3 arg4 harg4 arg5 harg5 arg6 harg6 arg7 harg7 arg8 harg8 arg9 harg9 arg10 harg10 arg11 harg11 X2 X3 X4).1.2.2) =
      outAll (arg2.view.read (Elt F) X2) (keys (arg3.view.read (Elt F) X3)) (vals (arg4.view.read (Elt F) X4)) := by
  rw [bodyQ_pieces] at h ⊢
  dsimp only at h ⊢
  have hread := reach_read c i arg2 harg2 arg3 harg3 arg4 harg4 arg5 harg5 arg6 harg6 arg7 harg7 arg8 harg8 arg9 harg9 arg10 harg10 arg11 harg11 X2 (X6' arg3 arg6 X3) (X7' arg4 arg7 X4) 7 f (by have := h.reach; rwa [trips1] at this)
  rw [← keys_read arg3 arg6 X3, ← vals_read arg4 arg7 X4]
  have hp : (fun j : Fin 8 => divf (F := F) (s := S272x128) (φ := .f32) (arg11.view.readCov (MB c i arg2 harg2 arg3 harg3 arg4 harg4 arg5 harg5 arg6 harg6 arg7 harg7 arg8 harg8 arg9 harg9 arg10 harg10 arg11 harg11 X2 X3 X4 8).2.2 (R272 j).toLoadRect)
        (arg10.view.readCov (MB c i arg2 harg2 arg3 harg3 arg4 harg4 arg5 harg5 arg6 harg6 arg7 harg7 arg8 harg8 arg9 harg9 arg10 harg10 arg11 harg11 X2 X3 X4 8).2.1 (R272 j).toLoadRect)) =
      fun j : Fin 8 => out272 (qEnd (arg2.view.read (Elt F) X2) j.val) (arg6.view.read (Elt F) (X6' arg3 arg6 X3)) (arg7.view.read (Elt F) (X7' arg4 arg7 X4)) := by
    funext j
    unfold out272
    rw [← last_read c i arg2 harg2 arg3 harg3 arg4 harg4 arg5 harg5 arg6 harg6 arg7 harg7 arg8 harg8 arg9 harg9 arg10 harg10 arg11 harg11 X2 X3 X4 j]
  rw [hp]
  funext y
  have hy0 : (y 0).val < 2064 := (y 0).isLt
  have hy1 : (y 1).val < 1024 := (y 1).isLt
  by_cases hlt : (y 0).val < 1792
  · rw [View.read_writes_apply_of_forall_not_mem _ _ y]
    · exact hread y hlt
    · intro p hp hy'
      obtain ⟨j, rfl⟩ := mem_eight _ _ hp
      have : 1792 ≤ (y 0).val := ((Rect.mem_set_unit (s := S2064x1024) (inb := lasto_inb j)).1 hy' 0).1
      omega
  · refine View.read_writes_apply_of_pieces _ _ _ _ ?_ y ?_
    · intro p hp x
      obtain ⟨j, rfl⟩ := mem_eight _ _ hp
      exact (outAll_end arg2 arg6 arg7 X2 (X6' arg3 arg6 X3) (X7' arg4 arg7 X4) j x).symm
    · refine ⟨⟨OL ⟨(y 1).val / 128, by omega⟩, _⟩, eight_mem OL _ _, (Rect.mem_set_unit (inb := lasto_inb ⟨(y 1).val / 128, by omega⟩)).2 fun a => ?_⟩
      match a with
      | 0 => exact ⟨by show 1792 ≤ (y 0).val; omega, by show (y 0).val < 1792 + 272; omega⟩
      | 1 => exact ⟨by show 128 * ((y 1).val / 128) ≤ (y 1).val; omega, by show (y 1).val < 128 * ((y 1).val / 128) + 128; omega⟩
end body
end
end Cert.KernelIdeal.Att
-- ==== Proof.IdealRun.lean ====
/-
  The idealized attention kernel run to its end, at every reading of the floats: what the body leaves in the output block
  is `outAll` of the three input blocks, the eight blocks tile the result array, and the arguments stay.
-/
module
public import proofs.«01_k».proof.Proof.OutVal
public import Idealize.ShloMosaic.Lib.Pipeline.Value
public import proofs.«01_k».proof.Proof.Gen.KernelIdeal.Launch
public import proofs.«01_k».proof.Proof.Gen.KernelIdeal.Points
public import proofs.«01_k».proof.Proof.Gen.KernelIdeal.Frame
@[expose] public section
set_option maxRecDepth 16384
noncomputable section
namespace Cert.KernelIdeal.Run
open Cert.KernelIdeal Cert.KernelIdeal.Gen Cert.KernelIdeal.Att
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
variable {F : FTy → Type} [FloatOps F]

local notation "𝕄G" => MT nD τ sig Unit (Elt F) ℕ (UR sig nD τ) ℕ

section Body
variable (c : Dev nD) (i : grid0.Coords) (arg2 : Memref sig .tc .vmem S2064x2048 .bf16) (harg2 : arg2.IsWhole) (arg3 : Memref sig .tc .vmem S2064x256 .bf16) (harg3 : arg3.IsWhole) (arg4 : Memref sig .tc .vmem S2064x128 .f32) (harg4 : arg4.IsWhole) (arg5 : Memref sig .tc .vmem S2064x1024 .f32) (harg5 : arg5.IsWhole) (arg6 : Memref sig .tc .vmem S1x2304x256 .bf16) (harg6 : arg6.IsWhole) (arg7 : Memref sig .tc .vmem S1x2304x128 .bf16) (harg7 : arg7.IsWhole) (arg8 : Memref sig .tc .vmem S2176x256 .bf16) (harg8 : arg8.IsWhole) (arg9 : Memref sig .tc .vmem S2176x128 .f32) (harg9 : arg9.IsWhole) (arg10 : Memref sig .tc .vmem S2176x128 .f32) (harg10 : arg10.IsWhole) (arg11 : Memref sig .tc .vmem S2176x128 .f32) (harg11 : arg11.IsWhole)

/-- The body on any staged blocks: the three input blocks stay and the output block is `outAll` of them. -/
theorem bodyOwns (d2 : S2064x2048.Idx → Elt F .bf16) (d3 : S2064x256.Idx → Elt F .bf16) (d4 : S2064x128.Idx → Elt F .f32) :
    (iprop(owns (c : Thread nD τ) arg2 fullShare d2 ∗ owns (c : Thread nD τ) arg3 fullShare d3 ∗ owns (c : Thread nD τ) arg4 fullShare d4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) : sProp 𝕄G)
      ⊢ wp frame (wpE (defs₀ (F := F)) Variants.none (c : Thread nD τ) none) Set.univ (cc0_flash_prompt_fox (F := F) i arg2 harg2 arg3 harg3 arg4 harg4 arg5 harg5 arg6 harg6 arg7 harg7 arg8 harg8 arg9 harg9 arg10 harg10 arg11 harg11)
          (fun _ => iprop(owns (c : Thread nD τ) arg2 fullShare d2 ∗ owns (c : Thread nD τ) arg3 fullShare d3 ∗ owns (c : Thread nD τ) arg4 fullShare d4 ∗ owns (c : Thread nD τ) arg5 fullShare (outAll d2 (keys d3) (vals d4)) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d))) := by
  unfold owns
  iintro ⟨⟨%X2, %h2, H2⟩, ⟨%X3, %h3, H3⟩, ⟨%X4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩⟩
  iapply (wp_wand_r Idealize.ShloMosaic.frame (wpE (defs₀ (F := F)) Variants.none (c : Thread nD τ) none) Set.univ)
  isplitl [H2 H3 H4 H5 H6 H7 H8 H9 H10 H11]
  · iapply ((bodyQ (F := F) c i arg2 harg2 arg3 harg3 arg4 harg4 arg5 harg5 arg6 harg6 arg7 harg7 arg8 harg8 arg9 harg9 arg10 harg10 arg11 harg11 X2 X3 X4).2 f5 f6 f7 f8 f9 f10 f11)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨%g5, %g6, %g7, %g8, %g9, %g10, %g11, %hd, H2, H3, H4, H5, H6, H7, H8, H9, H10, H11⟩
    isplitl [H2]
    · iexists X2; isplitr; · ipureintro; exact h2
      iexact H2
    isplitl [H3]
    · iexists X3; isplitr; · ipureintro; exact h3
      iexact H3
    isplitl [H4]
    · iexists X4; isplitr; · ipureintro; exact h4
      iexact H4
    isplitl [H5]
    · iexists (arg5.view.writes (Elt F) g5 (bodyQ (F := F) c i arg2 harg2 arg3 harg3 arg4 harg4 arg5 harg5 arg6 harg6 arg7 harg7 arg8 harg8 arg9 harg9 arg10 harg10 arg11 harg11 X2 X3 X4).1.2.2); isplitr
      · ipureintro; rw [body_out (F := F) c i arg2 harg2 arg3 harg3 arg4 harg4 arg5 harg5 arg6 harg6 arg7 harg7 arg8 harg8 arg9 harg9 arg10 harg10 arg11 harg11 X2 X3 X4 g5 hd, h2, h3, h4]
      iexact H5
    isplitl [H6]
    · iexists _, g6; isplitr; · ipureintro; rfl
      iexact H6
    isplitl [H7]
    · iexists _, g7; isplitr; · ipureintro; rfl
      iexact H7
    isplitl [H8]
    · iexists _, g8; isplitr; · ipureintro; rfl
      iexact H8
    isplitl [H9]
    · iexists _, g9; isplitr; · ipureintro; rfl
      iexact H9
    isplitl [H10]
    · iexists _, g10; isplitr; · ipureintro; rfl
      iexact H10
    iexists _, g11; isplitr; · ipureintro; rfl
    iexact H11
end Body

section Launch
variable (m : (ℓ : Loc nD τ sig) → Buf (Elt F) ℓ) (ρ : Dev nD → PrngReg)

/-- The proof data: each array as launched, each input block in place after the body, the output block `outAll` of them, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAll (iblk m c 0 t) (keys (iblk m c 1 t)) (vals (iblk m c 2 t))
  Φ _ := Pipeline.ΦA spec0 c
  q _ := fullShare
  owed _ := 0

/-- What the body is handed at point `t`, and hands back, the output block held as `W` says. -/
def bodyRes (c : Dev nD) (t : Fin cfg0.N) (W : sProp 𝕄G) : sProp 𝕄G :=
  iprop(Pipeline.ΦA spec0 c ∗ (dats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ W)

/-- What is left between the points: the six scratch buffers and the generator's register, each at anything. -/
theorem rest_eq (c : Dev nD) : (Pipeline.ΦA spec0 c : sProp 𝕄G)
    = iprop(iprop((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f) ∗ (∃ f, owns (c : Thread nD τ) (Memref.whole cc0_scratch5) fullShare f))
      ∗ (∃ r, prngReg c r)) := by
  unfold Pipeline.ΦA
  rw [scopedRest0_eq]
  simp only [owns_whole]
  try rfl

theorem sound_body (c : Dev nD) (t : Fin cfg0.N) :
    bodyRes (F := F) m c t iprop(∃ X, owns (c : Thread nD τ) (st0_3 t) fullShare X) ⊢ wp frame (wpE (defs₀ (F := F)) Variants.none c none) Set.univ (bodyAt0 t)
      (fun _ => bodyRes (F := F) m c t (owns (c : Thread nD τ) (st0_3 t) fullShare (outAll (iblk m c 0 t) (keys (iblk m c 1 t)) (vals (iblk m c 2 t))))) := by
  unfold bodyRes bodyAt0
  rw [rest_eq]
  iintro ⟨⟨⟨H6, H7, H8, H9, H10, H11⟩, Hg⟩, HO, H2, H3, H4, H5⟩
  iapply (wp_wand_r Idealize.ShloMosaic.frame (wpE (defs₀ (F := F)) Variants.none (c : Thread nD τ) none) Set.univ)
  isplitl [H2 H3 H4 H5 H6 H7 H8 H9 H10 H11]
  · iapply (bodyOwns (F := F) c (grid0.coords t) (st0_0 t) _ (st0_1 t) _ (st0_2 t) _ (st0_3 t) _ (Memref.whole cc0_scratch0) _ (Memref.whole cc0_scratch1) _ (Memref.whole cc0_scratch2) _ (Memref.whole cc0_scratch3) _ (Memref.whole cc0_scratch4) _ (Memref.whole cc0_scratch5) _ (iblk m c 0 t) (iblk m c 1 t) (iblk m c 2 t))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro %_ ⟨H2, H3, H4, H5, H6, H7, H8, H9, H10, H11⟩
    isplitl [H6 H7 H8 H9 H10 H11 Hg]
    · isplitr [Hg]
      · isplitl [H6]; · iexact H6
        isplitl [H7]; · iexact H7
        isplitl [H8]; · iexact H8
        isplitl [H9]; · iexact H9
        isplitl [H10]; · iexact H10
        iexact H11
      · iexact Hg
    isplitl [HO]; · iexact HO
    isplitl [H2]; · iexact H2
    isplitl [H3]; · iexact H3
    isplitl [H4]; · iexact H4
    iexact H5

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- What the pipeline hands the body at a point is `bodyRes`: each input window's buffer holds its block. -/
theorem before_res (c : Dev nD) (t : Fin cfg0.N) :
    iprop(Pipeline.ΦA spec0 c ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d)))
      ⊢ bodyRes (F := F) m c t iprop(∃ X, owns (c : Thread nD τ) (st0_3 t) fullShare X) := by
  unfold bodyRes
  iintro ⟨HΦ, HO, ⟨%d0, H0⟩, ⟨%d1, H1⟩, ⟨%d2, H2⟩, ⟨%d3, H3⟩⟩
  rw [before0_0_of m (dats m 0 c) rfl (fun _ => rfl), before0_1_of m (dats m 0 c) rfl (fun _ => rfl), before0_2_of m (dats m 0 c) rfl (fun _ => rfl)]
  isplitl [HΦ]; · iexact HΦ
  isplitl [HO]; · iexact HO
  isplitl [H0]; · iexact H0
  isplitl [H1]; · iexact H1
  isplitl [H2]; · iexact H2
  iexists _; iexact H3

theorem body_obligation (c : Dev nD) :
    BodyObligation (dats (F := F) m 0 c) (defs₀ (F := F)) Variants.none () Set.univ := fun t => by
  rw [bigSep_W0, bigSep_W0, defs₀_row]
  refine triple_restated (sound_body m c t) rfl (before_res m c t) fun _ => .rfl

/-- Point t's row and column of blocks: the batch, and the key-value head. -/
abbrev bat (t : Fin cfg0.N) : ℕ := t.val / 2
abbrev kvh (t : Fin cfg0.N) : ℕ := t.val % 2

/-- The blocks of the three arguments at batch b, head g. -/
def qIn (x : Vec F S8256x4096 .bf16) (b g : ℕ) : Vec F S2064x2048 .bf16 := fun y => x (ix2 ⟨(2064 * b + (y 0).val) % 8256, Nat.mod_lt _ (by decide)⟩ ⟨(2048 * g + (y 1).val) % 4096, Nat.mod_lt _ (by decide)⟩)
def kIn (x : Vec F S8256x512 .bf16) (b g : ℕ) : Vec F S2064x256 .bf16 := fun y => x (ix2 ⟨(2064 * b + (y 0).val) % 8256, Nat.mod_lt _ (by decide)⟩ ⟨(256 * g + (y 1).val) % 512, Nat.mod_lt _ (by decide)⟩)
def vIn (x : Vec F S8256x4608 .f32) (b g : ℕ) : Vec F S2064x128 .f32 := fun y => x (ix2 ⟨(2064 * b + (y 0).val) % 8256, Nat.mod_lt _ (by decide)⟩ ⟨(3840 + 128 * g + (y 1).val) % 4608, Nat.mod_lt _ (by decide)⟩)

/-- The whole result: row 2064 b + r, column 1024 g + n holds entry (r, n) of the block of batch b, head g. -/
def result (x0 : Vec F S8256x4096 .bf16) (x1 : Vec F S8256x512 .bf16) (x2 : Vec F S8256x4608 .f32) : Vec F S8256x2048 .f32 := fun i =>
  outAll (qIn x0 ((i 0).val / 2064) ((i 1).val / 1024)) (keys (kIn x1 ((i 0).val / 2064) ((i 1).val / 1024))) (vals (vIn x2 ((i 0).val / 2064) ((i 1).val / 1024)))
    (ix2 ⟨(i 0).val % 2064, Nat.mod_lt _ (by decide)⟩ ⟨(i 1).val % 1024, Nat.mod_lt _ (by decide)⟩)

theorem blk0 (c : Dev nD) (t : Fin cfg0.N) : iblk m c 0 t = qIn (m ((c : Thread nD τ).loc main_arg0)) (bat t) (kvh t) := by
  have hN : t.val < 8 := by have := t.isLt; have e : cfg0.N = 8 := N_0; omega
  funext y
  have h0 : (y 0).val < 2064 := (y 0).isLt
  have h1 : (y 1).val < 2048 := (y 1).isLt
  show (V m c main_arg0) ((win0_0.rect t).emb y) = _
  have e : win0_0.index t 0 * win0_0.size 0 = 2064 * (t.val / 2) ∧ win0_0.index t 1 * win0_0.size 1 = 2048 * (t.val % 2) := by
    rcases fin_N0 t with rfl | rfl | rfl | rfl | rfl | rfl | rfl | rfl <;> decide +kernel
  refine congrArg (m ((c : Thread nD τ).loc main_arg0)) (funext fun a => Fin.ext ?_)
  match a with
  | 0 => show win0_0.index t 0 * win0_0.size 0 + 1 * (y 0).val = (2064 * (t.val / 2) + (y 0).val) % 8256; rw [e.1, Nat.mod_eq_of_lt (by omega)]; omega
  | 1 => show win0_0.index t 1 * win0_0.size 1 + 1 * (y 1).val = (2048 * (t.val % 2) + (y 1).val) % 4096; rw [e.2]; omega

theorem blk1 (c : Dev nD) (t : Fin cfg0.N) : iblk m c 1 t = kIn (m ((c : Thread nD τ).loc main_arg1)) (bat t) (kvh t) := by
  have hN : t.val < 8 := by have := t.isLt; have e : cfg0.N = 8 := N_0; omega
  funext y
  have h0 : (y 0).val < 2064 := (y 0).isLt
  have h1 : (y 1).val < 256 := (y 1).isLt
  show (V m c main_arg1) ((win0_1.rect t).emb y) = _
  have e : win0_1.index t 0 * win0_1.size 0 = 2064 * (t.val / 2) ∧ win0_1.index t 1 * win0_1.size 1 = 256 * (t.val % 2) := by
    rcases fin_N0 t with rfl | rfl | rfl | rfl | rfl | rfl | rfl | rfl <;> decide +kernel
  refine congrArg (m ((c : Thread nD τ).loc main_arg1)) (funext fun a => Fin.ext ?_)
  match a with
  | 0 => show win0_1.index t 0 * win0_1.size 0 + 1 * (y 0).val = (2064 * (t.val / 2) + (y 0).val) % 8256; rw [e.1, Nat.mod_eq_of_lt (by omega)]; omega
  | 1 => show win0_1.index t 1 * win0_1.size 1 + 1 * (y 1).val = (256 * (t.val % 2) + (y 1).val) % 512; rw [e.2]; omega

theorem blk2 (c : Dev nD) (t : Fin cfg0.N) : iblk m c 2 t = vIn (m ((c : Thread nD τ).loc main_arg2)) (bat t) (kvh t) := by
  have hN : t.val < 8 := by have := t.isLt; have e : cfg0.N = 8 := N_0; omega
  funext y
  have h0 : (y 0).val < 2064 := (y 0).isLt
  have h1 : (y 1).val < 128 := (y 1).isLt
  show (V m c main_arg2) ((win0_2.rect t).emb y) = _
  have e : win0_2.index t 0 * win0_2.size 0 = 2064 * (t.val / 2) ∧ win0_2.index t 1 * win0_2.size 1 = 3840 + 128 * (t.val % 2) := by
    rcases fin_N0 t with rfl | rfl | rfl | rfl | rfl | rfl | rfl | rfl <;> decide +kernel
  refine congrArg (m ((c : Thread nD τ).loc main_arg2)) (funext fun a => Fin.ext ?_)
  match a with
  | 0 => show win0_2.index t 0 * win0_2.size 0 + 1 * (y 0).val = (2064 * (t.val / 2) + (y 0).val) % 8256; rw [e.1, Nat.mod_eq_of_lt (by omega)]; omega
  | 1 => show win0_2.index t 1 * win0_2.size 1 + 1 * (y 1).val = (3840 + 128 * (t.val % 2) + (y 1).val) % 4608; rw [e.2]; omega

/-- What point t writes back is its block of `result`. -/
theorem flushed_eq (c : Dev nD) (t : Fin cfg0.N) :
    (dats m 0 c).flushed 3 t = (win0_3.blk t).view.read (Elt F) (result (m ((c : Thread nD τ).loc main_arg0)) (m ((c : Thread nD τ).loc main_arg1)) (m ((c : Thread nD τ).loc main_arg2))) := by
  have hN : t.val < 8 := by have := t.isLt; have e : cfg0.N = 8 := N_0; omega
  have e : win0_3.index t 0 * win0_3.size 0 = 2064 * (t.val / 2) ∧ win0_3.index t 1 * win0_3.size 1 = 1024 * (t.val % 2) := by
    rcases fin_N0 t with rfl | rfl | rfl | rfl | rfl | rfl | rfl | rfl <;> decide +kernel
  show outAll (iblk m c 0 t) (keys (iblk m c 1 t)) (vals (iblk m c 2 t)) = _
  rw [blk0, blk1, blk2]
  funext y
  have h0 : (y 0).val < 2064 := (y 0).isLt
  have h1 : (y 1).val < 1024 := (y 1).isLt
  show _ = result _ _ _ ((win0_3.rect t).emb y)
  have c0 : (((win0_3.rect t).emb y) 0).val = 2064 * (t.val / 2) + (y 0).val := by
    show win0_3.index t 0 * win0_3.size 0 + 1 * (y 0).val = _; omega
  have c1 : (((win0_3.rect t).emb y) 1).val = 1024 * (t.val % 2) + (y 1).val := by
    show win0_3.index t 1 * win0_3.size 1 + 1 * (y 1).val = _; omega
  unfold result
  have d0 : (((win0_3.rect t).emb y) 0).val / 2064 = t.val / 2 := by omega
  have d1 : (((win0_3.rect t).emb y) 1).val / 1024 = t.val % 2 := by omega
  rw [d0, d1]
  refine congrArg (outAll _ _ _) (funext fun a => Fin.ext ?_)
  match a with
  | 0 => show (y 0).val = (((win0_3.rect t).emb y) 0).val % 2064; omega
  | 1 => show (y 1).val = (((win0_3.rect t).emb y) 1).val % 1024; omega

/-- The eight blocks tile the result array. -/
theorem cover (i : S8256x2048.Idx) : ∃ t : Fin cfg0.N, (cfg0.win 3).flush t = true ∧ i ∈ ((cfg0.win 3).blk t).view.set := by
  have h0 : (i 0).val < 8256 := (i 0).isLt
  have h1 : (i 1).val < 2048 := (i 1).isLt
  have hN : cfg0.N = 8 := N_0
  refine ⟨⟨2 * ((i 0).val / 2064) + (i 1).val / 1024, by omega⟩, flush0_3 _, ?_⟩
  generalize ht : (⟨2 * ((i 0).val / 2064) + (i 1).val / 1024, _⟩ : Fin cfg0.N) = t
  have hv : t.val = 2 * ((i 0).val / 2064) + (i 1).val / 1024 := by rw [← ht]
  have e : win0_3.index t 0 * win0_3.size 0 = 2064 * (t.val / 2) ∧ win0_3.index t 1 * win0_3.size 1 = 1024 * (t.val % 2)
      ∧ win0_3.xsize (grid0.coords t) 0 = 2064 ∧ win0_3.xsize (grid0.coords t) 1 = 1024 := by
    rcases fin_N0 t with h | h | h | h | h | h | h | h <;> rw [h] <;> decide +kernel
  show i ∈ ((View.whole main_v0).slice (win0_3.rect t)).set
  rw [View.set_slice_whole, Rect.mem_set_unit]
  intro a
  match a with
  | ⟨0, _⟩ => show win0_3.index t 0 * win0_3.size 0 ≤ (i 0).val ∧ (i 0).val < win0_3.index t 0 * win0_3.size 0 + win0_3.xsize (grid0.coords t) 0
              omega
  | ⟨1, _⟩ => show win0_3.index t 1 * win0_3.size 1 ≤ (i 1).val ∧ (i 1).val < win0_3.index t 1 * win0_3.size 1 + win0_3.xsize (grid0.coords t) 1
              omega

theorem final_o (c : Dev nD) : (dats m 0 c).arrAt 3 cfg0.N = result (m ((c : Thread nD τ).loc main_arg0)) (m ((c : Thread nD τ).loc main_arg1)) (m ((c : Thread nD τ).loc main_arg2)) :=
  (dats m 0 c).arrAt_eq_of_cover 3 _ (fun t _ => flushed_eq m c t) cover

set_option backward.isDefEq.respectTransparency.types false in
/-- Every run of the program ends, with the result array at `result` of the arguments, the arguments as launched and every
    semaphore at zero. -/
theorem run_main :
    θ_run defs (onTc (τ := τ) (main (F := F))) (s₀ m ρ) (fun r => (∀ c : Dev nD,
      r.2.mem ((c.tc : Thread nD τ).loc main_v0) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)
    (hQ' := fun r h => ⟨fun c => ⟨((h.1 c).1 3).trans (final_o m c), ((h.1 c).1 0).trans ((dats m 0 c).arrAt_in 0 rfl _),
      ((h.1 c).1 1).trans ((dats m 0 c).arrAt_in 1 rfl _), ((h.1 c).1 2).trans ((dats m 0 c).arrAt_in 2 rfl _)⟩, h.2⟩)
end Launch
end Cert.KernelIdeal.Run
-- ==== Proof.Online.lean ====
module
public import Idealize.ShloMosaic.PureOps.Ideal
public import Idealize.ShloMosaic.PureOps.Ideal.Laws
public import Mathlib.Data.EReal.Inv
@[expose] public section
noncomputable section
namespace Cert.Online
open Idealize.ShloMosaic Finset

/-! # The running softmax on a row of scores

A row's scores are a sequence of extended reals in which a masked key has the score ⊥. The running softmax keeps, after
the keys below N, the largest score, the sum of the weights and the weighted sum of the values, the weights taken
relative to that largest score. One more block of keys rescales both sums by the exponential of the drop in the
reference point. The quotient at the end is the softmax-weighted mean. -/

theorem exp_bot' : Ideal.exp ⊥ = 0 := rfl
theorem exp_coe' (r : ℝ) : Ideal.exp (r : EReal) = (Real.exp r : EReal) := rfl

theorem exp_nonneg' (x : EReal) : 0 ≤ Ideal.exp x := by
  induction x with
  | bot => exact le_refl _
  | top => exact le_top
  | coe r => rw [exp_coe']; exact_mod_cast (Real.exp_pos r).le

theorem exp_ne_top {x : EReal} (h : x ≠ ⊤) : Ideal.exp x ≠ ⊤ := by
  induction x with
  | bot => rw [exp_bot']; exact EReal.zero_ne_top
  | top => exact absurd rfl h
  | coe r => rw [exp_coe']; exact EReal.coe_ne_top _

theorem sub_ne_top {x y : EReal} (hxy : x ≤ y) (hy : y ≠ ⊤) : x - y ≠ ⊤ := by
  induction y with
  | top => exact absurd rfl hy
  | bot =>
    rw [le_bot_iff.1 hxy]
    exact bot_ne_top
  | coe r =>
    induction x with
    | bot => rw [EReal.bot_sub]; exact bot_ne_top
    | top => exact absurd (top_le_iff.1 hxy) hy
    | coe q => rw [← EReal.coe_sub]; exact EReal.coe_ne_top _

/-- Moving the reference point of a weight. -/
theorem exp_shift {w m m' : EReal} (h1 : w ≤ m) (h2 : m ≤ m') (h3 : m' ≠ ⊤) : Ideal.exp (m - m') * Ideal.exp (w - m) = Ideal.exp (w - m') := by
  induction w with
  | bot => rw [EReal.bot_sub, EReal.bot_sub, exp_bot', mul_zero]
  | top => exact absurd (top_le_iff.1 ((top_le_iff.1 h1) ▸ h2)) h3
  | coe q =>
    induction m with
    | bot => exact absurd (le_bot_iff.1 h1) (EReal.coe_ne_bot _)
    | top => exact absurd (top_le_iff.1 h2) h3
    | coe r =>
      induction m' with
      | bot => exact absurd (le_bot_iff.1 h2) (EReal.coe_ne_bot _)
      | top => exact absurd rfl h3
      | coe t =>
        rw [← EReal.coe_sub, ← EReal.coe_sub, ← EReal.coe_sub, exp_coe', exp_coe', exp_coe', ← EReal.coe_mul, ← Real.exp_add]
        congr 2
        ring

theorem mul_sum' {ι : Type} (s : Finset ι) (f : ι → EReal) {c : EReal} (h0 : 0 ≤ c) (ht : c ≠ ⊤) : c * ∑ i ∈ s, f i = ∑ i ∈ s, c * f i := by
  classical
  induction s using Finset.induction_on with
  | empty => rw [sum_empty, sum_empty, mul_zero]
  | insert a s ha ih => rw [sum_insert ha, sum_insert ha, EReal.left_distrib_of_nonneg_of_ne_top h0 ht, ih]

/-- The largest of the first N scores, and the weight of key s when the reference point is that. -/
def top (w : ℕ → EReal) (N : ℕ) : EReal := (range N).sup w
def wt (w : ℕ → EReal) (N s : ℕ) : EReal := Ideal.exp (w s - top w N)
/-- The sum of the weights, and the weighted sum of the values. -/
def den (w : ℕ → EReal) (N : ℕ) : EReal := ∑ s ∈ range N, wt w N s
def num (w v : ℕ → EReal) (N : ℕ) : EReal := ∑ s ∈ range N, wt w N s * v s

theorem top_zero (w : ℕ → EReal) : top w 0 = ⊥ := rfl
theorem den_zero (w : ℕ → EReal) : den w 0 = 0 := rfl
theorem num_zero (w v : ℕ → EReal) : num w v 0 = 0 := rfl

theorem top_ne_top {w : ℕ → EReal} (h : ∀ s, w s ≠ ⊤) (N : ℕ) : top w N ≠ ⊤ := by
  have : top w N < ⊤ := (Finset.sup_lt_iff (bot_lt_top)).2 fun s _ => lt_top_iff_ne_top.2 (h s)
  exact this.ne

theorem le_top' (w : ℕ → EReal) {N s : ℕ} (h : s < N) : w s ≤ top w N := Finset.le_sup (f := w) (mem_range.2 h)

theorem top_mono (w : ℕ → EReal) {N N' : ℕ} (h : N ≤ N') : top w N ≤ top w N' := Finset.sup_mono (range_subset_range.2 h)

theorem fold_max_sup {ι : Type} (s : Finset ι) (f : ι → EReal) : s.fold max ⊥ f = s.sup f := rfl

/-- The largest score after 256 more keys, the new ones taken in two halves side by side. -/
theorem top_step (w : ℕ → EReal) (N : ℕ) (f : Fin 128 → EReal) (hf : ∀ x, f x = max (w (N + x.val)) (w (N + (128 + x.val)))) :
    max (top w N) ((univ : Finset (Fin 128)).fold max ⊥ f) = top w (N + 256) := by
  rw [fold_max_sup]
  apply le_antisymm
  · refine max_le (top_mono w (by omega)) (Finset.sup_le fun x _ => ?_)
    rw [hf]
    exact max_le (le_top' w (by omega)) (le_top' w (by omega))
  · refine Finset.sup_le fun s hs => ?_
    have hs := mem_range.1 hs
    by_cases h : s < N
    · exact le_max_of_le_left (le_top' w h)
    · refine le_max_of_le_right ?_
      by_cases h' : s < N + 128
      · refine le_trans ?_ (Finset.le_sup (mem_univ (⟨s - N, by omega⟩ : Fin 128)))
        rw [hf]
        exact le_max_of_le_left (le_of_eq (congrArg w (show s = N + (s - N) by omega)))
      · refine le_trans ?_ (Finset.le_sup (mem_univ (⟨s - N - 128, by omega⟩ : Fin 128)))
        rw [hf]
        exact le_max_of_le_right (le_of_eq (congrArg w (show s = N + (128 + (s - N - 128)) by omega)))

theorem rescale (w : ℕ → EReal) (h : ∀ s, w s ≠ ⊤) {N N' s : ℕ} (hs : s < N) (hN : N ≤ N') : Ideal.exp (top w N - top w N') * wt w N s = wt w N' s :=
  exp_shift (le_top' w hs) (top_mono w hN) (top_ne_top h N')

theorem rescale_sum (w v : ℕ → EReal) (h : ∀ s, w s ≠ ⊤) {N N' : ℕ} (hN : N ≤ N') :
    Ideal.exp (top w N - top w N') * num w v N = ∑ s ∈ range N, wt w N' s * v s := by
  unfold num
  rw [mul_sum' _ _ (exp_nonneg' _) (exp_ne_top (sub_ne_top (top_mono w hN) (top_ne_top h _)))]
  refine sum_congr rfl fun s hs => ?_
  rw [← mul_assoc, rescale w h (mem_range.1 hs) hN]

/-- The weighted sum after 256 more keys. -/
theorem num_step (w v : ℕ → EReal) (h : ∀ s, w s ≠ ⊤) (N : ℕ) (f : Fin 256 → EReal) (hf : ∀ x : Fin 256, f x = wt w (N + 256) (N + x.val) * v (N + x.val)) :
    Ideal.exp (top w N - top w (N + 256)) * num w v N + ∑ x, f x = num w v (N + 256) := by
  rw [rescale_sum w v h (Nat.le_add_right N 256)]
  unfold num
  rw [sum_range_add, Finset.sum_range (n := 256)]
  exact congrArg _ (sum_congr rfl fun x _ => hf x)

theorem den_eq_num (w : ℕ → EReal) (N : ℕ) : den w N = num w (fun _ => 1) N := sum_congr rfl fun s _ => (mul_one _).symm

/-- The sum of the weights after 256 more keys, the new ones taken in two halves side by side. -/
theorem den_step (w : ℕ → EReal) (h : ∀ s, w s ≠ ⊤) (N : ℕ) (f : Fin 128 → EReal)
    (hf : ∀ x, f x = wt w (N + 256) (N + x.val) + wt w (N + 256) (N + (128 + x.val))) :
    Ideal.exp (top w N - top w (N + 256)) * den w N + ∑ x, f x = den w (N + 256) := by
  rw [den_eq_num, den_eq_num, ← num_step w (fun _ => 1) h N _ (fun x => rfl)]
  refine congrArg _ ?_
  rw [sum_congr rfl fun x _ => hf x, sum_add_distrib, Fin.sum_univ_add (a := 128) (b := 128) (fun x : Fin 256 => wt w (N + 256) (N + x.val) * 1)]
  simp only [mul_one]
  rfl

/-! ## Keys whose score is ⊥ at the end of the row change nothing -/

theorem top_tail (w : ℕ → EReal) {T N : ℕ} (hT : T ≤ N) (h : ∀ s, T ≤ s → w s = ⊥) : top w N = top w T := by
  refine le_antisymm (Finset.sup_le fun s _ => ?_) (top_mono w hT)
  by_cases hs : s < T
  · exact le_top' w hs
  · rw [h s (by omega)]
    exact bot_le

theorem num_tail (w v : ℕ → EReal) {T N : ℕ} (hT : T ≤ N) (h : ∀ s, T ≤ s → w s = ⊥) : num w v N = num w v T := by
  unfold num wt
  rw [top_tail w hT h]
  refine (sum_subset (range_subset_range.2 hT) fun s _ hs => ?_).symm
  rw [h s (by simpa using hs), EReal.bot_sub, exp_bot', zero_mul]

theorem den_tail (w : ℕ → EReal) {T N : ℕ} (hT : T ≤ N) (h : ∀ s, T ≤ s → w s = ⊥) : den w N = den w T := by
  rw [den_eq_num, den_eq_num, num_tail w _ hT h]

theorem den_pos (w : ℕ → EReal) (h : ∀ s, w s ≠ ⊤) (h0 : w 0 ≠ ⊥) {N : ℕ} (hN : 0 < N) : 0 < den w N := by
  have h1 : 0 < wt w N 0 := by
    have hle := le_top' w hN
    have ht := top_ne_top h N
    unfold wt
    generalize top w N = m at hle ht
    have h0' := h 0
    generalize w 0 = x at *
    induction x with
    | bot => exact absurd rfl h0
    | top => exact absurd rfl h0'
    | coe r =>
      induction m with
      | bot => exact absurd (le_bot_iff.1 hle) (EReal.coe_ne_bot _)
      | top => exact absurd rfl ht
      | coe t =>
        rw [← EReal.coe_sub, exp_coe']
        exact_mod_cast Real.exp_pos _
  exact lt_of_lt_of_le h1 (single_le_sum (f := wt w N) (fun s _ => exp_nonneg' _) (mem_range.2 hN))

theorem inv_ne_top' (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

theorem div_of_pos {x y : EReal} (h : 0 < y) : Ideal.div x y = x * y⁻¹ := by
  unfold Ideal.div
  rw [if_neg h.ne']

/-- The quotient of the two sums is the mean of the values under the normalised weights. -/
theorem quotient (w v : ℕ → EReal) (h : ∀ s, w s ≠ ⊤) (h0 : w 0 ≠ ⊥) {T N N' : ℕ} (hT : 0 < T) (hN : T ≤ N) (hN' : T ≤ N') (hw : ∀ s, T ≤ s → w s = ⊥) :
    Ideal.div (num w v N) (den w N) = ∑ s ∈ range N', v s * Ideal.div (wt w N' s) (den w N') := by
  rw [num_tail w v hN hw, den_tail w hN hw, ← num_tail w v hN' hw, ← den_tail w hN' hw]
  have hp := den_pos w h h0 (lt_of_lt_of_le hT hN')
  rw [div_of_pos hp]
  unfold num
  rw [mul_comm, mul_sum' _ _ (EReal.inv_nonneg_of_nonneg hp.le) (inv_ne_top' _)]
  refine sum_congr rfl fun s _ => ?_
  rw [div_of_pos hp]
  ac_rfl

theorem ofBits_neg_inf : Ideal.ofBits .f32 0xFF800000#32 = (⊥ : EReal) := by
  simp [Ideal.ofBits, Ideal.ieee]

end Cert.Online
-- ==== Proof.RowVal.lean ====
module
public import proofs.«01_k».proof.Proof.OutVal
public import proofs.«01_k».proof.Proof.Online
public import Idealize.ShloMosaic.Lib.Pointwise
public import Idealize.ShloMosaic.Lib.WordCmp
@[expose] public section
set_option maxRecDepth 16384
noncomputable section
namespace Cert.KernelIdeal.Att
open Cert.KernelIdeal Cert.KernelIdeal.Gen
open Idealize.ShloMosaic Idealize.ShloMosaic.TcCoe Idealize.ShloMosaic.Tactic
open Cert.Online

/-! # One row of the running softmax at the ideal values

Row r of a head's block carries, in every lane, the largest score so far and the sum of the weights, and in lane n the
weighted sum of column n of the values. One key block takes the state after N keys to the state after N + 256. -/

/-- Row r of the state holds the running softmax of the scores w and the values v after N keys. -/
structure Row {h : ℕ} (w : ℕ → EReal) (v : Fin 128 → ℕ → EReal) (N : ℕ) (s : St Ideal ⟨2, ![h, 128]⟩) (r : Fin h) : Prop where
  mx : ∀ l : Fin 128, s.1 (ix2 r l) = top w N
  sum : ∀ l : Fin 128, s.2.1 (ix2 r l) = den w N
  acc : ∀ l : Fin 128, s.2.2 (ix2 r l) = num w (v l) N

theorem newMax256 (sc : FVec Ideal S256x256 .f32) (m : FVec Ideal S256x128 .f32) (r : Fin 256) (l : Fin 128) :
    newMax ev256 sc m (ix2 r l) = max (m (ix2 r l)) ((Finset.univ : Finset (Fin 128)).fold max (Ideal.ofBits .f32 0xFF800000#32) fun x => max (sc (ix2 r ⟨x.val, by omega⟩)) (sc (ix2 r ⟨128 + x.val, by omega⟩))) := by
  pointwise [newMax, sLo, sHi]

theorem newMax272 (sc : FVec Ideal S272x256 .f32) (m : FVec Ideal S272x128 .f32) (r : Fin 272) (l : Fin 128) :
    newMax ev272 sc m (ix2 r l) = max (m (ix2 r l)) ((Finset.univ : Finset (Fin 128)).fold max (Ideal.ofBits .f32 0xFF800000#32) fun x => max (sc (ix2 r ⟨x.val, by omega⟩)) (sc (ix2 r ⟨128 + x.val, by omega⟩))) := by
  pointwise [newMax, sLo, sHi]

theorem newSum256 (sc : FVec Ideal S256x256 .f32) (m s : FVec Ideal S256x128 .f32) (r : Fin 256) (l : Fin 128) :
    newSum ev256 sc m s (ix2 r l) = Ideal.exp (m (ix2 r l) - newMax ev256 sc m (ix2 r l)) * s (ix2 r l)
      + ∑ x : Fin 128, (Ideal.exp (sc (ix2 r ⟨x.val, by omega⟩) - newMax ev256 sc m (ix2 r x)) + Ideal.exp (sc (ix2 r ⟨128 + x.val, by omega⟩) - newMax ev256 sc m (ix2 r x))) := by
  pointwise [newSum, sLo, sHi, alpha, pLo, pHi]

theorem newSum272 (sc : FVec Ideal S272x256 .f32) (m s : FVec Ideal S272x128 .f32) (r : Fin 272) (l : Fin 128) :
    newSum ev272 sc m s (ix2 r l) = Ideal.exp (m (ix2 r l) - newMax ev272 sc m (ix2 r l)) * s (ix2 r l)
      + ∑ x : Fin 128, (Ideal.exp (sc (ix2 r ⟨x.val, by omega⟩) - newMax ev272 sc m (ix2 r x)) + Ideal.exp (sc (ix2 r ⟨128 + x.val, by omega⟩) - newMax ev272 sc m (ix2 r x))) := by
  pointwise [newSum, sLo, sHi, alpha, pLo, pHi]

theorem weights256 (sc : FVec Ideal S256x256 .f32) (m : FVec Ideal S256x128 .f32) (r : Fin 256) (x : Fin 256) (M : EReal) (hM : ∀ l, newMax ev256 sc m (ix2 r l) = M) :
    weights ev256 sc m (ix2 r x) = Ideal.exp (sc (ix2 r x) - M) := by
  pointwise [weights, sLo, sHi, pLo, pHi]
  simp only [hM]
  split
  · rfl
  · rw [show (⟨128 + (x.val - 128), by omega⟩ : Fin 256) = x from Fin.ext (by show 128 + (x.val - 128) = x.val; omega)]

theorem weights272 (sc : FVec Ideal S272x256 .f32) (m : FVec Ideal S272x128 .f32) (r : Fin 272) (x : Fin 256) (M : EReal) (hM : ∀ l, newMax ev272 sc m (ix2 r l) = M) :
    weights ev272 sc m (ix2 r x) = Ideal.exp (sc (ix2 r x) - M) := by
  pointwise [weights, sLo, sHi, pLo, pHi]
  simp only [hM]
  split
  · rfl
  · rw [show (⟨128 + (x.val - 128), by omega⟩ : Fin 256) = x from Fin.ext (by show 128 + (x.val - 128) = x.val; omega)]

theorem acc256 (sc : FVec Ideal S256x256 .f32) (m a : FVec Ideal S256x128 .f32) (V : Vec Ideal S1x256x128 .bf16) (r : Fin 256) (l : Fin 128) :
    addf (mulf (alpha ev256 sc m) a) (pv256 V (weights ev256 sc m)) (ix2 r l) = Ideal.exp (m (ix2 r l) - newMax ev256 sc m (ix2 r l)) * a (ix2 r l) + ∑ x : Fin 256, weights ev256 sc m (ix2 r x) * V (ix3 0 x l) := by
  pointwise [pv256, alpha]

theorem acc272 (sc : FVec Ideal S272x256 .f32) (m a : FVec Ideal S272x128 .f32) (V : Vec Ideal S1x256x128 .bf16) (r : Fin 272) (l : Fin 128) :
    addf (mulf (alpha ev272 sc m) a) (pv272 V (weights ev272 sc m)) (ix2 r l) = Ideal.exp (m (ix2 r l) - newMax ev272 sc m (ix2 r l)) * a (ix2 r l) + ∑ x : Fin 256, weights ev272 sc m (ix2 r x) * V (ix3 0 x l) := by
  pointwise [pv272, alpha]

section
variable (w : ℕ → EReal) (v : Fin 128 → ℕ → EReal) (hw : ∀ s, w s ≠ ⊤) (N : ℕ)
include hw

theorem row_step256 (sc : FVec Ideal S256x256 .f32) (V : Vec Ideal S1x256x128 .bf16) (s : St Ideal S256x128) (r : Fin 256) (H : Row w v N s r)
    (hsc : ∀ x : Fin 256, sc (ix2 r x) = w (N + x.val)) (hV : ∀ (x : Fin 256) (l : Fin 128), V (ix3 0 x l) = v l (N + x.val)) :
    Row w v (N + 256) (upd ev256 sc (pv256 V) s) r := by
  have hM : ∀ l, newMax ev256 sc s.1 (ix2 r l) = top w (N + 256) := fun l => by
    rw [newMax256, H.mx, ofBits_neg_inf]
    exact top_step w N _ fun x => by rw [hsc, hsc]
  unfold upd
  simp only [shapeCast_self]
  refine ⟨hM, fun l => ?_, fun l => ?_⟩
  · show newSum ev256 sc s.1 s.2.1 (ix2 r l) = _
    rw [newSum256, hM, H.mx, H.sum]
    exact den_step w hw N _ fun x => by rw [hsc, hsc, hM]; rfl
  · refine (acc256 sc s.1 s.2.2 V r l).trans ?_
    rw [hM, H.mx, H.acc]
    exact num_step w (v l) hw N _ fun x => by rw [weights256 sc s.1 r x _ hM, hsc, hV]; rfl

theorem row_step272 (sc : FVec Ideal S272x256 .f32) (V : Vec Ideal S1x256x128 .bf16) (s : St Ideal S272x128) (r : Fin 272) (H : Row w v N s r)
    (hsc : ∀ x : Fin 256, sc (ix2 r x) = w (N + x.val)) (hV : ∀ (x : Fin 256) (l : Fin 128), V (ix3 0 x l) = v l (N + x.val)) :
    Row w v (N + 256) (upd ev272 sc (pv272 V) s) r := by
  have hM : ∀ l, newMax ev272 sc s.1 (ix2 r l) = top w (N + 256) := fun l => by
    rw [newMax272, H.mx, ofBits_neg_inf]
    exact top_step w N _ fun x => by rw [hsc, hsc]
  unfold upd
  simp only [shapeCast_self]
  refine ⟨hM, fun l => ?_, fun l => ?_⟩
  · show newSum ev272 sc s.1 s.2.1 (ix2 r l) = _
    rw [newSum272, hM, H.mx, H.sum]
    exact den_step w hw N _ fun x => by rw [hsc, hsc, hM]; rfl
  · refine (acc272 sc s.1 s.2.2 V r l).trans ?_
    rw [hM, H.mx, H.acc]
    exact num_step w (v l) hw N _ fun x => by rw [weights272 sc s.1 r x _ hM, hsc, hV]; rfl
end

/-! ## The scores of a key block -/

theorem sc_step256 (q : Vec Ideal S256x256 .bf16) (K : Vec Ideal S1x256x256 .bf16) (r x : Fin 256) : k0_pay2 q K (ix2 r x) = ∑ d : Fin 256, q (ix2 r d) * K (ix3 0 x d) := by
  pointwise [k0_pay2]
theorem sc_step272 (q : Vec Ideal S272x256 .bf16) (K : Vec Ideal S1x256x256 .bf16) (r : Fin 272) (x : Fin 256) : k0_pay287 q K (ix2 r x) = ∑ d : Fin 256, q (ix2 r d) * K (ix3 0 x d) := by
  pointwise [k0_pay287]

/-- The mask's comparison of two small numbers. -/
theorem mask_word (o : ℕ) (ho : o ≤ 256) (x r : ℕ) (hx : x < 256) (hr : r < 272) (a b : EReal) :
    Scalar.select (IntOp.cmpi CmpIPredicate.sle (IntOp.addi (BitVec.ofNat 32 x) (BitVec.ofNat 32 o)) (BitVec.ofNat 32 r)) a b = if x + o ≤ r then a else b := by
  have h1 : (BitVec.ofNat 32 x + BitVec.ofNat 32 o).toInt = ((x + o : ℕ) : ℤ) := by
    rw [← BitVec.ofNat_add]
    exact WordCmp.toInt_ofNat_of_lt (by omega)
  have h2 : (BitVec.ofNat 32 r).toInt = (r : ℤ) := WordCmp.toInt_ofNat_of_lt (by omega)
  have h3 : (BitVec.ofNat 32 x + BitVec.ofNat 32 o).sle (BitVec.ofNat 32 r) = decide (x + o ≤ r) := by
    unfold BitVec.sle
    rw [h1, h2]
    exact decide_eq_decide.2 (by omega)
  show (if BitVec.ofBool ((BitVec.ofNat 32 x + BitVec.ofNat 32 o).sle (BitVec.ofNat 32 r)) = 1 then a else b) = _
  rw [h3]
  by_cases h : x + o ≤ r
  · rw [if_pos h, if_pos (by rw [decide_eq_true h]; rfl)]
  · rw [if_neg h, if_neg (by rw [decide_eq_false h]; decide)]

theorem sc_diag256 (q : Vec Ideal S256x256 .bf16) (K : Vec Ideal S1x256x256 .bf16) (r x : Fin 256) :
    k0_pay187 q K (ix2 r x) = if x.val ≤ r.val then ∑ d : Fin 256, q (ix2 r d) * K (ix3 0 x d) else ⊥ := by
  rw [← ofBits_neg_inf]
  pointwise [k0_pay187]
  exact mask_word 0 (by omega) x.val r.val x.isLt (by omega) _ _
theorem sc_diag272 (q : Vec Ideal S272x256 .bf16) (K : Vec Ideal S1x256x256 .bf16) (r : Fin 272) (x : Fin 256) :
    k0_pay389 q K (ix2 r x) = if x.val ≤ r.val then ∑ d : Fin 256, q (ix2 r d) * K (ix3 0 x d) else ⊥ := by
  rw [← ofBits_neg_inf]
  pointwise [k0_pay389]
  exact mask_word 0 (by omega) x.val r.val x.isLt (by omega) _ _
theorem sc_last272 (q : Vec Ideal S272x256 .bf16) (K : Vec Ideal S1x256x256 .bf16) (r : Fin 272) (x : Fin 256) :
    k0_pay479 q K (ix2 r x) = if x.val + 256 ≤ r.val then ∑ d : Fin 256, q (ix2 r d) * K (ix3 0 x d) else ⊥ := by
  rw [← ofBits_neg_inf]
  pointwise [k0_pay479]
  exact mask_word 256 (by omega) x.val r.val x.isLt (by omega) _ _

end Cert.KernelIdeal.Att
-- ==== Proof.Spec.lean ====
module
public import proofs.«01_k».proof.Proof.Online
public import Idealize.ShloMosaic.Lib.Pointwise
@[expose] public section
set_option maxRecDepth 16384
noncomputable section
namespace Cert.Online
open Idealize.ShloMosaic

/-! # The attention as a formula

One number of the result, from the queries, the keys and the values as they lie in the three arguments: the mean of a
column of values under the softmax of one query's scores, a query seeing the keys up to its own place. -/

/-- The scores of one query of batch b, key head g, query head h at place r. -/
def row (x0 : FVec Ideal ⟨2, ![8256, 4096]⟩ .bf16) (x1 : FVec Ideal ⟨2, ![8256, 512]⟩ .bf16) (b : Fin 4) (g : Fin 2) (h : Fin 8) (r : Fin 2064) (s : ℕ) : EReal :=
  if s ≤ r.val then ∑ d : Fin 256, x0 (ix2 ⟨b.val * 2064 + r.val, by omega⟩ ⟨g.val * 2048 + h.val * 256 + d.val, by omega⟩) * x1 (ix2 ⟨(b.val * 2064 + s) % 8256, Nat.mod_lt _ (by decide)⟩ ⟨g.val * 256 + d.val, by omega⟩) else ⊥

/-- Column n of the values of batch b, key head g. -/
def val (x2 : FVec Ideal ⟨2, ![8256, 4608]⟩ .f32) (b : Fin 4) (g : Fin 2) (n : Fin 128) (s : ℕ) : EReal :=
  x2 (ix2 ⟨(b.val * 2064 + s) % 8256, Nat.mod_lt _ (by decide)⟩ ⟨3840 + (g.val * 128 + n.val), by omega⟩)

/-- The mean of the values under the softmax of the scores. -/
def mean (w v : ℕ → EReal) : EReal := ∑ s ∈ Finset.range 2064, v s * Ideal.div (wt w 2064 s) (den w 2064)

theorem ix2_eq {n0 n1 : ℕ} {a a' : Fin n0} {b b' : Fin n1} (h : a.val = a'.val) (h' : b.val = b'.val) : ix2 a b = ix2 a' b' := by
  rw [Fin.ext h, Fin.ext h']

theorem top_fin (w : ℕ → EReal) (n : ℕ) : ((Finset.univ : Finset (Fin n)).fold max ⊥ fun x => w x.val) = top w n := by
  rw [fold_max_sup]
  refine le_antisymm (Finset.sup_le fun x _ => le_top' w x.isLt) (Finset.sup_le fun s hs => ?_)
  exact Finset.le_sup (f := fun x : Fin n => w x.val) (Finset.mem_univ ⟨s, Finset.mem_range.1 hs⟩)

/-- A sum of products of finite numbers is finite. -/
theorem sum_finite {n : ℕ} (f g : Fin n → EReal) (hf : ∀ d, f d ≠ ⊤ ∧ f d ≠ ⊥) (hg : ∀ d, g d ≠ ⊤ ∧ g d ≠ ⊥) : ∃ q : ℝ, ∑ d, f d * g d = (q : EReal) := by
  refine ⟨∑ d, (f d).toReal * (g d).toReal, ?_⟩
  have h : ∀ d, f d * g d = (((f d).toReal * (g d).toReal : ℝ) : EReal) := fun d => by
    rw [EReal.coe_mul, EReal.coe_toReal (hf d).1 (hf d).2, EReal.coe_toReal (hg d).1 (hg d).2]
  rw [Finset.sum_congr rfl fun d _ => h d]
  have : ∀ (S : Finset (Fin n)), ∑ d ∈ S, (((f d).toReal * (g d).toReal : ℝ) : EReal) = ((∑ d ∈ S, (f d).toReal * (g d).toReal : ℝ) : EReal) := by
    intro S
    classical
    induction S using Finset.induction_on with
    | empty => rw [Finset.sum_empty, Finset.sum_empty, EReal.coe_zero]
    | insert a S ha ih => rw [Finset.sum_insert ha, Finset.sum_insert ha, EReal.coe_add, ih]
  exact this _

section
variable (x0 : FVec Ideal ⟨2, ![8256, 4096]⟩ .bf16) (x1 : FVec Ideal ⟨2, ![8256, 512]⟩ .bf16) (h0 : ∀ i, x0 i ≠ (⊤ : EReal) ∧ x0 i ≠ (⊥ : EReal)) (h1 : ∀ i, x1 i ≠ (⊤ : EReal) ∧ x1 i ≠ (⊥ : EReal))
  (b : Fin 4) (g : Fin 2) (h : Fin 8) (r : Fin 2064)
include h0 h1

theorem row_ne_top (s : ℕ) : row x0 x1 b g h r s ≠ ⊤ := by
  unfold row
  split
  · obtain ⟨q, hq⟩ := sum_finite (fun d : Fin 256 => (x0 (ix2 ⟨b.val * 2064 + r.val, by omega⟩ ⟨g.val * 2048 + h.val * 256 + d.val, by omega⟩) : EReal))
      (fun d : Fin 256 => (x1 (ix2 ⟨(b.val * 2064 + s) % 8256, Nat.mod_lt _ (by decide)⟩ ⟨g.val * 256 + d.val, by omega⟩) : EReal)) (fun _ => h0 _) (fun _ => h1 _)
    exact fun e => EReal.coe_ne_top q (hq.symm.trans e)
  · exact bot_ne_top

theorem row_zero_ne_bot : row x0 x1 b g h r 0 ≠ ⊥ := by
  unfold row
  rw [if_pos (Nat.zero_le _)]
  obtain ⟨q, hq⟩ := sum_finite (fun d : Fin 256 => (x0 (ix2 ⟨b.val * 2064 + r.val, by omega⟩ ⟨g.val * 2048 + h.val * 256 + d.val, by omega⟩) : EReal))
    (fun d : Fin 256 => (x1 (ix2 ⟨(b.val * 2064 + 0) % 8256, Nat.mod_lt _ (by decide)⟩ ⟨g.val * 256 + d.val, by omega⟩) : EReal)) (fun _ => h0 _) (fun _ => h1 _)
  exact fun e => EReal.coe_ne_bot q (hq.symm.trans e)
end
end Cert.Online
-- ==== Proof.KernelVal.lean ====
module
public import proofs.«01_k».proof.Proof.IdealRun
public import proofs.«01_k».proof.Proof.RowVal
public import proofs.«01_k».proof.Proof.Spec
@[expose] public section
set_option maxRecDepth 16384
noncomputable section
namespace Cert.KernelIdeal.Att
open Cert.KernelIdeal Cert.KernelIdeal.Gen
open Idealize.ShloMosaic Idealize.ShloMosaic.TcCoe Idealize.ShloMosaic.Tactic
open Cert.Online

/-! # The kernel's result is the formula -/

theorem row_init {h : ℕ} (w : ℕ → EReal) (v : Fin 128 → ℕ → EReal) (r : Fin h) : Row w v 0 (init (F := Ideal) ⟨2, ![h, 128]⟩) r :=
  ⟨fun _ => ofBits_neg_inf, fun _ => Ideal.ofBits_zero_f32, fun _ => Ideal.ofBits_zero_f32⟩

section
variable (w : ℕ → EReal) (v : Fin 128 → ℕ → EReal) (hw : ∀ s, w s ≠ ⊤) (x6 : Vec Ideal S1x2304x256 .bf16) (x7 : Vec Ideal S1x2304x128 .bf16)
  (hv : ∀ l s, v l s = x7 (ix3 0 ⟨s % 2304, Nat.mod_lt _ (by decide)⟩ l))
include hw hv

/-- A row at the end of a query block of 256 rows. -/
theorem fin256_row (q : Vec Ideal S256x256 .bf16) (k : ℕ) (r : Fin 256)
    (hlo : ∀ s, s ≤ 256 * k + r.val → w s = ∑ d : Fin 256, q (ix2 r d) * x6 (ix3 0 ⟨s % 2304, Nat.mod_lt _ (by decide)⟩ d))
    (hhi : ∀ s, 256 * k + r.val < s → w s = ⊥) : Row w v (256 * (k + 1)) (fin256 q x6 x7 k) r := by
  have hf : ∀ n ≤ k, Row w v (256 * n) (fold (fun n => step256 q (keyBlk x6 n) (valBlk x7 n)) (init S256x128) n) r := by
    intro n
    induction n with
    | zero => exact fun _ => row_init w v r
    | succ n ih =>
      intro hn
      refine row_step256 w v hw (256 * n) _ _ _ r (ih (by omega)) (fun x => ?_) (fun x l => (hv l _).symm)
      rw [sc_step256, hlo _ (by omega)]
      rfl
  refine row_step256 w v hw (256 * k) _ _ _ r (hf k le_rfl) (fun x => ?_) (fun x l => (hv l _).symm)
  rw [sc_diag256]
  split
  · rw [hlo _ (by omega)]
    rfl
  · exact (hhi _ (by omega)).symm

/-- A row at the end of the last query block, of 272 rows. -/
theorem fin272_row (q : Vec Ideal S272x256 .bf16) (r : Fin 272)
    (hlo : ∀ s, s ≤ 1792 + r.val → w s = ∑ d : Fin 256, q (ix2 r d) * x6 (ix3 0 ⟨s % 2304, Nat.mod_lt _ (by decide)⟩ d))
    (hhi : ∀ s, 1792 + r.val < s → w s = ⊥) : Row w v 2304 (fin272 q x6 x7) r := by
  have hf : ∀ n ≤ 7, Row w v (256 * n) (fold (fun n => step272 q (keyBlk x6 n) (valBlk x7 n)) (init S272x128) n) r := by
    intro n
    induction n with
    | zero => exact fun _ => row_init w v r
    | succ n ih =>
      intro hn
      refine row_step272 w v hw (256 * n) _ _ _ r (ih (by omega)) (fun x => ?_) (fun x l => (hv l _).symm)
      rw [sc_step272, hlo _ (by omega)]
      rfl
  have h8 : Row w v 2048 (diag272 q (keyBlk x6 7) (valBlk x7 7) (fold (fun n => step272 q (keyBlk x6 n) (valBlk x7 n)) (init S272x128) 7)) r := by
    refine row_step272 w v hw 1792 _ _ _ r (hf 7 le_rfl) (fun x => ?_) (fun x l => (hv l _).symm)
    rw [sc_diag272]
    split
    · rw [hlo _ (by omega)]
      rfl
    · exact (hhi _ (by omega)).symm
  refine row_step272 w v hw 2048 _ _ _ r h8 (fun x => ?_) (fun x l => (hv l _).symm)
  rw [sc_last272]
  split
  · rw [hlo _ (by omega)]
    rfl
  · exact (hhi _ (by omega)).symm
end

theorem div_at {s : Shape} (a b : FVec Ideal s .f32) (i : s.Idx) : divf a b i = Ideal.div (a i) (b i) := rfl

theorem out256_at (q : Vec Ideal S256x256 .bf16) (x6 : Vec Ideal S1x2304x256 .bf16) (x7 : Vec Ideal S1x2304x128 .bf16) (k : ℕ) (r : Fin 256) (l : Fin 128)
    (w : ℕ → EReal) (v : Fin 128 → ℕ → EReal) (N : ℕ) (H : Row w v N (fin256 q x6 x7 k) r) : out256 q x6 x7 k (ix2 r l) = Ideal.div (num w (v l) N) (den w N) := by
  unfold out256
  rw [div_at, H.acc, H.sum]
theorem out272_at (q : Vec Ideal S272x256 .bf16) (x6 : Vec Ideal S1x2304x256 .bf16) (x7 : Vec Ideal S1x2304x128 .bf16) (r : Fin 272) (l : Fin 128)
    (w : ℕ → EReal) (v : Fin 128 → ℕ → EReal) (N : ℕ) (H : Row w v N (fin272 q x6 x7) r) : out272 q x6 x7 (ix2 r l) = Ideal.div (num w (v l) N) (den w N) := by
  unfold out272
  rw [div_at, H.acc, H.sum]

/-- What is computed from a row is the formula's mean, whatever values stand beyond the last key. -/
theorem quotient_mean (w v v' : ℕ → EReal) (h : ∀ s, w s ≠ ⊤) (h0 : w 0 ≠ ⊥) (r N : ℕ) (hr : r < 2064) (hN : r < N) (hw : ∀ s, r < s → w s = ⊥) (hv : ∀ s < 2064, v s = v' s) :
    Ideal.div (num w v N) (den w N) = Online.mean w v' := by
  rw [quotient w v h h0 (T := r + 1) (N' := 2064) (Nat.succ_pos r) hN (by omega) (fun s hs => hw s hs)]
  exact Finset.sum_congr rfl fun s hs => by rw [hv s (Finset.mem_range.1 hs)]

section
variable (x0 : FVec Ideal S8256x4096 .bf16) (x1 : FVec Ideal S8256x512 .bf16) (x2 : FVec Ideal S8256x4608 .f32)

/-- The staged keys and values, read at a key. -/
theorem keys_at (b : Fin 4) (g : Fin 2) (s : ℕ) (hs : s < 2064) (d : Fin 256) :
    keys (F := Ideal) (Run.kIn (F := Ideal) x1 b.val g.val) (ix3 0 ⟨s % 2304, Nat.mod_lt _ (by decide)⟩ d) = x1 (ix2 ⟨(b.val * 2064 + s) % 8256, Nat.mod_lt _ (by decide)⟩ ⟨g.val * 256 + d.val, by omega⟩) := by
  have h : s % 2304 < 2064 := by omega
  unfold keys
  refine (dif_pos h).trans ?_
  unfold Run.kIn
  refine congrArg x1 (ix2_eq ?_ ?_)
  · show (2064 * b.val + s % 2304) % 8256 = (b.val * 2064 + s) % 8256
    omega
  · show (256 * g.val + d.val) % 512 = g.val * 256 + d.val
    omega

theorem vals_at (b : Fin 4) (g : Fin 2) (s : ℕ) (hs : s < 2064) (n : Fin 128) :
    vals (F := Ideal) (Run.vIn (F := Ideal) x2 b.val g.val) (ix3 0 ⟨s % 2304, Nat.mod_lt _ (by decide)⟩ n) = val x2 b g n s := by
  have h : s % 2304 < 2064 := by omega
  unfold vals
  refine (dif_pos h).trans ?_
  unfold val
  show Run.vIn (F := Ideal) x2 b.val g.val _ = _
  unfold Run.vIn
  refine congrArg x2 (ix2_eq ?_ ?_)
  · show (2064 * b.val + s % 2304) % 8256 = (b.val * 2064 + s) % 8256
    omega
  · show (3840 + 128 * g.val + n.val) % 4608 = 3840 + (g.val * 128 + n.val)
    omega

variable (h0 : ∀ i, x0 i ≠ (⊤ : EReal) ∧ x0 i ≠ (⊥ : EReal)) (h1 : ∀ i, x1 i ≠ (⊤ : EReal) ∧ x1 i ≠ (⊥ : EReal))
include h0 h1

theorem block_at (b : Fin 4) (g : Fin 2) (h : Fin 8) (r : Fin 2064) (n : Fin 128) (y0 : Fin 2064) (y1 : Fin 1024) (e0 : y0.val = r.val) (e1 : y1.val = h.val * 128 + n.val) :
    outAll (F := Ideal) (Run.qIn (F := Ideal) x0 b.val g.val) (keys (F := Ideal) (Run.kIn (F := Ideal) x1 b.val g.val)) (vals (F := Ideal) (Run.vIn (F := Ideal) x2 b.val g.val)) (ix2 y0 y1) = Online.mean (row x0 x1 b g h r) (val x2 b g n) := by
  have hb : ∀ s, r.val < s → row x0 x1 b g h r s = ⊥ := fun s hs => if_neg (by omega)
  have hk : ∀ s, s ≤ r.val → row x0 x1 b g h r s = ∑ d : Fin 256, x0 (ix2 ⟨b.val * 2064 + r.val, by omega⟩ ⟨g.val * 2048 + h.val * 256 + d.val, by omega⟩) * keys (F := Ideal) (Run.kIn (F := Ideal) x1 b.val g.val) (ix3 0 ⟨s % 2304, Nat.mod_lt _ (by decide)⟩ d) := fun s hs => by
    refine (if_pos hs).trans (Finset.sum_congr rfl fun d _ => ?_)
    rw [keys_at x1 b g s (by omega) d]
  have ht := row_ne_top x0 x1 h0 h1 b g h r
  have hz := row_zero_ne_bot x0 x1 h0 h1 b g h r
  have hj : y1.val / 128 = h.val := by omega
  have hn : y1.val % 128 = n.val := by omega
  unfold outAll
  show (if y0.val < 1792 then out256 (qBlk _ (y0.val / 256) (y1.val / 128)) _ _ (y0.val / 256) (ix2 ⟨y0.val % 256, _⟩ ⟨y1.val % 128, _⟩)
    else out272 (qEnd _ (y1.val / 128)) _ _ (ix2 ⟨(y0.val - 1792) % 272, _⟩ ⟨y1.val % 128, _⟩)) = _
  rw [show (⟨y1.val % 128, Nat.mod_lt _ (by decide)⟩ : Fin 128) = n from Fin.ext hn, hj]
  split
  · rw [out256_at _ _ _ _ _ n (row x0 x1 b g h r) (fun l s => vals (F := Ideal) (Run.vIn (F := Ideal) x2 b.val g.val) (ix3 0 ⟨s % 2304, Nat.mod_lt _ (by decide)⟩ l)) (256 * (y0.val / 256 + 1))
      (fin256_row _ _ ht _ _ (fun _ _ => rfl) _ _ _ (fun s hs => ?_) (fun s hs => hb s ?_))]
    · exact quotient_mean _ _ _ ht hz r.val _ r.isLt (by omega) hb (fun s hs => vals_at x2 b g s hs n)
    · have hs' : s ≤ 256 * (y0.val / 256) + y0.val % 256 := hs
      rw [hk s (by omega)]
      refine Finset.sum_congr rfl fun d _ => congrArg₂ (· * ·) (congrArg x0 (ix2_eq ?_ ?_)) rfl
      · show b.val * 2064 + r.val = (2064 * b.val + (256 * (y0.val / 256) + y0.val % 256) % 2064) % 8256
        omega
      · show g.val * 2048 + h.val * 256 + d.val = (2048 * g.val + (256 * h.val + d.val) % 2048) % 4096
        omega
    · have hs' : 256 * (y0.val / 256) + y0.val % 256 < s := hs
      omega
  · rw [out272_at _ _ _ _ n (row x0 x1 b g h r) (fun l s => vals (F := Ideal) (Run.vIn (F := Ideal) x2 b.val g.val) (ix3 0 ⟨s % 2304, Nat.mod_lt _ (by decide)⟩ l)) 2304
      (fin272_row _ _ ht _ _ (fun _ _ => rfl) _ _ (fun s hs => ?_) (fun s hs => hb s ?_))]
    · exact quotient_mean _ _ _ ht hz r.val _ r.isLt (by omega) hb (fun s hs => vals_at x2 b g s hs n)
    · have hs' : s ≤ 1792 + (y0.val - 1792) % 272 := hs
      rw [hk s (by omega)]
      refine Finset.sum_congr rfl fun d _ => congrArg₂ (· * ·) (congrArg x0 (ix2_eq ?_ ?_)) rfl
      · show b.val * 2064 + r.val = (2064 * b.val + (1792 + (y0.val - 1792) % 272) % 2064) % 8256
        omega
      · show g.val * 2048 + h.val * 256 + d.val = (2048 * g.val + (256 * h.val + d.val) % 2048) % 4096
        omega
    · have hs' : 1792 + (y0.val - 1792) % 272 < s := hs
      omega

theorem result_at (R : Fin 8256) (C : Fin 2048) :
    Run.result (F := Ideal) x0 x1 x2 (ix2 R C) = Online.mean (row x0 x1 ⟨R.val / 2064, by omega⟩ ⟨C.val / 1024, by omega⟩ ⟨C.val / 128 % 8, by omega⟩ ⟨R.val % 2064, by omega⟩)
      (val x2 ⟨R.val / 2064, by omega⟩ ⟨C.val / 1024, by omega⟩ ⟨C.val % 128, by omega⟩) :=
  block_at x0 x1 x2 h0 h1 ⟨R.val / 2064, by omega⟩ ⟨C.val / 1024, by omega⟩ ⟨C.val / 128 % 8, by omega⟩ ⟨R.val % 2064, by omega⟩ ⟨C.val % 128, by omega⟩
    ⟨R.val % 2064, Nat.mod_lt _ (by decide)⟩ ⟨C.val % 1024, Nat.mod_lt _ (by decide)⟩ rfl (by show C.val % 1024 = C.val / 128 % 8 * 128 + C.val % 128; omega)
end
end Cert.KernelIdeal.Att
-- ==== Proof.Ref.lean ====
module
public import proofs.«01_k».proof.Defs
public import proofs.«01_k».proof.Proof.Gen.ReferenceIdeal
public import Idealize.ShloMosaic.Lib.StableHlo.RunHlo
public import Idealize.ShloMosaic.Lib.Claim
@[expose] public section
set_option maxRecDepth 16384
noncomputable section
namespace Cert.ReferenceIdeal.Att
open Cert.ReferenceIdeal Cert.ReferenceIdeal.Gen
open Idealize.ShloMosaic Idealize.ShloMosaic.TcCoe
open Idealize.SL.Sem

/-! # The reference's run and its result

The reference is one list of array operations. Its result is named here in three steps: the masked scores, the softmax's
weights, the weighted sums of the values. -/

/-- The masked scores of batch b, key head g, query head h, query r and key s. -/
def scores (x0 : FVec Ideal S8256x4096 .bf16) (x1 : FVec Ideal S8256x512 .bf16) : FVec Ideal S4x2x8x2064x2064 .f32 :=
  select
    (broadcastInDim S4x2x8x2064x2064 ![3, 4] facts.bcast_S2064x2064_S4x2x8x2064x2064_3_4
      (cmpi .sle
        (broadcastInDim S2064x2064 ![0, 1] facts.bcast_S1x2064_S2064x2064_0_1 (broadcastInDim S1x2064 ![1] facts.bcast_S2064_S1x2064_1 (iotaInDim S2064 32 0)))
        (broadcastInDim S2064x2064 ![0, 1] facts.bcast_S2064x1_S2064x2064_0_1 (broadcastInDim S2064x1 ![0] facts.bcast_S2064_S2064x1_0 (iotaInDim S2064 32 0)))))
    (transpose S4x2x8x2064x2064 [0, 1, 4, 3, 2]
      (Host.dotGeneral dot_S4x2064x2x256_S4x2064x2x8x256_S4x2x2064x2064x8_3_4_1_13_02_02 none
        (shapeCast S4x2064x2x256 (extf .f32 x1 facts.bitsLt_bf16_f32) facts.shapeCasts_S8256x512_S4x2064x2x256)
        (shapeCast S4x2064x2x8x256 (extf .f32 x0 facts.bitsLt_bf16_f32) facts.shapeCasts_S8256x4096_S4x2064x2x8x256))
      facts.transposes_S4x2x2064x2064x8_S4x2x8x2064x2064_0_1_4_3_2)
    (broadcastInDim S4x2x8x2064x2064 ![] facts.bcast_S_S4x2x8x2064x2064 (constant S_ .f32 0xFF800000#32))

/-- Every row's largest score. -/
def rowMax (s : FVec Ideal S4x2x8x2064x2064 .f32) : FVec Ideal S4x2x8x2064 .f32 :=
  maximumf (broadcastInDim S4x2x8x2064 ![] facts.bcast_S_S4x2x8x2064 (constant S_ .f32 0xFF800000#32))
    (Host.reduce FloatOps.maximumf s (constant S_ .f32 0xFF800000#32) facts.reducesTo_S4x2x8x2064x2064_S4x2x8x2064_d4 facts.h_S_)

/-- One number per row, copied along the row. -/
def along (m : FVec Ideal S4x2x8x2064 .f32) : FVec Ideal S4x2x8x2064x2064 .f32 :=
  broadcastInDim S4x2x8x2064x2064 ![0, 1, 2, 3, 4] facts.bcast_S4x2x8x2064x1_S4x2x8x2064x2064_0_1_2_3_4 (broadcastInDim S4x2x8x2064x1 ![0, 1, 2, 3] facts.bcast_S4x2x8x2064_S4x2x8x2064x1_0_1_2_3 m)

/-- The exponentials, and the softmax's weights. -/
def expo (s : FVec Ideal S4x2x8x2064x2064 .f32) : FVec Ideal S4x2x8x2064x2064 .f32 := Host.exp (subf s (along (rowMax s)))
def soft (s : FVec Ideal S4x2x8x2064x2064 .f32) : FVec Ideal S4x2x8x2064x2064 .f32 :=
  Host.divf (expo s) (along (Host.reduceAdd (expo s) (constant S_ .f32 0x00000000#32) facts.reducesTo_S4x2x8x2064x2064_S4x2x8x2064_d4 facts.h_S_))

/-- The weighted sums of the values, laid out as the result. -/
def mean (p : FVec Ideal S4x2x8x2064x2064 .f32) (x2 : FVec Ideal S8256x4608 .f32) : FVec Ideal S8256x2048 .f32 :=
  shapeCast S8256x2048
    (transpose S4x2064x2x8x128 [0, 4, 1, 3, 2]
      (Host.dotGeneral dot_S4x2064x2x128_S4x2x8x2064x2064_S4x2x128x8x2064_1_4_3_23_02_01 none
        (shapeCast S4x2064x2x128 (extractStridedSlice S8256x256 ![0, 3840] x2 facts.slices_S8256x4608_S8256x256_0_3840) facts.shapeCasts_S8256x256_S4x2064x2x128)
        p)
      facts.transposes_S4x2x128x8x2064_S4x2064x2x8x128_0_4_1_3_2)
    facts.shapeCasts_S4x2064x2x8x128_S8256x2048

def result (x0 : FVec Ideal S8256x4096 .bf16) (x1 : FVec Ideal S8256x512 .bf16) (x2 : FVec Ideal S8256x4608 .f32) : FVec Ideal S8256x2048 .f32 := mean (soft (scores x0 x1)) x2

theorem run_main (m : (ℓ : Loc nD τ sig) → Buf (Elt Ideal) ℓ) (g : Dev nD → PrngReg) :
    θ_run (defs (F := Ideal)) (onTc (τ := τ) (main (F := Ideal))) ⟨m, fun _ => 0, g⟩ (fun r =>
      (∀ c : Dev nD, r.2.mem ((c.tc : Thread nD τ).loc main_v28) = result (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  hlo_run
  · intro c
    exact ⟨rfl, trivial, trivial, trivial⟩
  · exact Idealize.ShloMosaic.sem_eq_zero_of_no_sems (by decide) _
end Cert.ReferenceIdeal.Att
-- ==== Proof.RefVal.lean ====
module
public import proofs.«01_k».proof.Proof.Ref
public import proofs.«01_k».proof.Proof.Spec
public import Idealize.ShloMosaic.Lib.WordCmp
@[expose] public section
set_option maxRecDepth 16384
noncomputable section
namespace Cert.ReferenceIdeal.Att
open Cert.ReferenceIdeal Cert.ReferenceIdeal.Gen
open Idealize.ShloMosaic Idealize.ShloMosaic.TcCoe
open Cert.Online

/-! # The reference's result is the formula -/

/-- The mask's comparison of two places. -/
theorem mask_word (s r : ℕ) (hs : s < 2064) (hr : r < 2064) (x y : EReal) :
    Scalar.select (IntOp.cmpi CmpIPredicate.sle (BitVec.ofNat 32 s) (BitVec.ofNat 32 r)) x y = if s ≤ r then x else y := by
  have h3 : (BitVec.ofNat 32 s).sle (BitVec.ofNat 32 r) = decide (s ≤ r) := by
    unfold BitVec.sle
    rw [WordCmp.toInt_ofNat_of_lt (show s < 2 ^ (32 - 1) by omega), WordCmp.toInt_ofNat_of_lt (show r < 2 ^ (32 - 1) by omega)]
    exact decide_eq_decide.2 (by omega)
  show (if BitVec.ofBool ((BitVec.ofNat 32 s).sle (BitVec.ofNat 32 r)) = 1 then x else y) = _
  rw [h3]
  by_cases h : s ≤ r
  · rw [if_pos h, if_pos (by rw [decide_eq_true h]; rfl)]
  · rw [if_neg h, if_neg (by rw [decide_eq_false h]; decide)]

theorem scores_at (x0 : FVec Ideal S8256x4096 .bf16) (x1 : FVec Ideal S8256x512 .bf16) (b : Fin 4) (g : Fin 2) (h : Fin 8) (r s : Fin 2064) :
    scores x0 x1 (ix5 b g h r s) = row x0 x1 b g h r s.val := by
  pointwise [scores]
  rw [mask_word _ _ s.isLt r.isLt, ofBits_neg_inf]
  unfold row
  split
  · refine Finset.sum_congr rfl fun d _ => ?_
    rw [mul_comm]
    exact congrArg₂ (· * ·) rfl (congrArg x1 (ix2_eq (by show b.val * 2064 + s.val = (b.val * 2064 + s.val) % 8256; omega) rfl))
  · rfl

/-- The host's reduction by maximum along one axis, read at one place. -/
theorem reduce_max {s t u : Shape} {a : Fin s.rank} (x : FVec Ideal s .f32) (w : BitVec 32) (h' : s.ReducesTo [a] t) (h : s.Reduces [a] t) (hu : 0 < u.numel) (j : t.Idx) :
    Host.reduce (FloatOps.maximumf (F := Ideal) (φ := .f32)) x (constant u .f32 w) h' hu j = (Finset.univ : Finset (Fin (s.size a))).fold max (Ideal.ofBits .f32 w) (x ∘ h.lift j) :=
  Host.reduce_eq_fold_single (FloatOps.maximumf (F := Ideal) (φ := .f32)) x (constant u .f32 w) h' h hu j

theorem lift_last {n0 n1 n2 n3 n4 : ℕ} (h : (⟨5, ![n0, n1, n2, n3, n4]⟩ : Shape).Reduces [4] ⟨4, ![n0, n1, n2, n3]⟩) (i0 : Fin n0) (i1 : Fin n1) (i2 : Fin n2) (i3 : Fin n3) (k : Fin n4) :
    h.lift (ix4 i0 i1 i2 i3) k = ix5 i0 i1 i2 i3 k := by
  funext a
  match a with
  | 0 => rfl
  | 1 => rfl
  | 2 => rfl
  | 3 => rfl
  | 4 => rfl

theorem max_at {t u : Shape} (x : FVec Ideal t .f32) (w : BitVec 32) (D : Fin u.rank → Fin t.rank) (hb : u.BroadcastsInDim t D) (j : t.Idx) :
    maximumf (broadcastInDim t D hb (constant u .f32 w)) x j = max (Ideal.ofBits .f32 w) (x j) := rfl

theorem reduces_last : S4x2x8x2064x2064.Reduces [4] S4x2x8x2064 := by decide

theorem rowMax_at (s : FVec Ideal S4x2x8x2064x2064 .f32) (b : Fin 4) (g : Fin 2) (h : Fin 8) (r : Fin 2064) :
    rowMax s (ix4 b g h r) = (Finset.univ : Finset (Fin 2064)).fold max (⊥ : EReal) fun x => s (ix5 b g h r x) := by
  unfold rowMax
  rw [max_at, reduce_max s _ _ reduces_last, ofBits_neg_inf, max_eq_right bot_le]
  exact congrArg (fun f : Fin 2064 → EReal => (Finset.univ : Finset (Fin 2064)).fold max (⊥ : EReal) f) (funext fun x => congrArg s (lift_last reduces_last b g h r x))

theorem soft_at (sc : FVec Ideal S4x2x8x2064x2064 .f32) (b : Fin 4) (g : Fin 2) (h : Fin 8) (r s : Fin 2064) :
    soft sc (ix5 b g h r s) = Ideal.div (Ideal.exp (sc (ix5 b g h r s) - rowMax sc (ix4 b g h r))) (∑ x : Fin 2064, Ideal.exp (sc (ix5 b g h r x) - rowMax sc (ix4 b g h r))) := by
  pointwise [soft, along, expo]

theorem mean_at (p : FVec Ideal S4x2x8x2064x2064 .f32) (x2 : FVec Ideal S8256x4608 .f32) (R : Fin 8256) (C : Fin 2048) :
    mean p x2 (ix2 R C) = ∑ x : Fin 2064, x2 (ix2 ⟨R.val / 2064 * 2064 + x.val, by omega⟩ ⟨3840 + (C.val / 1024 * 128 + C.val % 128), by omega⟩)
      * p (ix5 ⟨R.val / 2064, by omega⟩ ⟨C.val / 1024, by omega⟩ ⟨C.val / 128 % 8, by omega⟩ ⟨R.val % 2064, by omega⟩ x) := by
  pointwise [mean]

theorem result_at (x0 : FVec Ideal S8256x4096 .bf16) (x1 : FVec Ideal S8256x512 .bf16) (x2 : FVec Ideal S8256x4608 .f32) (R : Fin 8256) (C : Fin 2048) :
    result x0 x1 x2 (ix2 R C) = Online.mean (row x0 x1 ⟨R.val / 2064, by omega⟩ ⟨C.val / 1024, by omega⟩ ⟨C.val / 128 % 8, by omega⟩ ⟨R.val % 2064, by omega⟩)
      (val x2 ⟨R.val / 2064, by omega⟩ ⟨C.val / 1024, by omega⟩ ⟨C.val % 128, by omega⟩) := by
  unfold result Online.mean
  rw [mean_at, Finset.sum_range]
  refine Finset.sum_congr rfl fun s _ => ?_
  refine congrArg₂ (· * ·) (congrArg x2 (ix2_eq (by show R.val / 2064 * 2064 + s.val = (R.val / 2064 * 2064 + s.val) % 8256; omega) rfl)) ?_
  rw [soft_at, rowMax_at]
  simp only [scores_at]
  rw [top_fin]
  unfold den wt
  rw [Finset.sum_range]
end Cert.ReferenceIdeal.Att
-- ==== Proof.Finite.lean ====
module
public import proofs.«01_k».proof.Pre_scores_finite
public import Idealize.ShloMosaic.Lib.ReduceAll
public import Idealize.ShloMosaic.Lib.WordCmp
public import Idealize.ShloMosaic.PureOps.Ideal.Laws
@[expose] public section
set_option maxRecDepth 16384
noncomputable section
namespace Cert.Pre_scores_finite
open Idealize.ShloMosaic

/-! # What the precondition says

The queries and keys are finite: the absolute value of every entry is below +∞. -/

theorem facts : Facts := ⟨by decide, by decide, by decide, by decide, by decide⟩

instance : Subsingleton S_.Idx := ⟨fun _ _ => funext fun a => a.elim0⟩

theorem ofBits_inf : Ideal.ofBits .bf16 0x7F80#16 = (⊤ : EReal) := by
  simp [Ideal.ofBits, Ideal.ieee]

/-- An entry compared below +∞ in absolute value is neither infinity. -/
theorem finite_of_cmp {x : EReal} (h : Ideal.cmp .olt (max x (-x)) (Ideal.ofBits .bf16 0x7F80#16) = 1#1) : x ≠ ⊤ ∧ x ≠ ⊥ := by
  rw [ofBits_inf] at h
  have h' : max x (-x) < ⊤ := (WordCmp.ofBool_decide_eq_one_iff _).1 h
  refine ⟨fun e => ?_, fun e => ?_⟩
  · rw [e] at h'
    exact absurd (le_max_left ⊤ (-⊤ : EReal)) (not_le_of_gt h')
  · rw [e, EReal.neg_bot] at h'
    exact absurd (le_max_right ⊥ (⊤ : EReal)) (not_le_of_gt h')

/-- One argument's part of the test: every entry finite. -/
theorem finite_of_all {s : Shape} (x : FVec Ideal s .bf16) (D : Fin S_.rank → Fin s.rank) (hb : S_.BroadcastsInDim s D) {axes : List (Fin s.rank)} (hr : s.ReducesTo axes S_) (hu : 0 < S_.numel) (j : S_.Idx)
    (e : Host.reduce IntOp.andi (cmpf .olt (Host.absf x) (broadcastInDim s D hb (constant S_ .bf16 0x7F80#16))) (constantI S_ 1 1#1) hr hu j = 1#1) (i : s.Idx) : x i ≠ (⊤ : EReal) ∧ x i ≠ (⊥ : EReal) :=
  finite_of_cmp (Host.reduce_andi_all _ _ hr hu j e i)

theorem finite [Facts] (x0 : FVec Ideal S8256x4096 .bf16) (x1 : FVec Ideal S8256x512 .bf16) (x2 : FVec Ideal S8256x4608 .f32) (h : fn x0 x1 x2 = fun _ => 1#1) :
    (∀ i, x0 i ≠ (⊤ : EReal) ∧ x0 i ≠ (⊥ : EReal)) ∧ ∀ i, x1 i ≠ (⊤ : EReal) ∧ x1 i ≠ (⊥ : EReal) := by
  have e := congrFun h (Shape.Idx.first Facts.h_S_)
  unfold fn at e
  obtain ⟨e0, e1⟩ := IntOp.andi_eq_one.1 e
  exact ⟨finite_of_all x0 _ _ _ _ _ e0, finite_of_all x1 _ _ _ _ _ e1⟩

end Cert.Pre_scores_finite
-- ==== Proof.lean ====
/-
  The certificate of the attention kernel, put together. The kernel as compiled ends with its arguments unchanged
  (Proof/KernelRun.lean), the kernel read at the ideal values ends with the array `Run.result` of its arguments
  (Proof/IdealRun.lean), the reference with `Att.result` of the same arguments (Proof/Ref.lean), and where queries and
  keys are finite both arrays are the same formula (Proof/KernelVal.lean, Proof/RefVal.lean, Proof/Spec.lean).
  The products beside it (Proof/UpVal.lean, Proof/DownVal.lean, Proof/MixOutVal.lean, Proof/InVal.lean), the
  normalisations (Proof/NormVal.lean, Proof/FinVal.lean), the rows for the caches (Proof/RowsVal.lean) and the
  calls over the sample (the files with `Sample` in their names) each end, kernel and reference alike, with named arrays
  of the arguments.
-/
module

public import proofs.«01_k».proof.Defs
public import proofs.«01_k».proof.Proof.Gen.Up.Frame
public import proofs.«01_k».proof.Proof.UpVal
public import proofs.«01_k».proof.Proof.Gen.Down.Frame
public import proofs.«01_k».proof.Proof.DownVal
public import proofs.«01_k».proof.Proof.Gen.MixOut.Frame
public import proofs.«01_k».proof.Proof.MixOutVal
public import proofs.«01_k».proof.Proof.Gen.In.Frame
public import proofs.«01_k».proof.Proof.InVal
public import proofs.«01_k».proof.Proof.Gen.Fin.Frame
public import proofs.«01_k».proof.Proof.FinVal
public import proofs.«01_k».proof.Proof.Gen.Norm.Frame
public import proofs.«01_k».proof.Proof.NormVal
public import proofs.«01_k».proof.Proof.Gen.Rows.Frame
public import proofs.«01_k».proof.Proof.RowsVal
public import proofs.«01_k».proof.Proof.Gen.InSample.Frame
public import proofs.«01_k».proof.Proof.InSampleVal
public import proofs.«01_k».proof.Proof.Gen.FinSample.Frame
public import proofs.«01_k».proof.Proof.FinSampleVal
public import proofs.«01_k».proof.Proof.KernelRun
public import proofs.«01_k».proof.Proof.KernelVal
public import proofs.«01_k».proof.Proof.RefVal
public import proofs.«01_k».proof.Proof.Finite
public import Idealize.ShloMosaic.Adequacy
public import Idealize.ShloMosaic.Init

@[expose] public section

set_option maxRecDepth 16384

noncomputable section

namespace Cert.Proof

open Idealize.ShloMosaic Idealize.SL.Sem

/-- Where queries and keys are finite, the kernel's array and the reference's are equal. -/
theorem results_eq (x0 : FVec Ideal Cert.KernelIdeal.S8256x4096 .bf16) (x1 : FVec Ideal Cert.KernelIdeal.S8256x512 .bf16) (x2 : FVec Ideal Cert.KernelIdeal.S8256x4608 .f32)
    (h0 : ∀ i, x0 i ≠ (⊤ : EReal) ∧ x0 i ≠ (⊥ : EReal)) (h1 : ∀ i, x1 i ≠ (⊤ : EReal) ∧ x1 i ≠ (⊥ : EReal)) :
    Cert.ReferenceIdeal.Att.result x0 x1 x2 = Cert.KernelIdeal.Run.result (F := Ideal) x0 x1 x2 := by
  funext i
  idx_vars i
  exact (Cert.ReferenceIdeal.Att.result_at x0 x1 x2 _ _).trans (Cert.KernelIdeal.Att.result_at x0 x1 x2 h0 h1 _ _).symm

theorem claim : Cert.Claim := by
  refine ⟨Cert.Kernel.Gen.facts, Cert.KernelIdeal.Gen.facts, Cert.ReferenceIdeal.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.MixOut.Gen.facts, Cert.MixOutIdeal.Gen.facts, Cert.MixOutReferenceIdeal.Gen.facts,
    Cert.In.Gen.facts, Cert.InIdeal.Gen.facts, Cert.InReferenceIdeal.Gen.facts,
    Cert.Fin.Gen.facts, Cert.FinIdeal.Gen.facts, Cert.FinReferenceIdeal.Gen.facts,
    Cert.Norm.Gen.facts, Cert.NormIdeal.Gen.facts, Cert.NormReferenceIdeal.Gen.facts,
    Cert.Rows.Gen.facts, Cert.RowsIdeal.Gen.facts, Cert.RowsReferenceIdeal.Gen.facts,
    Cert.InSample.Gen.facts, Cert.InSampleIdeal.Gen.facts, Cert.InSampleReferenceIdeal.Gen.facts,
    Cert.FinSample.Gen.facts, Cert.FinSampleIdeal.Gen.facts, Cert.FinSampleReferenceIdeal.Gen.facts,
    Cert.Pre_scores_finite.facts,
    fun m g _ => Cert.Kernel.Run.run_main m g, fun m g _ => ?_, fun m g _ => ?_, fun m g _ => ?_, fun m g _ => ?_,
    fun m g _ => Cert.Up.Gen.frame m g, fun m g _ => Cert.UpIdeal.Gen.frame m g,
    fun m g _ => (θ_run Cert.UpReferenceIdeal.defs _ _).mono (fun _ h => ⟨fun c => (h c).2, sem_eq_zero_of_no_sems (by decide) _⟩) (Cert.UpReferenceIdeal.Prod.run m g),
    fun m g _ => Cert.Down.Gen.frame m g, fun m g _ => Cert.DownIdeal.Gen.frame m g,
    fun m g _ => (θ_run Cert.DownReferenceIdeal.defs _ _).mono (fun _ h => ⟨fun c => (h c).2, sem_eq_zero_of_no_sems (by decide) _⟩) (Cert.DownReferenceIdeal.Prod.run m g),
    fun m g _ => Cert.MixOut.Gen.frame m g, fun m g _ => Cert.MixOutIdeal.Gen.frame m g,
    fun m g _ => (θ_run Cert.MixOutReferenceIdeal.defs _ _).mono (fun _ h => ⟨fun c => (h c).2, sem_eq_zero_of_no_sems (by decide) _⟩) (Cert.MixOutReferenceIdeal.Prod.run m g),
    fun m g _ => Cert.In.Gen.frame m g, fun m g _ => Cert.InIdeal.Gen.frame m g,
    fun m g _ => (θ_run Cert.InReferenceIdeal.defs _ _).mono (fun _ h => ⟨fun c => (h c).2.2.2.2.2.2.2, sem_eq_zero_of_no_sems (by decide) _⟩) (Cert.InReferenceIdeal.Prod.run m g),
    fun m g _ => Cert.Fin.Gen.frame m g, fun m g _ => Cert.FinIdeal.Gen.frame m g,
    fun m g _ => (θ_run Cert.FinReferenceIdeal.defs _ _).mono (fun _ h => ⟨fun c => (h c).2, sem_eq_zero_of_no_sems (by decide) _⟩) (Cert.FinReferenceIdeal.Prod.run m g),
    fun m g _ => Cert.Norm.Gen.frame m g, fun m g _ => Cert.NormIdeal.Gen.frame m g,
    fun m g _ => (θ_run Cert.NormReferenceIdeal.defs _ _).mono (fun _ h => ⟨fun c => (h c).2, sem_eq_zero_of_no_sems (by decide) _⟩) (Cert.NormReferenceIdeal.Prod.run m g),
    fun m g _ => Cert.Rows.Gen.frame m g, fun m g _ => Cert.RowsIdeal.Gen.frame m g,
    fun m g _ => (θ_run Cert.RowsReferenceIdeal.defs _ _).mono (fun _ h => ⟨fun c => (h c).2.2.2.2, sem_eq_zero_of_no_sems (by decide) _⟩) (Cert.RowsReferenceIdeal.Prod.run m g),
    fun m g _ => Cert.InSample.Gen.frame m g, fun m g _ => Cert.InSampleIdeal.Gen.frame m g,
    fun m g _ => (θ_run Cert.InSampleReferenceIdeal.defs _ _).mono (fun _ h => ⟨fun c => (h c).2.2.2.2.2.2.2, sem_eq_zero_of_no_sems (by decide) _⟩) (Cert.InSampleReferenceIdeal.Prod.run m g),
    fun m g _ => Cert.FinSample.Gen.frame m g, fun m g _ => Cert.FinSampleIdeal.Gen.frame m g,
    fun m g _ => (θ_run Cert.FinSampleReferenceIdeal.defs _ _).mono (fun _ h => ⟨fun c => (h c).2, sem_eq_zero_of_no_sems (by decide) _⟩) (Cert.FinSampleReferenceIdeal.Prod.run m g),
    trivial, fun m g m' g' hp ha => ?_,
    trivial, fun m g m' g' _ ha => ?_, trivial, fun m g m' g' _ ha => ?_, trivial, fun m g m' g' _ ha => ?_,
    trivial, fun m g m' g' _ ha => ?_, trivial, fun m g m' g' _ ha => ?_, trivial, fun m g m' g' _ ha => ?_,
    trivial, fun m g m' g' _ ha => ?_, trivial, fun m g m' g' _ ha => ?_, trivial, fun m g m' g' _ ha => ?_⟩
  · exact (θ_run Cert.KernelIdeal.defs _ _).mono (fun _ h => ⟨fun c => (h.1 c).2, h.2⟩) (Cert.KernelIdeal.Run.run_main (F := Ideal) m g)
  · exact (θ_run Cert.KernelIdeal.defs _ _).mono (fun _ h => ⟨fun c => (h.1 c).2, h.2⟩) (Cert.KernelIdeal.Run.run_main (F := Ideal) m g)
  · exact (θ_run Cert.ReferenceIdeal.defs _ _).mono (fun _ h => ⟨fun c => (h.1 c).2, h.2⟩) (Cert.ReferenceIdeal.Att.run_main m g)
  · exact (θ_run Cert.ReferenceIdeal.defs _ _).mono (fun _ h => ⟨fun c => (h.1 c).2, h.2⟩) (Cert.ReferenceIdeal.Att.run_main m g)
  · refine ⟨_, (θ_run Cert.KernelIdeal.defs _ _).mono (fun _ h c => h.1 c) (Cert.KernelIdeal.Run.run_main (F := Ideal) m g), ?_⟩
    refine (θ_run Cert.ReferenceIdeal.defs _ _).mono (fun _ h c => ⟨(h.1 c).1.trans ?_, (h.1 c).2⟩) (Cert.ReferenceIdeal.Att.run_main m' g')
    haveI := Cert.Pre_scores_finite.facts
    obtain ⟨h0, h1⟩ := Cert.Pre_scores_finite.finite _ _ _ (hp c)
    rw [(ha c).1, (ha c).2.1, (ha c).2.2]
    exact results_eq _ _ _ h0 h1
  · refine ⟨_, Cert.UpIdeal.Prod.run m g, (θ_run Cert.UpReferenceIdeal.defs _ _).mono (fun _ h c => ⟨(h c).1.trans ?_, (h c).2⟩) (Cert.UpReferenceIdeal.Prod.run m' g')⟩
    rw [(ha c).1, (ha c).2]
  · refine ⟨_, Cert.DownIdeal.Prod.run m g, (θ_run Cert.DownReferenceIdeal.defs _ _).mono (fun _ h c => ⟨(h c).1.trans ?_, (h c).2⟩) (Cert.DownReferenceIdeal.Prod.run m' g')⟩
    rw [(ha c).1, (ha c).2]
  · refine ⟨_, Cert.MixOutIdeal.Prod.run m g, (θ_run Cert.MixOutReferenceIdeal.defs _ _).mono (fun _ h c => ⟨(h c).1.trans ?_, (h c).2⟩) (Cert.MixOutReferenceIdeal.Prod.run m' g')⟩
    rw [(ha c).1, (ha c).2]
  · refine ⟨_, _, _, _, _, _, _, Cert.InIdeal.Prod.run m g, (θ_run Cert.InReferenceIdeal.defs _ _).mono (fun _ h c => ?_) (Cert.InReferenceIdeal.Prod.run m' g')⟩
    have hc := h c
    rw [(ha c).1, (ha c).2] at hc ⊢
    exact hc
  · refine ⟨_, Cert.FinIdeal.Prod.run m g, (θ_run Cert.FinReferenceIdeal.defs _ _).mono (fun _ h c => ⟨(h c).1.trans ?_, (h c).2⟩) (Cert.FinReferenceIdeal.Prod.run m' g')⟩
    rw [(ha c).1, (ha c).2.1, (ha c).2.2]
  · refine ⟨_, Cert.NormIdeal.Prod.run m g, (θ_run Cert.NormReferenceIdeal.defs _ _).mono (fun _ h c => ⟨(h c).1.trans ?_, (h c).2⟩) (Cert.NormReferenceIdeal.Prod.run m' g')⟩
    rw [(ha c).1, (ha c).2.1, (ha c).2.2]
  · refine ⟨_, _, _, _, Cert.RowsIdeal.Prod.run m g, (θ_run Cert.RowsReferenceIdeal.defs _ _).mono (fun _ h c => ?_) (Cert.RowsReferenceIdeal.Prod.run m' g')⟩
    have hc := h c
    rw [(ha c).1, (ha c).2.1, (ha c).2.2.1, (ha c).2.2.2] at hc ⊢
    exact hc
  · refine ⟨_, _, _, _, _, _, _, Cert.InSampleIdeal.Prod.run m g, (θ_run Cert.InSampleReferenceIdeal.defs _ _).mono (fun _ h c => ?_) (Cert.InSampleReferenceIdeal.Prod.run m' g')⟩
    have hc := h c
    rw [(ha c).1, (ha c).2] at hc ⊢
    exact hc
  · refine ⟨_, Cert.FinSampleIdeal.Prod.run m g, (θ_run Cert.FinSampleReferenceIdeal.defs _ _).mono (fun _ h c => ?_) (Cert.FinSampleReferenceIdeal.Prod.run m' g')⟩
    have hc := h c
    rw [(ha c).1, (ha c).2.1, (ha c).2.2] at hc ⊢
    exact hc

end Cert.Proof

end
